-- ==== Defs.lean ====
def Pre_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![16, 1]⟩ ⟨2, ![512, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ algebraic_KernelIdeal_ReferenceIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x64 : Shape := ⟨2, ![256, 64]⟩
abbrev S16x1 : Shape := ⟨2, ![16, 1]⟩
abbrev S2x256x512 : Shape := ⟨3, ![2, 256, 512]⟩
abbrev S_ : Shape := ⟨0, ![]⟩

class Facts : Prop where
  bcast_S_S16x1 : S_.BroadcastsInDim S16x1 (![] : Fin 0 → Fin S16x1.rank)
  reducesTo_S16x1_S_d0_1 : S16x1.ReducesTo [0, 1] S_
  h_S_ : 0 < S_.numel

variable [Facts]

def fn {F : FTy → Type} [FloatOps F] (main_arg0 : FVec F S512x256 .f32) (main_arg1 : FVec F S256x64 .f32) (main_arg2 : IVec S16x1 32) (main_arg3 : FVec F S2x256x512 .f32) : IVec S_ 1 :=
  let main_c : IVec S_ 32 := constantI S_ 32 0#32
  let main_v0 : IVec S16x1 32 := broadcastInDim S16x1 ![] bcast_S_S16x1 main_c
  let main_v1 : IVec S16x1 1 := cmpi .sge main_arg2 main_v0
  let main_c_0 : IVec S_ 32 := constantI S_ 32 64#32
  let main_v2 : IVec S16x1 32 := broadcastInDim S16x1 ![] bcast_S_S16x1 main_c_0
  let main_v3 : IVec S16x1 1 := cmpi .slt main_arg2 main_v2
  let main_v4 : IVec S16x1 1 := andi main_v1 main_v3
  let main_c_1 : IVec S_ 1 := constantI S_ 1 1#1
  let main_v5 : IVec S_ 1 := (fun x v => Host.reduce IntOp.andi x v reducesTo_S16x1_S_d0_1 h_S_) main_v4 main_c_1
  main_v5
-- ==== Pre_routed_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x64 .f32) (main_arg2 : IVec S512x1 32) (main_arg3 : FVec F S64x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== KernelIdeal.lean ====
abbrev S512x256 : Shape := ⟨2, ![512, 256]⟩
abbrev S256x64 : Shape := ⟨2, ![256, 64]⟩
abbrev S16x1 : Shape := ⟨2, ![16, 1]⟩
abbrev S2x256x512 : Shape := ⟨3, ![2, 256, 512]⟩
abbrev S512x1 : Shape := ⟨2, ![512, 1]⟩
abbrev S16x512 : Shape := ⟨2, ![16, 512]⟩
abbrev S12 : Shape := ⟨1, ![12]⟩
abbrev S_ : Shape := ⟨0, ![]⟩
abbrev S512x64 : Shape := ⟨2, ![512, 64]⟩
abbrev S512x512 : Shape := ⟨2, ![512, 512]⟩
abbrev S512 : Shape := ⟨1, ![512]⟩
abbrev S512x16 : Shape := ⟨2, ![512, 16]⟩
abbrev S512x3 : Shape := ⟨2, ![512, 3]⟩
abbrev S16x3 : Shape := ⟨2, ![16, 3]⟩
abbrev S16x256 : Shape := ⟨2, ![16, 256]⟩
abbrev S8x256 : Shape := ⟨2, ![8, 256]⟩
abbrev S1x256x512 : Shape := ⟨3, ![1, 256, 512]⟩
abbrev S256x512 : Shape := ⟨2, ![256, 512]⟩
abbrev S8x512 : Shape := ⟨2, ![8, 512]⟩
abbrev S1x1 : Shape := ⟨2, ![1, 1]⟩
abbrev S1 : Shape := ⟨1, ![1]⟩
abbrev S1x512 : Shape := ⟨2, ![1, 512]⟩
abbrev S512x2 : Shape := ⟨2, ![512, 2]⟩
abbrev S16x2 : Shape := ⟨2, ![16, 2]⟩
abbrev S1x16x1 : Shape := ⟨3, ![1, 16, 1]⟩
abbrev S1x1x1 : Shape := ⟨3, ![1, 1, 1]⟩

abbrev nBuf : Space → Nat
  | .hbm => 6
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S16x1, .i32⟩
  | .hbm, ⟨3, _⟩ => ⟨S2x256x512, .f32⟩
  | .hbm, ⟨4, _⟩ => ⟨S512x1, .i32⟩
  | .hbm, ⟨5, _⟩ => ⟨S16x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S16x512, .f32⟩
  | .local _ .vmem, ⟨4, _⟩ => ⟨S16x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 2 27 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev ag0_recv_cw_0_ring : DmaSem sig := 0
abbrev ag0_recv_cw_0_partner : DmaSem sig := 1
abbrev ag0_recv_cw_1_ring : DmaSem sig := 2
abbrev ag0_recv_cw_1_partner : DmaSem sig := 3
abbrev ag0_recv_ccw_0_ring : DmaSem sig := 4
abbrev ag0_recv_ccw_0_partner : DmaSem sig := 5
abbrev ag0_recv_ccw_1_ring : DmaSem sig := 6
abbrev ag0_recv_ccw_1_partner : DmaSem sig := 7
abbrev ag0_send : DmaSem sig := 8
abbrev ag0_copy : DmaSem sig := 9
abbrev cc0_sem0_0 : DmaSem sig := 10
abbrev cc0_sem1_0 : DmaSem sig := 11
abbrev cc0_sem2_0 : DmaSem sig := 12
abbrev cc0_sem3_0 : DmaSem sig := 13
abbrev ag0_barrier : Sem sig := 0
abbrev barrier0 : Sem sig := 1

abbrev nD : Nat := 32
abbrev τ : Topo := Topo.v7x

variable {F : FTy → Type} [FloatOps F]

abbrev ag0_mem : Fin 1 × Fin 32 × Fin 1 → Dev nD := fun q => (![![0, 1, 2, 3, 4, 5, 6, 7, 8, 9, 10, 11, 12, 13, 14, 15, 16, 17, 18, 19, 20, 21, 22, 23, 24, 25, 26, 27, 28, 29, 30, 31]] : Fin 1 → Fin 32 → Dev nD) q.1 q.2.1
abbrev ag0_pos : Dev nD → Fin 1 × Fin 32 × Fin 1 := fun c => ((![0, 0, 0, 0, 0, 0, 0, 0, 0, 0, 0, 0, 0, 0, 0, 0, 0, 0, 0, 0, 0, 0, 0, 0, 0, 0, 0, 0, 0, 0, 0, 0] : Fin 32 → Fin 1) c, (![0, 1, 2, 3, 4, 5, 6, 7, 8, 9, 10, 11, 12, 13, 14, 15, 16, 17, 18, 19, 20, 21, 22, 23, 24, 25, 26, 27, 28, 29, 30, 31] : Fin 32 → Fin 32) c, 0)
abbrev ag0_recv : AllGather.Dir → AllGather.Parity → Bool → DmaSem sig := fun | .cw, 0, false => ag0_recv_cw_0_ring | .cw, 0, true => ag0_recv_cw_0_partner | .cw, 1, false => ag0_recv_cw_1_ring | .cw, 1, true => ag0_recv_cw_1_partner | .ccw, 0, false => ag0_recv_ccw_0_ring | .ccw, 0, true => ag0_recv_ccw_0_partner | .ccw, 1, false => ag0_recv_ccw_1_ring | .ccw, 1, true => ag0_recv_ccw_1_partner

abbrev grid0 : Pipeline.Grid := .none

def k0_dev1 : Nat :=
  let c0_i32_2 : BitVec 32 := 0#32
  let c0_i32 : BitVec 32 := 0#32
  let c1_i32_1 : BitVec 32 := 1#32
  let v5 : BitVec 32 := Scalar.muli c0_i32 c1_i32_1
  let v6 : BitVec 32 := Scalar.addi c0_i32_2 v5
  v6.toNat
def k0_dev2 : Nat :=
  let c0_i32_6 : BitVec 32 := 0#32
  let c1_i32_4 : BitVec 32 := 1#32
  let c1_i32_5 : BitVec 32 := 1#32
  let v7 : BitVec 32 := Scalar.muli c1_i32_4 c1_i32_5
  let v8 : BitVec 32 := Scalar.addi c0_i32_6 v7
  v8.toNat
def k0_dev3 : Nat :=
  let c0_i32_9 : BitVec 32 := 0#32
  let c2_i32 : BitVec 32 := 2#32
  let c1_i32_8 : BitVec 32 := 1#32
  let v9 : BitVec 32 := Scalar.muli c2_i32 c1_i32_8
  let v10 : BitVec 32 := Scalar.addi c0_i32_9 v9
  v10.toNat
def k0_dev4 : Nat :=
  let c0_i32_12 : BitVec 32 := 0#32
  let c3_i32 : BitVec 32 := 3#32
  let c1_i32_11 : BitVec 32 := 1#32
  let v11 : BitVec 32 := Scalar.muli c3_i32 c1_i32_11
  let v12 : BitVec 32 := Scalar.addi c0_i32_12 v11
  v12.toNat
def k0_dev5 : Nat :=
  let c0_i32_15 : BitVec 32 := 0#32
  let c4_i32 : BitVec 32 := 4#32
  let c1_i32_14 : BitVec 32 := 1#32
  let v13 : BitVec 32 := Scalar.muli c4_i32 c1_i32_14
  let v14 : BitVec 32 := Scalar.addi c0_i32_15 v13
  v14.toNat
def k0_dev6 : Nat :=
  let c0_i32_18 : BitVec 32 := 0#32
  let c5_i32 : BitVec 32 := 5#32
  let c1_i32_17 : BitVec 32 := 1#32
  let v15 : BitVec 32 := Scalar.muli c5_i32 c1_i32_17
  let v16 : BitVec 32 := Scalar.addi c0_i32_18 v15
  v16.toNat
def k0_dev7 : Nat :=
  let c0_i32_21 : BitVec 32 := 0#32
  let c6_i32 : BitVec 32 := 6#32
  let c1_i32_20 : BitVec 32 := 1#32
  let v17 : BitVec 32 := Scalar.muli c6_i32 c1_i32_20
  let v18 : BitVec 32 := Scalar.addi c0_i32_21 v17
  v18.toNat
def k0_dev8 : Nat :=
  let c0_i32_24 : BitVec 32 := 0#32
  let c7_i32 : BitVec 32 := 7#32
  let c1_i32_23 : BitVec 32 := 1#32
  let v19 : BitVec 32 := Scalar.muli c7_i32 c1_i32_23
  let v20 : BitVec 32 := Scalar.addi c0_i32_24 v19
  v20.toNat
def k0_dev9 : Nat :=
  let c0_i32_27 : BitVec 32 := 0#32
  let c8_i32 : BitVec 32 := 8#32
  let c1_i32_26 : BitVec 32 := 1#32
  let v21 : BitVec 32 := Scalar.muli c8_i32 c1_i32_26
  let v22 : BitVec 32 := Scalar.addi c0_i32_27 v21
  v22.toNat
def k0_dev10 : Nat :=
  let c0_i32_30 : BitVec 32 := 0#32
  let c9_i32 : BitVec 32 := 9#32
  let c1_i32_29 : BitVec 32 := 1#32
  let v23 : BitVec 32 := Scalar.muli c9_i32 c1_i32_29
  let v24 : BitVec 32 := Scalar.addi c0_i32_30 v23
  v24.toNat
def k0_dev11 : Nat :=
  let c0_i32_33 : BitVec 32 := 0#32
  let c10_i32 : BitVec 32 := 10#32
  let c1_i32_32 : BitVec 32 := 1#32
  let v25 : BitVec 32 := Scalar.muli c10_i32 c1_i32_32
  let v26 : BitVec 32 := Scalar.addi c0_i32_33 v25
  v26.toNat
def k0_dev12 : Nat :=
  let c0_i32_36 : BitVec 32 := 0#32
  let c11_i32 : BitVec 32 := 11#32
  let c1_i32_35 : BitVec 32 := 1#32
  let v27 : BitVec 32 := Scalar.muli c11_i32 c1_i32_35
  let v28 : BitVec 32 := Scalar.addi c0_i32_36 v27
  v28.toNat
def k0_dev13 : Nat :=
  let c0_i32_39 : BitVec 32 := 0#32
  let c12_i32 : BitVec 32 := 12#32
  let c1_i32_38 : BitVec 32 := 1#32
  let v29 : BitVec 32 := Scalar.muli c12_i32 c1_i32_38
  let v30 : BitVec 32 := Scalar.addi c0_i32_39 v29
  v30.toNat
def k0_dev14 : Nat :=
  let c0_i32_42 : BitVec 32 := 0#32
  let c13_i32 : BitVec 32 := 13#32
  let c1_i32_41 : BitVec 32 := 1#32
  let v31 : BitVec 32 := Scalar.muli c13_i32 c1_i32_41
  let v32 : BitVec 32 := Scalar.addi c0_i32_42 v31
  v32.toNat
def k0_dev15 : Nat :=
  let c0_i32_45 : BitVec 32 := 0#32
  let c14_i32 : BitVec 32 := 14#32
  let c1_i32_44 : BitVec 32 := 1#32
  let v33 : BitVec 32 := Scalar.muli c14_i32 c1_i32_44
  let v34 : BitVec 32 := Scalar.addi c0_i32_45 v33
  v34.toNat
def k0_dev16 : Nat :=
  let c0_i32_48 : BitVec 32 := 0#32
  let c15_i32 : BitVec 32 := 15#32
  let c1_i32_47 : BitVec 32 := 1#32
  let v35 : BitVec 32 := Scalar.muli c15_i32 c1_i32_47
  let v36 : BitVec 32 := Scalar.addi c0_i32_48 v35
  v36.toNat
def k0_dev17 : Nat :=
  let c0_i32_51 : BitVec 32 := 0#32
  let c16_i32 : BitVec 32 := 16#32
  let c1_i32_50 : BitVec 32 := 1#32
  let v37 : BitVec 32 := Scalar.muli c16_i32 c1_i32_50
  let v38 : BitVec 32 := Scalar.addi c0_i32_51 v37
  v38.toNat
def k0_dev18 : Nat :=
  let c0_i32_54 : BitVec 32 := 0#32
  let c17_i32 : BitVec 32 := 17#32
  let c1_i32_53 : BitVec 32 := 1#32
  let v39 : BitVec 32 := Scalar.muli c17_i32 c1_i32_53
  let v40 : BitVec 32 := Scalar.addi c0_i32_54 v39
  v40.toNat
def k0_dev19 : Nat :=
  let c0_i32_57 : BitVec 32 := 0#32
  let c18_i32 : BitVec 32 := 18#32
  let c1_i32_56 : BitVec 32 := 1#32
  let v41 : BitVec 32 := Scalar.muli c18_i32 c1_i32_56
  let v42 : BitVec 32 := Scalar.addi c0_i32_57 v41
  v42.toNat
def k0_dev20 : Nat :=
  let c0_i32_60 : BitVec 32 := 0#32
  let c19_i32 : BitVec 32 := 19#32
  let c1_i32_59 : BitVec 32 := 1#32
  let v43 : BitVec 32 := Scalar.muli c19_i32 c1_i32_59
  let v44 : BitVec 32 := Scalar.addi c0_i32_60 v43
  v44.toNat
def k0_dev21 : Nat :=
  let c0_i32_63 : BitVec 32 := 0#32
  let c20_i32 : BitVec 32 := 20#32
  let c1_i32_62 : BitVec 32 := 1#32
  let v45 : BitVec 32 := Scalar.muli c20_i32 c1_i32_62
  let v46 : BitVec 32 := Scalar.addi c0_i32_63 v45
  v46.toNat
def k0_dev22 : Nat :=
  let c0_i32_66 : BitVec 32 := 0#32
  let c21_i32 : BitVec 32 := 21#32
  let c1_i32_65 : BitVec 32 := 1#32
  let v47 : BitVec 32 := Scalar.muli c21_i32 c1_i32_65
  let v48 : BitVec 32 := Scalar.addi c0_i32_66 v47
  v48.toNat
def k0_dev23 : Nat :=
  let c0_i32_69 : BitVec 32 := 0#32
  let c22_i32 : BitVec 32 := 22#32
  let c1_i32_68 : BitVec 32 := 1#32
  let v49 : BitVec 32 := Scalar.muli c22_i32 c1_i32_68
  let v50 : BitVec 32 := Scalar.addi c0_i32_69 v49
  v50.toNat
def k0_dev24 : Nat :=
  let c0_i32_72 : BitVec 32 := 0#32
  let c23_i32 : BitVec 32 := 23#32
  let c1_i32_71 : BitVec 32 := 1#32
  let v51 : BitVec 32 := Scalar.muli c23_i32 c1_i32_71
  let v52 : BitVec 32 := Scalar.addi c0_i32_72 v51
  v52.toNat
def k0_dev25 : Nat :=
  let c0_i32_75 : BitVec 32 := 0#32
  let c24_i32 : BitVec 32 := 24#32
  let c1_i32_74 : BitVec 32 := 1#32
  let v53 : BitVec 32 := Scalar.muli c24_i32 c1_i32_74
  let v54 : BitVec 32 := Scalar.addi c0_i32_75 v53
  v54.toNat
def k0_dev26 : Nat :=
  let c0_i32_78 : BitVec 32 := 0#32
  let c25_i32 : BitVec 32 := 25#32
  let c1_i32_77 : BitVec 32 := 1#32
  let v55 : BitVec 32 := Scalar.muli c25_i32 c1_i32_77
  let v56 : BitVec 32 := Scalar.addi c0_i32_78 v55
  v56.toNat
def k0_dev27 : Nat :=
  let c0_i32_81 : BitVec 32 := 0#32
  let c26_i32 : BitVec 32 := 26#32
  let c1_i32_80 : BitVec 32 := 1#32
  let v57 : BitVec 32 := Scalar.muli c26_i32 c1_i32_80
  let v58 : BitVec 32 := Scalar.addi c0_i32_81 v57
  v58.toNat
def k0_dev28 : Nat :=
  let c0_i32_84 : BitVec 32 := 0#32
  let c27_i32 : BitVec 32 := 27#32
  let c1_i32_83 : BitVec 32 := 1#32
  let v59 : BitVec 32 := Scalar.muli c27_i32 c1_i32_83
  let v60 : BitVec 32 := Scalar.addi c0_i32_84 v59
  v60.toNat
def k0_dev29 : Nat :=
  let c0_i32_87 : BitVec 32 := 0#32
  let c28_i32 : BitVec 32 := 28#32
  let c1_i32_86 : BitVec 32 := 1#32
  let v61 : BitVec 32 := Scalar.muli c28_i32 c1_i32_86
  let v62 : BitVec 32 := Scalar.addi c0_i32_87 v61
  v62.toNat
def k0_dev30 : Nat :=
  let c0_i32_90 : BitVec 32 := 0#32
  let c29_i32 : BitVec 32 := 29#32
  let c1_i32_89 : BitVec 32 := 1#32
  let v63 : BitVec 32 := Scalar.muli c29_i32 c1_i32_89
  let v64 : BitVec 32 := Scalar.addi c0_i32_90 v63
  v64.toNat
def k0_dev31 : Nat :=
  let c0_i32_93 : BitVec 32 := 0#32
  let c30_i32 : BitVec 32 := 30#32
  let c1_i32_92 : BitVec 32 := 1#32
  let v65 : BitVec 32 := Scalar.muli c30_i32 c1_i32_92
  let v66 : BitVec 32 := Scalar.addi c0_i32_93 v65
  v66.toNat
def k0_dev32 : Nat :=
  let c0_i32_96 : BitVec 32 := 0#32
  let c31_i32 : BitVec 32 := 31#32
  let c1_i32_95 : BitVec 32 := 1#32
  let v67 : BitVec 32 := Scalar.muli c31_i32 c1_i32_95
  let v68 : BitVec 32 := Scalar.addi c0_i32_96 v67
  v68.toNat
def k0_off1 (v206 : BitVec 32) : Fin 2 → Nat :=
  let c0_i32_241 : BitVec 32 := 0#32
  ![v206.toNat, 0]
def k0_cond1 (d0 : Dev nD) (v200 : BitVec 1) (v203 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 1 := Scalar.cmpi .ne v203 v2
  let v208 : BitVec 1 := Scalar.andi v200 v207
  let v211 : BitVec 32 := Scalar.extui v208
  let c0_i32_143 : BitVec 32 := 0#32
  let v212 : BitVec 1 := Scalar.cmpi .ne v211 c0_i32_143
  v212

def k0_dev33 (v203 : BitVec 32) : Nat :=
  let c0_i32_240 : BitVec 32 := 0#32
  let c1_i32_239 : BitVec 32 := 1#32
  let v560 : BitVec 32 := Scalar.muli v203 c1_i32_239
  let v561 : BitVec 32 := Scalar.addi c0_i32_240 v560
  v561.toNat

def k0_chk2 (d0 : Dev nD) (v200 : BitVec 1) (v203 : BitVec 32) : Prop :=
  (∀ (k0_h1 : k0_cond1 d0 v200 v203 = 1#1), (k0_dev33 v203) < nD)
theorem k0_dev33_lt : ∀ (d0 : Dev nD) (v200 : BitVec 1) (v203 : BitVec 32) (k0_hw2 : k0_chk2 d0 v200 v203), ∀ (k0_h1 : k0_cond1 d0 v200 v203 = 1#1), (k0_dev33 v203) < nD := fun d0 v200 v203 k0_hw2 k0_h1 => k0_hw2 k0_h1

def k0_off2 (v206 : BitVec 32) : Fin 2 → Nat :=
  let v561 : Index := Scalar.indexCast v206
  let c0_240 : Index := 0#32
  ![v561.toNat, 0]
def k0_cond2 (d0 : Dev nD) (v200 : BitVec 1) (v203 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v209 : BitVec 1 := Scalar.cmpi .eq v203 v2
  let v210 : BitVec 1 := Scalar.andi v200 v209
  let v213 : BitVec 32 := Scalar.extui v210
  let c0_i32_144 : BitVec 32 := 0#32
  let v214 : BitVec 1 := Scalar.cmpi .ne v213 c0_i32_144
  v214

def k0_chk1 (d0 : Dev nD) (v200 : BitVec 1) (v203 : BitVec 32) (v206 : BitVec 32) : Prop :=
  (∀ (k0_h1 : k0_cond1 d0 v200 v203 = 1#1), ∀ a, (k0_off1 v206) a + S1x512.size a ≤ S16x512.size a) ∧
  (∀ (k0_h2 : k0_cond2 d0 v200 v203 = 1#1), ∀ a, (k0_off2 v206) a + S1x512.size a ≤ S16x512.size a)
theorem k0_off1_inb : ∀ (d0 : Dev nD) (v200 : BitVec 1) (v203 : BitVec 32) (v206 : BitVec 32) (k0_hw1 : k0_chk1 d0 v200 v203 v206), ∀ (k0_h1 : k0_cond1 d0 v200 v203 = 1#1), ∀ a, (k0_off1 v206) a + S1x512.size a ≤ S16x512.size a := fun d0 v200 v203 v206 k0_hw1 k0_h1 => k0_hw1.1 k0_h1
theorem k0_off2_inb : ∀ (d0 : Dev nD) (v200 : BitVec 1) (v203 : BitVec 32) (v206 : BitVec 32) (k0_hw1 : k0_chk1 d0 v200 v203 v206), ∀ (k0_h2 : k0_cond2 d0 v200 v203 = 1#1), ∀ a, (k0_off2 v206) a + S1x512.size a ≤ S16x512.size a := fun d0 v200 v203 v206 k0_hw1 k0_h2 => k0_hw1.2 k0_h2

def k0_off3 (v223 : BitVec 32) : Fin 2 → Nat :=
  let c0_i32_241 : BitVec 32 := 0#32
  ![v223.toNat, 0]
def k0_cond3 (d0 : Dev nD) (v217 : BitVec 1) (v220 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v224 : BitVec 1 := Scalar.cmpi .ne v220 v2
  let v225 : BitVec 1 := Scalar.andi v217 v224
  let v228 : BitVec 32 := Scalar.extui v225
  let c0_i32_146 : BitVec 32 := 0#32
  let v229 : BitVec 1 := Scalar.cmpi .ne v228 c0_i32_146
  v229

def k0_dev34 (v220 : BitVec 32) : Nat :=
  let c0_i32_240 : BitVec 32 := 0#32
  let c1_i32_239 : BitVec 32 := 1#32
  let v560 : BitVec 32 := Scalar.muli v220 c1_i32_239
  let v561 : BitVec 32 := Scalar.addi c0_i32_240 v560
  v561.toNat

def k0_chk4 (d0 : Dev nD) (v217 : BitVec 1) (v220 : BitVec 32) : Prop :=
  (∀ (k0_h3 : k0_cond3 d0 v217 v220 = 1#1), (k0_dev34 v220) < nD)
theorem k0_dev34_lt : ∀ (d0 : Dev nD) (v217 : BitVec 1) (v220 : BitVec 32) (k0_hw4 : k0_chk4 d0 v217 v220), ∀ (k0_h3 : k0_cond3 d0 v217 v220 = 1#1), (k0_dev34 v220) < nD := fun d0 v217 v220 k0_hw4 k0_h3 => k0_hw4 k0_h3

def k0_off4 (v223 : BitVec 32) : Fin 2 → Nat :=
  let v561 : Index := Scalar.indexCast v223
  let c0_240 : Index := 0#32
  ![v561.toNat, 0]
def k0_cond4 (d0 : Dev nD) (v217 : BitVec 1) (v220 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v226 : BitVec 1 := Scalar.cmpi .eq v220 v2
  let v227 : BitVec 1 := Scalar.andi v217 v226
  let v230 : BitVec 32 := Scalar.extui v227
  let c0_i32_147 : BitVec 32 := 0#32
  let v231 : BitVec 1 := Scalar.cmpi .ne v230 c0_i32_147
  v231

def k0_chk3 (d0 : Dev nD) (v217 : BitVec 1) (v220 : BitVec 32) (v223 : BitVec 32) : Prop :=
  (∀ (k0_h3 : k0_cond3 d0 v217 v220 = 1#1), ∀ a, (k0_off3 v223) a + S1x512.size a ≤ S16x512.size a) ∧
  (∀ (k0_h4 : k0_cond4 d0 v217 v220 = 1#1), ∀ a, (k0_off4 v223) a + S1x512.size a ≤ S16x512.size a)
theorem k0_off3_inb : ∀ (d0 : Dev nD) (v217 : BitVec 1) (v220 : BitVec 32) (v223 : BitVec 32) (k0_hw3 : k0_chk3 d0 v217 v220 v223), ∀ (k0_h3 : k0_cond3 d0 v217 v220 = 1#1), ∀ a, (k0_off3 v223) a + S1x512.size a ≤ S16x512.size a := fun d0 v217 v220 v223 k0_hw3 k0_h3 => k0_hw3.1 k0_h3
theorem k0_off4_inb : ∀ (d0 : Dev nD) (v217 : BitVec 1) (v220 : BitVec 32) (v223 : BitVec 32) (k0_hw3 : k0_chk3 d0 v217 v220 v223), ∀ (k0_h4 : k0_cond4 d0 v217 v220 = 1#1), ∀ a, (k0_off4 v223) a + S1x512.size a ≤ S16x512.size a := fun d0 v217 v220 v223 k0_hw3 k0_h4 => k0_hw3.2 k0_h4

def k0_off5 (v240 : BitVec 32) : Fin 2 → Nat :=
  let c0_i32_241 : BitVec 32 := 0#32
  ![v240.toNat, 0]
def k0_cond5 (d0 : Dev nD) (v234 : BitVec 1) (v237 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v241 : BitVec 1 := Scalar.cmpi .ne v237 v2
  let v242 : BitVec 1 := Scalar.andi v234 v241
  let v245 : BitVec 32 := Scalar.extui v242
  let c0_i32_149 : BitVec 32 := 0#32
  let v246 : BitVec 1 := Scalar.cmpi .ne v245 c0_i32_149
  v246

def k0_dev35 (v237 : BitVec 32) : Nat :=
  let c0_i32_240 : BitVec 32 := 0#32
  let c1_i32_239 : BitVec 32 := 1#32
  let v560 : BitVec 32 := Scalar.muli v237 c1_i32_239
  let v561 : BitVec 32 := Scalar.addi c0_i32_240 v560
  v561.toNat

def k0_chk6 (d0 : Dev nD) (v234 : BitVec 1) (v237 : BitVec 32) : Prop :=
  (∀ (k0_h5 : k0_cond5 d0 v234 v237 = 1#1), (k0_dev35 v237) < nD)
theorem k0_dev35_lt : ∀ (d0 : Dev nD) (v234 : BitVec 1) (v237 : BitVec 32) (k0_hw6 : k0_chk6 d0 v234 v237), ∀ (k0_h5 : k0_cond5 d0 v234 v237 = 1#1), (k0_dev35 v237) < nD := fun d0 v234 v237 k0_hw6 k0_h5 => k0_hw6 k0_h5

def k0_off6 (v240 : BitVec 32) : Fin 2 → Nat :=
  let v561 : Index := Scalar.indexCast v240
  let c0_239 : Index := 0#32
  ![v561.toNat, 0]
def k0_cond6 (d0 : Dev nD) (v234 : BitVec 1) (v237 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v243 : BitVec 1 := Scalar.cmpi .eq v237 v2
  let v244 : BitVec 1 := Scalar.andi v234 v243
  let v247 : BitVec 32 := Scalar.extui v244
  let c0_i32_150 : BitVec 32 := 0#32
  let v248 : BitVec 1 := Scalar.cmpi .ne v247 c0_i32_150
  v248

def k0_chk5 (d0 : Dev nD) (v234 : BitVec 1) (v237 : BitVec 32) (v240 : BitVec 32) : Prop :=
  (∀ (k0_h5 : k0_cond5 d0 v234 v237 = 1#1), ∀ a, (k0_off5 v240) a + S1x512.size a ≤ S16x512.size a) ∧
  (∀ (k0_h6 : k0_cond6 d0 v234 v237 = 1#1), ∀ a, (k0_off6 v240) a + S1x512.size a ≤ S16x512.size a)
theorem k0_off5_inb : ∀ (d0 : Dev nD) (v234 : BitVec 1) (v237 : BitVec 32) (v240 : BitVec 32) (k0_hw5 : k0_chk5 d0 v234 v237 v240), ∀ (k0_h5 : k0_cond5 d0 v234 v237 = 1#1), ∀ a, (k0_off5 v240) a + S1x512.size a ≤ S16x512.size a := fun d0 v234 v237 v240 k0_hw5 k0_h5 => k0_hw5.1 k0_h5
theorem k0_off6_inb : ∀ (d0 : Dev nD) (v234 : BitVec 1) (v237 : BitVec 32) (v240 : BitVec 32) (k0_hw5 : k0_chk5 d0 v234 v237 v240), ∀ (k0_h6 : k0_cond6 d0 v234 v237 = 1#1), ∀ a, (k0_off6 v240) a + S1x512.size a ≤ S16x512.size a := fun d0 v234 v237 v240 k0_hw5 k0_h6 => k0_hw5.2 k0_h6

def k0_off7 (v257 : BitVec 32) : Fin 2 → Nat :=
  let c0_i32_241 : BitVec 32 := 0#32
  ![v257.toNat, 0]
def k0_cond7 (d0 : Dev nD) (v251 : BitVec 1) (v254 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v258 : BitVec 1 := Scalar.cmpi .ne v254 v2
  let v259 : BitVec 1 := Scalar.andi v251 v258
  let v262 : BitVec 32 := Scalar.extui v259
  let c0_i32_152 : BitVec 32 := 0#32
  let v263 : BitVec 1 := Scalar.cmpi .ne v262 c0_i32_152
  v263

def k0_dev36 (v254 : BitVec 32) : Nat :=
  let c0_i32_240 : BitVec 32 := 0#32
  let c1_i32_239 : BitVec 32 := 1#32
  let v560 : BitVec 32 := Scalar.muli v254 c1_i32_239
  let v561 : BitVec 32 := Scalar.addi c0_i32_240 v560
  v561.toNat

def k0_chk8 (d0 : Dev nD) (v251 : BitVec 1) (v254 : BitVec 32) : Prop :=
  (∀ (k0_h7 : k0_cond7 d0 v251 v254 = 1#1), (k0_dev36 v254) < nD)
theorem k0_dev36_lt : ∀ (d0 : Dev nD) (v251 : BitVec 1) (v254 : BitVec 32) (k0_hw8 : k0_chk8 d0 v251 v254), ∀ (k0_h7 : k0_cond7 d0 v251 v254 = 1#1), (k0_dev36 v254) < nD := fun d0 v251 v254 k0_hw8 k0_h7 => k0_hw8 k0_h7

def k0_off8 (v257 : BitVec 32) : Fin 2 → Nat :=
  let v561 : Index := Scalar.indexCast v257
  let c0_239 : Index := 0#32
  ![v561.toNat, 0]
def k0_cond8 (d0 : Dev nD) (v251 : BitVec 1) (v254 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v260 : BitVec 1 := Scalar.cmpi .eq v254 v2
  let v261 : BitVec 1 := Scalar.andi v251 v260
  let v264 : BitVec 32 := Scalar.extui v261
  let c0_i32_153 : BitVec 32 := 0#32
  let v265 : BitVec 1 := Scalar.cmpi .ne v264 c0_i32_153
  v265

def k0_chk7 (d0 : Dev nD) (v251 : BitVec 1) (v254 : BitVec 32) (v257 : BitVec 32) : Prop :=
  (∀ (k0_h7 : k0_cond7 d0 v251 v254 = 1#1), ∀ a, (k0_off7 v257) a + S1x512.size a ≤ S16x512.size a) ∧
  (∀ (k0_h8 : k0_cond8 d0 v251 v254 = 1#1), ∀ a, (k0_off8 v257) a + S1x512.size a ≤ S16x512.size a)
theorem k0_off7_inb : ∀ (d0 : Dev nD) (v251 : BitVec 1) (v254 : BitVec 32) (v257 : BitVec 32) (k0_hw7 : k0_chk7 d0 v251 v254 v257), ∀ (k0_h7 : k0_cond7 d0 v251 v254 = 1#1), ∀ a, (k0_off7 v257) a + S1x512.size a ≤ S16x512.size a := fun d0 v251 v254 v257 k0_hw7 k0_h7 => k0_hw7.1 k0_h7
theorem k0_off8_inb : ∀ (d0 : Dev nD) (v251 : BitVec 1) (v254 : BitVec 32) (v257 : BitVec 32) (k0_hw7 : k0_chk7 d0 v251 v254 v257), ∀ (k0_h8 : k0_cond8 d0 v251 v254 = 1#1), ∀ a, (k0_off8 v257) a + S1x512.size a ≤ S16x512.size a := fun d0 v251 v254 v257 k0_hw7 k0_h8 => k0_hw7.2 k0_h8

def k0_off9 (v274 : BitVec 32) : Fin 2 → Nat :=
  let c0_i32_241 : BitVec 32 := 0#32
  ![v274.toNat, 0]
def k0_cond9 (d0 : Dev nD) (v268 : BitVec 1) (v271 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v275 : BitVec 1 := Scalar.cmpi .ne v271 v2
  let v276 : BitVec 1 := Scalar.andi v268 v275
  let v279 : BitVec 32 := Scalar.extui v276
  let c0_i32_155 : BitVec 32 := 0#32
  let v280 : BitVec 1 := Scalar.cmpi .ne v279 c0_i32_155
  v280

def k0_dev37 (v271 : BitVec 32) : Nat :=
  let c0_i32_240 : BitVec 32 := 0#32
  let c1_i32_239 : BitVec 32 := 1#32
  let v560 : BitVec 32 := Scalar.muli v271 c1_i32_239
  let v561 : BitVec 32 := Scalar.addi c0_i32_240 v560
  v561.toNat

def k0_chk10 (d0 : Dev nD) (v268 : BitVec 1) (v271 : BitVec 32) : Prop :=
  (∀ (k0_h9 : k0_cond9 d0 v268 v271 = 1#1), (k0_dev37 v271) < nD)
theorem k0_dev37_lt : ∀ (d0 : Dev nD) (v268 : BitVec 1) (v271 : BitVec 32) (k0_hw10 : k0_chk10 d0 v268 v271), ∀ (k0_h9 : k0_cond9 d0 v268 v271 = 1#1), (k0_dev37 v271) < nD := fun d0 v268 v271 k0_hw10 k0_h9 => k0_hw10 k0_h9

def k0_off10 (v274 : BitVec 32) : Fin 2 → Nat :=
  let v561 : Index := Scalar.indexCast v274
  let c0_239 : Index := 0#32
  ![v561.toNat, 0]
def k0_cond10 (d0 : Dev nD) (v268 : BitVec 1) (v271 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v277 : BitVec 1 := Scalar.cmpi .eq v271 v2
  let v278 : BitVec 1 := Scalar.andi v268 v277
  let v281 : BitVec 32 := Scalar.extui v278
  let c0_i32_156 : BitVec 32 := 0#32
  let v282 : BitVec 1 := Scalar.cmpi .ne v281 c0_i32_156
  v282

def k0_chk9 (d0 : Dev nD) (v268 : BitVec 1) (v271 : BitVec 32) (v274 : BitVec 32) : Prop :=
  (∀ (k0_h9 : k0_cond9 d0 v268 v271 = 1#1), ∀ a, (k0_off9 v274) a + S1x512.size a ≤ S16x512.size a) ∧
  (∀ (k0_h10 : k0_cond10 d0 v268 v271 = 1#1), ∀ a, (k0_off10 v274) a + S1x512.size a ≤ S16x512.size a)
theorem k0_off9_inb : ∀ (d0 : Dev nD) (v268 : BitVec 1) (v271 : BitVec 32) (v274 : BitVec 32) (k0_hw9 : k0_chk9 d0 v268 v271 v274), ∀ (k0_h9 : k0_cond9 d0 v268 v271 = 1#1), ∀ a, (k0_off9 v274) a + S1x512.size a ≤ S16x512.size a := fun d0 v268 v271 v274 k0_hw9 k0_h9 => k0_hw9.1 k0_h9
theorem k0_off10_inb : ∀ (d0 : Dev nD) (v268 : BitVec 1) (v271 : BitVec 32) (v274 : BitVec 32) (k0_hw9 : k0_chk9 d0 v268 v271 v274), ∀ (k0_h10 : k0_cond10 d0 v268 v271 = 1#1), ∀ a, (k0_off10 v274) a + S1x512.size a ≤ S16x512.size a := fun d0 v268 v271 v274 k0_hw9 k0_h10 => k0_hw9.2 k0_h10

def k0_off11 (v291 : BitVec 32) : Fin 2 → Nat :=
  let c0_i32_241 : BitVec 32 := 0#32
  ![v291.toNat, 0]
def k0_cond11 (d0 : Dev nD) (v285 : BitVec 1) (v288 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v292 : BitVec 1 := Scalar.cmpi .ne v288 v2
  let v293 : BitVec 1 := Scalar.andi v285 v292
  let v296 : BitVec 32 := Scalar.extui v293
  let c0_i32_158 : BitVec 32 := 0#32
  let v297 : BitVec 1 := Scalar.cmpi .ne v296 c0_i32_158
  v297

def k0_dev38 (v288 : BitVec 32) : Nat :=
  let c0_i32_240 : BitVec 32 := 0#32
  let c1_i32_239 : BitVec 32 := 1#32
  let v560 : BitVec 32 := Scalar.muli v288 c1_i32_239
  let v561 : BitVec 32 := Scalar.addi c0_i32_240 v560
  v561.toNat

def k0_chk12 (d0 : Dev nD) (v285 : BitVec 1) (v288 : BitVec 32) : Prop :=
  (∀ (k0_h11 : k0_cond11 d0 v285 v288 = 1#1), (k0_dev38 v288) < nD)
theorem k0_dev38_lt : ∀ (d0 : Dev nD) (v285 : BitVec 1) (v288 : BitVec 32) (k0_hw12 : k0_chk12 d0 v285 v288), ∀ (k0_h11 : k0_cond11 d0 v285 v288 = 1#1), (k0_dev38 v288) < nD := fun d0 v285 v288 k0_hw12 k0_h11 => k0_hw12 k0_h11

def k0_off12 (v291 : BitVec 32) : Fin 2 → Nat :=
  let v561 : Index := Scalar.indexCast v291
  let c0_239 : Index := 0#32
  ![v561.toNat, 0]
def k0_cond12 (d0 : Dev nD) (v285 : BitVec 1) (v288 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v294 : BitVec 1 := Scalar.cmpi .eq v288 v2
  let v295 : BitVec 1 := Scalar.andi v285 v294
  let v298 : BitVec 32 := Scalar.extui v295
  let c0_i32_159 : BitVec 32 := 0#32
  let v299 : BitVec 1 := Scalar.cmpi .ne v298 c0_i32_159
  v299

def k0_chk11 (d0 : Dev nD) (v285 : BitVec 1) (v288 : BitVec 32) (v291 : BitVec 32) : Prop :=
  (∀ (k0_h11 : k0_cond11 d0 v285 v288 = 1#1), ∀ a, (k0_off11 v291) a + S1x512.size a ≤ S16x512.size a) ∧
  (∀ (k0_h12 : k0_cond12 d0 v285 v288 = 1#1), ∀ a, (k0_off12 v291) a + S1x512.size a ≤ S16x512.size a)
theorem k0_off11_inb : ∀ (d0 : Dev nD) (v285 : BitVec 1) (v288 : BitVec 32) (v291 : BitVec 32) (k0_hw11 : k0_chk11 d0 v285 v288 v291), ∀ (k0_h11 : k0_cond11 d0 v285 v288 = 1#1), ∀ a, (k0_off11 v291) a + S1x512.size a ≤ S16x512.size a := fun d0 v285 v288 v291 k0_hw11 k0_h11 => k0_hw11.1 k0_h11
theorem k0_off12_inb : ∀ (d0 : Dev nD) (v285 : BitVec 1) (v288 : BitVec 32) (v291 : BitVec 32) (k0_hw11 : k0_chk11 d0 v285 v288 v291), ∀ (k0_h12 : k0_cond12 d0 v285 v288 = 1#1), ∀ a, (k0_off12 v291) a + S1x512.size a ≤ S16x512.size a := fun d0 v285 v288 v291 k0_hw11 k0_h12 => k0_hw11.2 k0_h12

def k0_off13 (v308 : BitVec 32) : Fin 2 → Nat :=
  let c0_i32_241 : BitVec 32 := 0#32
  ![v308.toNat, 0]
def k0_cond13 (d0 : Dev nD) (v302 : BitVec 1) (v305 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v309 : BitVec 1 := Scalar.cmpi .ne v305 v2
  let v310 : BitVec 1 := Scalar.andi v302 v309
  let v313 : BitVec 32 := Scalar.extui v310
  let c0_i32_161 : BitVec 32 := 0#32
  let v314 : BitVec 1 := Scalar.cmpi .ne v313 c0_i32_161
  v314

def k0_dev39 (v305 : BitVec 32) : Nat :=
  let c0_i32_240 : BitVec 32 := 0#32
  let c1_i32_239 : BitVec 32 := 1#32
  let v560 : BitVec 32 := Scalar.muli v305 c1_i32_239
  let v561 : BitVec 32 := Scalar.addi c0_i32_240 v560
  v561.toNat

def k0_chk14 (d0 : Dev nD) (v302 : BitVec 1) (v305 : BitVec 32) : Prop :=
  (∀ (k0_h13 : k0_cond13 d0 v302 v305 = 1#1), (k0_dev39 v305) < nD)
theorem k0_dev39_lt : ∀ (d0 : Dev nD) (v302 : BitVec 1) (v305 : BitVec 32) (k0_hw14 : k0_chk14 d0 v302 v305), ∀ (k0_h13 : k0_cond13 d0 v302 v305 = 1#1), (k0_dev39 v305) < nD := fun d0 v302 v305 k0_hw14 k0_h13 => k0_hw14 k0_h13

def k0_off14 (v308 : BitVec 32) : Fin 2 → Nat :=
  let v561 : Index := Scalar.indexCast v308
  let c0_240 : Index := 0#32
  ![v561.toNat, 0]
def k0_cond14 (d0 : Dev nD) (v302 : BitVec 1) (v305 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v311 : BitVec 1 := Scalar.cmpi .eq v305 v2
  let v312 : BitVec 1 := Scalar.andi v302 v311
  let v315 : BitVec 32 := Scalar.extui v312
  let c0_i32_162 : BitVec 32 := 0#32
  let v316 : BitVec 1 := Scalar.cmpi .ne v315 c0_i32_162
  v316

def k0_chk13 (d0 : Dev nD) (v302 : BitVec 1) (v305 : BitVec 32) (v308 : BitVec 32) : Prop :=
  (∀ (k0_h13 : k0_cond13 d0 v302 v305 = 1#1), ∀ a, (k0_off13 v308) a + S1x512.size a ≤ S16x512.size a) ∧
  (∀ (k0_h14 : k0_cond14 d0 v302 v305 = 1#1), ∀ a, (k0_off14 v308) a + S1x512.size a ≤ S16x512.size a)
theorem k0_off13_inb : ∀ (d0 : Dev nD) (v302 : BitVec 1) (v305 : BitVec 32) (v308 : BitVec 32) (k0_hw13 : k0_chk13 d0 v302 v305 v308), ∀ (k0_h13 : k0_cond13 d0 v302 v305 = 1#1), ∀ a, (k0_off13 v308) a + S1x512.size a ≤ S16x512.size a := fun d0 v302 v305 v308 k0_hw13 k0_h13 => k0_hw13.1 k0_h13
theorem k0_off14_inb : ∀ (d0 : Dev nD) (v302 : BitVec 1) (v305 : BitVec 32) (v308 : BitVec 32) (k0_hw13 : k0_chk13 d0 v302 v305 v308), ∀ (k0_h14 : k0_cond14 d0 v302 v305 = 1#1), ∀ a, (k0_off14 v308) a + S1x512.size a ≤ S16x512.size a := fun d0 v302 v305 v308 k0_hw13 k0_h14 => k0_hw13.2 k0_h14

def k0_off15 (v325 : BitVec 32) : Fin 2 → Nat :=
  let c0_i32_241 : BitVec 32 := 0#32
  ![v325.toNat, 0]
def k0_cond15 (d0 : Dev nD) (v319 : BitVec 1) (v322 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v326 : BitVec 1 := Scalar.cmpi .ne v322 v2
  let v327 : BitVec 1 := Scalar.andi v319 v326
  let v330 : BitVec 32 := Scalar.extui v327
  let c0_i32_164 : BitVec 32 := 0#32
  let v331 : BitVec 1 := Scalar.cmpi .ne v330 c0_i32_164
  v331

def k0_dev40 (v322 : BitVec 32) : Nat :=
  let c0_i32_240 : BitVec 32 := 0#32
  let c1_i32_239 : BitVec 32 := 1#32
  let v560 : BitVec 32 := Scalar.muli v322 c1_i32_239
  let v561 : BitVec 32 := Scalar.addi c0_i32_240 v560
  v561.toNat

def k0_chk16 (d0 : Dev nD) (v319 : BitVec 1) (v322 : BitVec 32) : Prop :=
  (∀ (k0_h15 : k0_cond15 d0 v319 v322 = 1#1), (k0_dev40 v322) < nD)
theorem k0_dev40_lt : ∀ (d0 : Dev nD) (v319 : BitVec 1) (v322 : BitVec 32) (k0_hw16 : k0_chk16 d0 v319 v322), ∀ (k0_h15 : k0_cond15 d0 v319 v322 = 1#1), (k0_dev40 v322) < nD := fun d0 v319 v322 k0_hw16 k0_h15 => k0_hw16 k0_h15

def k0_off16 (v325 : BitVec 32) : Fin 2 → Nat :=
  let v561 : Index := Scalar.indexCast v325
  let c0_239 : Index := 0#32
  ![v561.toNat, 0]
def k0_cond16 (d0 : Dev nD) (v319 : BitVec 1) (v322 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v328 : BitVec 1 := Scalar.cmpi .eq v322 v2
  let v329 : BitVec 1 := Scalar.andi v319 v328
  let v332 : BitVec 32 := Scalar.extui v329
  let c0_i32_165 : BitVec 32 := 0#32
  let v333 : BitVec 1 := Scalar.cmpi .ne v332 c0_i32_165
  v333

def k0_chk15 (d0 : Dev nD) (v319 : BitVec 1) (v322 : BitVec 32) (v325 : BitVec 32) : Prop :=
  (∀ (k0_h15 : k0_cond15 d0 v319 v322 = 1#1), ∀ a, (k0_off15 v325) a + S1x512.size a ≤ S16x512.size a) ∧
  (∀ (k0_h16 : k0_cond16 d0 v319 v322 = 1#1), ∀ a, (k0_off16 v325) a + S1x512.size a ≤ S16x512.size a)
theorem k0_off15_inb : ∀ (d0 : Dev nD) (v319 : BitVec 1) (v322 : BitVec 32) (v325 : BitVec 32) (k0_hw15 : k0_chk15 d0 v319 v322 v325), ∀ (k0_h15 : k0_cond15 d0 v319 v322 = 1#1), ∀ a, (k0_off15 v325) a + S1x512.size a ≤ S16x512.size a := fun d0 v319 v322 v325 k0_hw15 k0_h15 => k0_hw15.1 k0_h15
theorem k0_off16_inb : ∀ (d0 : Dev nD) (v319 : BitVec 1) (v322 : BitVec 32) (v325 : BitVec 32) (k0_hw15 : k0_chk15 d0 v319 v322 v325), ∀ (k0_h16 : k0_cond16 d0 v319 v322 = 1#1), ∀ a, (k0_off16 v325) a + S1x512.size a ≤ S16x512.size a := fun d0 v319 v322 v325 k0_hw15 k0_h16 => k0_hw15.2 k0_h16

def k0_off17 (v342 : BitVec 32) : Fin 2 → Nat :=
  let c0_i32_241 : BitVec 32 := 0#32
  ![v342.toNat, 0]
def k0_cond17 (d0 : Dev nD) (v336 : BitVec 1) (v339 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v343 : BitVec 1 := Scalar.cmpi .ne v339 v2
  let v344 : BitVec 1 := Scalar.andi v336 v343
  let v347 : BitVec 32 := Scalar.extui v344
  let c0_i32_167 : BitVec 32 := 0#32
  let v348 : BitVec 1 := Scalar.cmpi .ne v347 c0_i32_167
  v348

def k0_dev41 (v339 : BitVec 32) : Nat :=
  let c0_i32_240 : BitVec 32 := 0#32
  let c1_i32_239 : BitVec 32 := 1#32
  let v560 : BitVec 32 := Scalar.muli v339 c1_i32_239
  let v561 : BitVec 32 := Scalar.addi c0_i32_240 v560
  v561.toNat

def k0_chk18 (d0 : Dev nD) (v336 : BitVec 1) (v339 : BitVec 32) : Prop :=
  (∀ (k0_h17 : k0_cond17 d0 v336 v339 = 1#1), (k0_dev41 v339) < nD)
theorem k0_dev41_lt : ∀ (d0 : Dev nD) (v336 : BitVec 1) (v339 : BitVec 32) (k0_hw18 : k0_chk18 d0 v336 v339), ∀ (k0_h17 : k0_cond17 d0 v336 v339 = 1#1), (k0_dev41 v339) < nD := fun d0 v336 v339 k0_hw18 k0_h17 => k0_hw18 k0_h17

def k0_off18 (v342 : BitVec 32) : Fin 2 → Nat :=
  let v561 : Index := Scalar.indexCast v342
  let c0_239 : Index := 0#32
  ![v561.toNat, 0]
def k0_cond18 (d0 : Dev nD) (v336 : BitVec 1) (v339 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v345 : BitVec 1 := Scalar.cmpi .eq v339 v2
  let v346 : BitVec 1 := Scalar.andi v336 v345
  let v349 : BitVec 32 := Scalar.extui v346
  let c0_i32_168 : BitVec 32 := 0#32
  let v350 : BitVec 1 := Scalar.cmpi .ne v349 c0_i32_168
  v350

def k0_chk17 (d0 : Dev nD) (v336 : BitVec 1) (v339 : BitVec 32) (v342 : BitVec 32) : Prop :=
  (∀ (k0_h17 : k0_cond17 d0 v336 v339 = 1#1), ∀ a, (k0_off17 v342) a + S1x512.size a ≤ S16x512.size a) ∧
  (∀ (k0_h18 : k0_cond18 d0 v336 v339 = 1#1), ∀ a, (k0_off18 v342) a + S1x512.size a ≤ S16x512.size a)
theorem k0_off17_inb : ∀ (d0 : Dev nD) (v336 : BitVec 1) (v339 : BitVec 32) (v342 : BitVec 32) (k0_hw17 : k0_chk17 d0 v336 v339 v342), ∀ (k0_h17 : k0_cond17 d0 v336 v339 = 1#1), ∀ a, (k0_off17 v342) a + S1x512.size a ≤ S16x512.size a := fun d0 v336 v339 v342 k0_hw17 k0_h17 => k0_hw17.1 k0_h17
theorem k0_off18_inb : ∀ (d0 : Dev nD) (v336 : BitVec 1) (v339 : BitVec 32) (v342 : BitVec 32) (k0_hw17 : k0_chk17 d0 v336 v339 v342), ∀ (k0_h18 : k0_cond18 d0 v336 v339 = 1#1), ∀ a, (k0_off18 v342) a + S1x512.size a ≤ S16x512.size a := fun d0 v336 v339 v342 k0_hw17 k0_h18 => k0_hw17.2 k0_h18

def k0_off19 (v359 : BitVec 32) : Fin 2 → Nat :=
  let c0_i32_241 : BitVec 32 := 0#32
  ![v359.toNat, 0]
def k0_cond19 (d0 : Dev nD) (v353 : BitVec 1) (v356 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v360 : BitVec 1 := Scalar.cmpi .ne v356 v2
  let v361 : BitVec 1 := Scalar.andi v353 v360
  let v364 : BitVec 32 := Scalar.extui v361
  let c0_i32_170 : BitVec 32 := 0#32
  let v365 : BitVec 1 := Scalar.cmpi .ne v364 c0_i32_170
  v365

def k0_dev42 (v356 : BitVec 32) : Nat :=
  let c0_i32_240 : BitVec 32 := 0#32
  let c1_i32_239 : BitVec 32 := 1#32
  let v560 : BitVec 32 := Scalar.muli v356 c1_i32_239
  let v561 : BitVec 32 := Scalar.addi c0_i32_240 v560
  v561.toNat

def k0_chk20 (d0 : Dev nD) (v353 : BitVec 1) (v356 : BitVec 32) : Prop :=
  (∀ (k0_h19 : k0_cond19 d0 v353 v356 = 1#1), (k0_dev42 v356) < nD)
theorem k0_dev42_lt : ∀ (d0 : Dev nD) (v353 : BitVec 1) (v356 : BitVec 32) (k0_hw20 : k0_chk20 d0 v353 v356), ∀ (k0_h19 : k0_cond19 d0 v353 v356 = 1#1), (k0_dev42 v356) < nD := fun d0 v353 v356 k0_hw20 k0_h19 => k0_hw20 k0_h19

def k0_off20 (v359 : BitVec 32) : Fin 2 → Nat :=
  let v561 : Index := Scalar.indexCast v359
  let c0_239 : Index := 0#32
  ![v561.toNat, 0]
def k0_cond20 (d0 : Dev nD) (v353 : BitVec 1) (v356 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v362 : BitVec 1 := Scalar.cmpi .eq v356 v2
  let v363 : BitVec 1 := Scalar.andi v353 v362
  let v366 : BitVec 32 := Scalar.extui v363
  let c0_i32_171 : BitVec 32 := 0#32
  let v367 : BitVec 1 := Scalar.cmpi .ne v366 c0_i32_171
  v367

def k0_chk19 (d0 : Dev nD) (v353 : BitVec 1) (v356 : BitVec 32) (v359 : BitVec 32) : Prop :=
  (∀ (k0_h19 : k0_cond19 d0 v353 v356 = 1#1), ∀ a, (k0_off19 v359) a + S1x512.size a ≤ S16x512.size a) ∧
  (∀ (k0_h20 : k0_cond20 d0 v353 v356 = 1#1), ∀ a, (k0_off20 v359) a + S1x512.size a ≤ S16x512.size a)
theorem k0_off19_inb : ∀ (d0 : Dev nD) (v353 : BitVec 1) (v356 : BitVec 32) (v359 : BitVec 32) (k0_hw19 : k0_chk19 d0 v353 v356 v359), ∀ (k0_h19 : k0_cond19 d0 v353 v356 = 1#1), ∀ a, (k0_off19 v359) a + S1x512.size a ≤ S16x512.size a := fun d0 v353 v356 v359 k0_hw19 k0_h19 => k0_hw19.1 k0_h19
theorem k0_off20_inb : ∀ (d0 : Dev nD) (v353 : BitVec 1) (v356 : BitVec 32) (v359 : BitVec 32) (k0_hw19 : k0_chk19 d0 v353 v356 v359), ∀ (k0_h20 : k0_cond20 d0 v353 v356 = 1#1), ∀ a, (k0_off20 v359) a + S1x512.size a ≤ S16x512.size a := fun d0 v353 v356 v359 k0_hw19 k0_h20 => k0_hw19.2 k0_h20

def k0_off21 (v376 : BitVec 32) : Fin 2 → Nat :=
  let c0_i32_241 : BitVec 32 := 0#32
  ![v376.toNat, 0]
def k0_cond21 (d0 : Dev nD) (v370 : BitVec 1) (v373 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v377 : BitVec 1 := Scalar.cmpi .ne v373 v2
  let v378 : BitVec 1 := Scalar.andi v370 v377
  let v381 : BitVec 32 := Scalar.extui v378
  let c0_i32_173 : BitVec 32 := 0#32
  let v382 : BitVec 1 := Scalar.cmpi .ne v381 c0_i32_173
  v382

def k0_dev43 (v373 : BitVec 32) : Nat :=
  let c0_i32_240 : BitVec 32 := 0#32
  let c1_i32_239 : BitVec 32 := 1#32
  let v560 : BitVec 32 := Scalar.muli v373 c1_i32_239
  let v561 : BitVec 32 := Scalar.addi c0_i32_240 v560
  v561.toNat

def k0_chk22 (d0 : Dev nD) (v370 : BitVec 1) (v373 : BitVec 32) : Prop :=
  (∀ (k0_h21 : k0_cond21 d0 v370 v373 = 1#1), (k0_dev43 v373) < nD)
theorem k0_dev43_lt : ∀ (d0 : Dev nD) (v370 : BitVec 1) (v373 : BitVec 32) (k0_hw22 : k0_chk22 d0 v370 v373), ∀ (k0_h21 : k0_cond21 d0 v370 v373 = 1#1), (k0_dev43 v373) < nD := fun d0 v370 v373 k0_hw22 k0_h21 => k0_hw22 k0_h21

def k0_off22 (v376 : BitVec 32) : Fin 2 → Nat :=
  let v561 : Index := Scalar.indexCast v376
  let c0_239 : Index := 0#32
  ![v561.toNat, 0]
def k0_cond22 (d0 : Dev nD) (v370 : BitVec 1) (v373 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v379 : BitVec 1 := Scalar.cmpi .eq v373 v2
  let v380 : BitVec 1 := Scalar.andi v370 v379
  let v383 : BitVec 32 := Scalar.extui v380
  let c0_i32_174 : BitVec 32 := 0#32
  let v384 : BitVec 1 := Scalar.cmpi .ne v383 c0_i32_174
  v384

def k0_chk21 (d0 : Dev nD) (v370 : BitVec 1) (v373 : BitVec 32) (v376 : BitVec 32) : Prop :=
  (∀ (k0_h21 : k0_cond21 d0 v370 v373 = 1#1), ∀ a, (k0_off21 v376) a + S1x512.size a ≤ S16x512.size a) ∧
  (∀ (k0_h22 : k0_cond22 d0 v370 v373 = 1#1), ∀ a, (k0_off22 v376) a + S1x512.size a ≤ S16x512.size a)
theorem k0_off21_inb : ∀ (d0 : Dev nD) (v370 : BitVec 1) (v373 : BitVec 32) (v376 : BitVec 32) (k0_hw21 : k0_chk21 d0 v370 v373 v376), ∀ (k0_h21 : k0_cond21 d0 v370 v373 = 1#1), ∀ a, (k0_off21 v376) a + S1x512.size a ≤ S16x512.size a := fun d0 v370 v373 v376 k0_hw21 k0_h21 => k0_hw21.1 k0_h21
theorem k0_off22_inb : ∀ (d0 : Dev nD) (v370 : BitVec 1) (v373 : BitVec 32) (v376 : BitVec 32) (k0_hw21 : k0_chk21 d0 v370 v373 v376), ∀ (k0_h22 : k0_cond22 d0 v370 v373 = 1#1), ∀ a, (k0_off22 v376) a + S1x512.size a ≤ S16x512.size a := fun d0 v370 v373 v376 k0_hw21 k0_h22 => k0_hw21.2 k0_h22

def k0_off23 (v393 : BitVec 32) : Fin 2 → Nat :=
  let c0_i32_241 : BitVec 32 := 0#32
  ![v393.toNat, 0]
def k0_cond23 (d0 : Dev nD) (v387 : BitVec 1) (v390 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v394 : BitVec 1 := Scalar.cmpi .ne v390 v2
  let v395 : BitVec 1 := Scalar.andi v387 v394
  let v398 : BitVec 32 := Scalar.extui v395
  let c0_i32_176 : BitVec 32 := 0#32
  let v399 : BitVec 1 := Scalar.cmpi .ne v398 c0_i32_176
  v399

def k0_dev44 (v390 : BitVec 32) : Nat :=
  let c0_i32_240 : BitVec 32 := 0#32
  let c1_i32_239 : BitVec 32 := 1#32
  let v560 : BitVec 32 := Scalar.muli v390 c1_i32_239
  let v561 : BitVec 32 := Scalar.addi c0_i32_240 v560
  v561.toNat

def k0_chk24 (d0 : Dev nD) (v387 : BitVec 1) (v390 : BitVec 32) : Prop :=
  (∀ (k0_h23 : k0_cond23 d0 v387 v390 = 1#1), (k0_dev44 v390) < nD)
theorem k0_dev44_lt : ∀ (d0 : Dev nD) (v387 : BitVec 1) (v390 : BitVec 32) (k0_hw24 : k0_chk24 d0 v387 v390), ∀ (k0_h23 : k0_cond23 d0 v387 v390 = 1#1), (k0_dev44 v390) < nD := fun d0 v387 v390 k0_hw24 k0_h23 => k0_hw24 k0_h23

def k0_off24 (v393 : BitVec 32) : Fin 2 → Nat :=
  let v561 : Index := Scalar.indexCast v393
  let c0_239 : Index := 0#32
  ![v561.toNat, 0]
def k0_cond24 (d0 : Dev nD) (v387 : BitVec 1) (v390 : BitVec 32) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v396 : BitVec 1 := Scalar.cmpi .eq v390 v2
  let v397 : BitVec 1 := Scalar.andi v387 v396
  let v400 : BitVec 32 := Scalar.extui v397
  let c0_i32_177 : BitVec 32 := 0#32
  let v401 : BitVec 1 := Scalar.cmpi .ne v400 c0_i32_177
  v401

def k0_chk23 (d0 : Dev nD) (v387 : BitVec 1) (v390 : BitVec 32) (v393 : BitVec 32) : Prop :=
  (∀ (k0_h23 : k0_cond23 d0 v387 v390 = 1#1), ∀ a, (k0_off23 v393) a + S1x512.size a ≤ S16x512.size a) ∧
  (∀ (k0_h24 : k0_cond24 d0 v387 v390 = 1#1), ∀ a, (k0_off24 v393) a + S1x512.size a ≤ S16x512.size a)
theorem k0_off23_inb : ∀ (d0 : Dev nD) (v387 : BitVec 1) (v390 : BitVec 32) (v393 : BitVec 32) (k0_hw23 : k0_chk23 d0 v387 v390 v393), ∀ (k0_h23 : k0_cond23 d0 v387 v390 = 1#1), ∀ a, (k0_off23 v393) a + S1x512.size a ≤ S16x512.size a := fun d0 v387 v390 v393 k0_hw23 k0_h23 => k0_hw23.1 k0_h23
theorem k0_off24_inb : ∀ (d0 : Dev nD) (v387 : BitVec 1) (v390 : BitVec 32) (v393 : BitVec 32) (k0_hw23 : k0_chk23 d0 v387 v390 v393), ∀ (k0_h24 : k0_cond24 d0 v387 v390 = 1#1), ∀ a, (k0_off24 v393) a + S1x512.size a ≤ S16x512.size a := fun d0 v387 v390 v393 k0_hw23 k0_h24 => k0_hw23.2 k0_h24

@[reducible] def k0_t1_loop (v450 : BitVec 32) : Scf.Loop 32 :=
  let c0_i32_222 : BitVec 32 := 0#32
  let v531 : BitVec 32 := Scalar.subi v450 c0_i32_222
  let c1_i32_223 : BitVec 32 := 1#32
  let v533 : BitVec 32 := Scalar.divsi v531 c1_i32_223
  let v534 : BitVec 32 := Scalar.muli v533 c1_i32_223
  let v535 : BitVec 32 := Scalar.addi c0_i32_222 v534
  let c1_i32_224 : BitVec 32 := 1#32
  ⟨c0_i32_222, v535, c1_i32_224⟩

@[reducible] def k0_t2_loop (v450 : BitVec 32) : Scf.Loop 32 :=
  let c0_i32_222 : BitVec 32 := 0#32
  let v531 : BitVec 32 := Scalar.subi v450 c0_i32_222
  let c1_i32_223 : BitVec 32 := 1#32
  let v533 : BitVec 32 := Scalar.divsi v531 c1_i32_223
  let v534 : BitVec 32 := Scalar.muli v533 c1_i32_223
  let v535 : BitVec 32 := Scalar.addi c0_i32_222 v534
  let v532 : BitVec 32 := Scalar.addi c0_i32_222 v531
  let c1_i32_225 : BitVec 32 := 1#32
  ⟨v535, v532, c1_i32_225⟩

def k0_chk25 (v450 : BitVec 32) : Prop :=
  ((k0_t1_loop v450).OK) ∧
  ((k0_t2_loop v450).OK)
theorem k0_t1_ok : ∀ (v450 : BitVec 32) (k0_hw25 : k0_chk25 v450), (k0_t1_loop v450).OK := fun v450 k0_hw25 => k0_hw25.1
theorem k0_t2_ok : ∀ (v450 : BitVec 32) (k0_hw25 : k0_chk25 v450), (k0_t2_loop v450).OK := fun v450 k0_hw25 => k0_hw25.2

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S64 : Shape := ⟨1, ![64]⟩
abbrev S64x1 : Shape := ⟨2, ![64, 1]⟩
abbrev S64x512 : Shape := ⟨2, ![64, 512]⟩
abbrev S64x512x512 : Shape := ⟨3, ![64, 512, 512]⟩
abbrev S64x512x1 : Shape := ⟨3, ![64, 512, 1]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S64, .i32⟩
  | .hbm, ⟨21, _⟩ => ⟨S64x1, .i32⟩
  | .hbm, ⟨22, _⟩ => ⟨S1x512, .i32⟩
  | .hbm, ⟨23, _⟩ => ⟨S64x512, .i32⟩
  | .hbm, ⟨24, _⟩ => ⟨S64x512, .i32⟩
  | .hbm, ⟨25, _⟩ => ⟨S64x512, .i1⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S1x512, .i1⟩
  | .hbm, ⟨30, _⟩ => ⟨S64x512, .i1⟩
  | .hbm, ⟨31, _⟩ => ⟨S64x512, .i1⟩
  | .hbm, ⟨32, _⟩ => ⟨S64x512x512, .f32⟩
  | .hbm, ⟨33, _⟩ => ⟨S64x512x512, .f32⟩
  | .hbm, ⟨34, _⟩ => ⟨S64x512x1, .i1⟩
  | .hbm, ⟨35, _⟩ => ⟨S_, .f32⟩
  | .hbm, ⟨36, _⟩ => ⟨S_, .f32⟩
  | .hbm, ⟨37, _⟩ => ⟨S64x512x512, .i1⟩
  | .hbm, ⟨38, _⟩ => ⟨S64x512x512, .f32⟩
  | .hbm, ⟨39, _⟩ => ⟨S64x512x512, .f32⟩
  | .hbm, ⟨40, _⟩ => ⟨S_, .f32⟩
  | .hbm, ⟨41, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Route.lean ====
/-
  The routing as plain arithmetic: which rows an expert keeps, the slot of the owning device that holds a kept row, and the
  correspondence between the slots addressed to a device and that device's kept rows.
-/
module

public import Mathlib.Data.Fintype.Card
public import Mathlib.Data.Fintype.Prod
public import Mathlib.Order.Fin.Basic
public import Mathlib.Tactic.Linarith
public import Mathlib.Tactic.FinCases

@[expose] public section

noncomputable section

namespace Cert.Moe

open scoped Classical

/-- The earlier rows routed to row `n`'s expert, counted. -/
def rank (e : Fin 512 → ℕ) (n : Fin 512) : ℕ := (Finset.univ.filter fun m : Fin 512 => m < n ∧ e m = e n).card

/-- Row `n` is among the first six of its expert. -/
def kept (e : Fin 512 → ℕ) (n : Fin 512) : Prop := rank e n < 6

/-- Device `c`'s slot `k` (expert `2c + k/6`, place `k%6`) holds row `n`. -/
def At (e : Fin 512 → ℕ) (c : Fin 32) (k : Fin 12) (n : Fin 512) : Prop := e n = 2 * c.val + k.val / 6 ∧ rank e n = k.val % 6

/-- The device that holds result row `n`, and the row's place there. -/
def dest (n : Fin 512) : Fin 32 := ⟨n.val / 16, by omega⟩
def drow (n : Fin 512) : Fin 16 := ⟨n.val % 16, by omega⟩
/-- Result row `r` of device `d`. -/
def rowOf (d : Fin 32) (r : Fin 16) : Fin 512 := ⟨16 * d.val + r.val, by omega⟩

theorem rowOf_dest_drow (n : Fin 512) : rowOf (dest n) (drow n) = n := by
  apply Fin.ext; simp only [rowOf, dest, drow]; omega
theorem dest_rowOf (d : Fin 32) (r : Fin 16) : dest (rowOf d r) = d := by
  apply Fin.ext; simp only [rowOf, dest]; omega
theorem drow_rowOf (d : Fin 32) (r : Fin 16) : drow (rowOf d r) = r := by
  apply Fin.ext; simp only [rowOf, drow]; omega

/-- Among rows of one expert the count of earlier rows grows strictly. -/
theorem rank_lt {e : Fin 512 → ℕ} {m n : Fin 512} (h : m < n) (he : e m = e n) : rank e m < rank e n := by
  unfold rank
  apply Finset.card_lt_card
  rw [Finset.ssubset_iff_of_subset]
  · refine ⟨m, ?_, ?_⟩
    · simp only [Finset.mem_filter, Finset.mem_univ, true_and]; exact ⟨h, he⟩
    · simp only [Finset.mem_filter, Finset.mem_univ, true_and, not_and]; intro hh; exact absurd hh (lt_irrefl _)
  · intro x hx
    simp only [Finset.mem_filter, Finset.mem_univ, true_and] at hx ⊢
    exact ⟨hx.1.trans h, hx.2.trans he⟩

/-- A slot holds at most one row. -/
theorem At.row_unique {e : Fin 512 → ℕ} {c : Fin 32} {k : Fin 12} {m n : Fin 512} (hm : At e c k m) (hn : At e c k n) : m = n := by
  have he : e m = e n := hm.1.trans hn.1.symm
  have hr : rank e m = rank e n := hm.2.trans hn.2.symm
  rcases lt_trichotomy m n with h | h | h
  · have := rank_lt h he; omega
  · exact h
  · have := rank_lt h he.symm; omega

/-- A row is in at most one slot. -/
theorem At.slot_unique {e : Fin 512 → ℕ} {c c' : Fin 32} {k k' : Fin 12} {n : Fin 512} (h : At e c k n) (h' : At e c' k' n) : c = c' ∧ k = k' := by
  have h1 := h.1; have h2 := h.2; have h1' := h'.1; have h2' := h'.2
  constructor <;> apply Fin.ext <;> omega

theorem At.kept {e : Fin 512 → ℕ} {c : Fin 32} {k : Fin 12} {n : Fin 512} (h : At e c k n) : kept e n := by
  have := h.2; unfold Moe.kept; omega

theorem At.owner {e : Fin 512 → ℕ} {c : Fin 32} {k : Fin 12} {n : Fin 512} (h : At e c k n) : e n / 2 = c.val := by
  have := h.1; omega

/-- A kept row is in a slot. -/
theorem exists_At {e : Fin 512 → ℕ} (he : ∀ n, e n < 64) {n : Fin 512} (h : kept e n) : ∃ c k, At e c k n := by
  have h1 := he n; have h2 : rank e n < 6 := h
  exact ⟨⟨e n / 2, by omega⟩, ⟨6 * (e n % 2) + rank e n, by omega⟩, by constructor <;> dsimp only <;> omega⟩

/-- The row that device `c`'s slot `k` holds, if any. -/
def slotRow (e : Fin 512 → ℕ) (c : Fin 32) (k : Fin 12) : Option (Fin 512) := if h : ∃ n, At e c k n then some h.choose else none

theorem slotRow_some {e : Fin 512 → ℕ} {c : Fin 32} {k : Fin 12} {n : Fin 512} : slotRow e c k = some n ↔ At e c k n := by
  unfold slotRow
  by_cases h : ∃ n, At e c k n
  · rw [dif_pos h]
    constructor
    · intro hh; rw [← Option.some.inj hh]; exact h.choose_spec
    · intro hh; exact congrArg some (h.choose_spec.row_unique hh)
  · rw [dif_neg h]
    constructor
    · intro hh; cases hh
    · intro hh; exact absurd ⟨n, hh⟩ h

theorem slotRow_none {e : Fin 512 → ℕ} {c : Fin 32} {k : Fin 12} : slotRow e c k = none ↔ ∀ n, ¬At e c k n := by
  unfold slotRow
  by_cases h : ∃ n, At e c k n
  · rw [dif_pos h]
    constructor
    · intro hh; cases hh
    · intro hh; exact absurd h.choose_spec (hh _)
  · rw [dif_neg h]
    constructor
    · intro _ n hn; exact h ⟨n, hn⟩
    · intro _; rfl

/-- Slot `p` holds a row of device `d`'s result. -/
def Hits (e : Fin 512 → ℕ) (d : Fin 32) (p : Fin 32 × Fin 12) : Prop := ∃ n, slotRow e p.1 p.2 = some n ∧ dest n = d

/-- The place on its device of the row in slot `p` (0 for an empty slot). -/
def slotDrow (e : Fin 512 → ℕ) (p : Fin 32 × Fin 12) : Fin 16 := ((slotRow e p.1 p.2).map drow).getD 0

theorem slotDrow_eq {e : Fin 512 → ℕ} {p : Fin 32 × Fin 12} {n : Fin 512} (h : slotRow e p.1 p.2 = some n) : slotDrow e p = drow n := by
  unfold slotDrow; rw [h]; rfl

/-- The slots addressed to device `d`, those of other devices among them, and `d`'s kept rows. -/
def hits (e : Fin 512 → ℕ) (d : Fin 32) : Finset (Fin 32 × Fin 12) := Finset.univ.filter (Hits e d)
def arrivals (e : Fin 512 → ℕ) (d : Fin 32) : Finset (Fin 32 × Fin 12) := Finset.univ.filter fun p => Hits e d p ∧ p.1 ≠ d
def keptRows (e : Fin 512 → ℕ) (d : Fin 32) : Finset (Fin 16) := Finset.univ.filter fun r => kept e (rowOf d r)

theorem mem_hits {e : Fin 512 → ℕ} {d : Fin 32} {p : Fin 32 × Fin 12} : p ∈ hits e d ↔ ∃ n, slotRow e p.1 p.2 = some n ∧ dest n = d := by
  unfold hits; rw [Finset.mem_filter]; exact ⟨fun h => h.2, fun h => ⟨Finset.mem_univ _, h⟩⟩
theorem mem_arrivals {e : Fin 512 → ℕ} {d : Fin 32} {p : Fin 32 × Fin 12} : p ∈ arrivals e d ↔ (∃ n, slotRow e p.1 p.2 = some n ∧ dest n = d) ∧ p.1 ≠ d := by
  unfold arrivals; rw [Finset.mem_filter]; exact ⟨fun h => h.2, fun h => ⟨Finset.mem_univ _, h⟩⟩

/-- Two slots addressed to one device hold rows at different places. -/
theorem slotDrow_injOn (e : Fin 512 → ℕ) (d : Fin 32) : Set.InjOn (slotDrow e) (hits e d) := by
  intro p hp q hq h
  obtain ⟨n, hn, hd⟩ := mem_hits.mp hp
  obtain ⟨m, hm, hd'⟩ := mem_hits.mp hq
  rw [slotDrow_eq hn, slotDrow_eq hm] at h
  have hnm : n = m := by rw [← rowOf_dest_drow n, ← rowOf_dest_drow m, hd, hd', h]
  subst hnm
  obtain ⟨h1, h2⟩ := (slotRow_some.mp hn).slot_unique (slotRow_some.mp hm)
  exact Prod.ext h1 h2

/-- The rows in slots addressed to device `d` are `d`'s kept rows. -/
theorem hits_image {e : Fin 512 → ℕ} (he : ∀ n, e n < 64) (d : Fin 32) : (hits e d).image (slotDrow e) = keptRows e d := by
  ext r
  rw [Finset.mem_image]
  unfold keptRows
  rw [Finset.mem_filter]
  constructor
  · rintro ⟨p, hp, rfl⟩
    obtain ⟨n, hn, rfl⟩ := mem_hits.mp hp
    rw [slotDrow_eq hn, rowOf_dest_drow]
    exact ⟨Finset.mem_univ _, (slotRow_some.mp hn).kept⟩
  · rintro ⟨-, h⟩
    obtain ⟨c, k, hA⟩ := exists_At he h
    have hs : slotRow e (c, k).1 (c, k).2 = some (rowOf d r) := slotRow_some.mpr hA
    exact ⟨(c, k), mem_hits.mpr ⟨_, hs, dest_rowOf d r⟩, by rw [slotDrow_eq hs, drow_rowOf]⟩

/-- The arrivals counted by rows: kept rows of device `d` whose expert another device owns. -/
theorem card_arrivals {e : Fin 512 → ℕ} (he : ∀ n, e n < 64) (d : Fin 32) :
    (arrivals e d).card = (Finset.univ.filter fun r : Fin 16 => kept e (rowOf d r) ∧ e (rowOf d r) / 2 ≠ d.val).card := by
  have hsub : arrivals e d ⊆ hits e d := fun p hp => mem_hits.mpr (mem_arrivals.mp hp).1
  rw [← Finset.card_image_of_injOn ((slotDrow_injOn e d).mono (by exact_mod_cast hsub))]
  congr 1
  ext r
  rw [Finset.mem_image, Finset.mem_filter]
  constructor
  · rintro ⟨p, hp, rfl⟩
    obtain ⟨⟨n, hn, rfl⟩, hne⟩ := mem_arrivals.mp hp
    rw [slotDrow_eq hn, rowOf_dest_drow]
    refine ⟨Finset.mem_univ _, (slotRow_some.mp hn).kept, fun h => hne ?_⟩
    rw [(slotRow_some.mp hn).owner] at h
    exact Fin.ext h
  · rintro ⟨-, h, hne⟩
    obtain ⟨c, k, hA⟩ := exists_At he h
    have hs : slotRow e (c, k).1 (c, k).2 = some (rowOf d r) := slotRow_some.mpr hA
    refine ⟨(c, k), mem_arrivals.mpr ⟨⟨_, hs, dest_rowOf d r⟩, fun h' => hne ?_⟩, by rw [slotDrow_eq hs, drow_rowOf]⟩
    rw [hA.owner]; exact congrArg Fin.val h'

/-- Among its arrivals, the slots of device `c` addressed to `d`. -/
def fromTo (e : Fin 512 → ℕ) (c d : Fin 32) : Finset (Fin 12) := Finset.univ.filter fun k => Hits e d (c, k) ∧ c ≠ d

theorem mem_fromTo {e : Fin 512 → ℕ} {c d : Fin 32} {k : Fin 12} : k ∈ fromTo e c d ↔ (∃ n, slotRow e c k = some n ∧ dest n = d) ∧ c ≠ d := by
  unfold fromTo; rw [Finset.mem_filter]; exact ⟨fun h => h.2, fun h => ⟨Finset.mem_univ _, h⟩⟩

/-- Slot `k` of device `c` leaves for another device. -/
def Remote (e : Fin 512 → ℕ) (c : Fin 32) (k : Fin 12) : Prop := ∃ n, slotRow e c k = some n ∧ dest n ≠ c

/-- The place in the product buffer of slot `k`: six of each eight rows are used. -/
def slotY (k : Fin 12) : Fin 16 := ⟨8 * (k.val / 6) + k.val % 6, by omega⟩

theorem slotY_injective : Function.Injective slotY := by
  intro a b h
  have := congrArg Fin.val h
  simp only [slotY] at this
  apply Fin.ext; omega

end Cert.Moe

end
-- ==== Proof.Values.lean ====
/- What the kernel's routing arithmetic computes over the extended reals, in the terms of `Route`: the one-hot
   table, the running counts, the slot numbers, the slot table, the rows gathered for the experts and the
   number of rows a device receives. Everything is a function of the gathered expert numbers. -/
module

public import proofs.«01_k».proof.Proof.Gen.KernelIdeal.Skeleton
public import proofs.«01_k».proof.Proof.Route
public import Idealize.ShloMosaic.Lib.Pointwise
public import Idealize.ShloMosaic.Lib.IndicatorCount

@[expose] public section

noncomputable section

namespace Cert.Moe

open Idealize.ShloMosaic Cert.KernelIdeal Cert.KernelIdeal.Gen
open scoped Classical

/-- The expert of a row: the gathered word, as a number. -/
def expert (v : S512x1.Idx → BitVec 32) (n : Fin 512) : ℕ := (v (ix2 n 0)).toNat

/-! ## Words and indicators -/

/-- A one-bit word widened and read as a float is one or zero. -/
theorem ind_word (b : BitVec 1) : (FloatOps.sitofp (F := Ideal) .f32 (BitVec.setWidth 32 b) : EReal) = if b = 1#1 then 1 else 0 := by
  have : b = 0#1 ∨ b = 1#1 := by revert b; decide
  rcases this with rfl | rfl
  · show (((0#32 : BitVec 32).toInt : ℝ) : EReal) = _
    simp
  · show (((1#32 : BitVec 32).toInt : ℝ) : EReal) = _
    simp

/-- A compare for equality, as an indicator. -/
theorem cmpi_eq_word {w : ℕ} (a b : BitVec w) : IntOp.cmpi .eq a b = if a = b then 1#1 else 0#1 := by
  by_cases h : a = b
  · simp [IntOp.cmpi, h]
  · rw [if_neg h]
    show BitVec.ofBool (a == b) = 0#1
    rw [beq_eq_false_iff_ne.2 h]
    rfl

/-- Two small numbers are equal as words exactly when they are equal. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl
    rfl

theorem expert_word (v : S512x1.Idx → BitVec 32) (n : Fin 512) : v (ix2 n 0) = BitVec.ofNat 32 (expert v n) := by
  simp [expert]

theorem expert_lt_word (v : S512x1.Idx → BitVec 32) (n : Fin 512) : expert v n < 2 ^ 32 := (v (ix2 n 0)).isLt

theorem ite_bit {p : Prop} [Decidable p] : ((if p then 1#1 else 0#1) = 1#1) ↔ p := by
  by_cases h : p <;> simp [h]

theorem and_bit {p q : Prop} [Decidable p] [Decidable q] :
    IntOp.andi (if p then 1#1 else 0#1) (if q then 1#1 else 0#1) = if p ∧ q then 1#1 else 0#1 := by
  by_cases h : p <;> by_cases h' : q <;> simp [h, h', IntOp.andi]

theorem bool_bit {p : Prop} [Decidable p] : BitVec.ofBool (decide p) = if p then 1#1 else 0#1 := by
  by_cases h : p <;> simp [h]

theorem ofBits_six : Ideal.ofBits .f32 0x40C00000#32 = ((6 : ℕ) : EReal) := by
  simp [Ideal.ofBits, Ideal.ieee]
  rw [← EReal.coe_mul]
  norm_num
  rfl

theorem ofBits_half : Ideal.ofBits .f32 0x3F000000#32 = (((1 : ℝ) / 2 : ℝ) : EReal) := by
  simp [Ideal.ofBits, Ideal.ieee]
  rw [← EReal.coe_mul]
  norm_num

/-- A small natural read as a word. -/
theorem fptosi_nat {a : ℕ} (ha : a < 2 ^ 31) : Ideal.fptosi 32 ((a : ℕ) : EReal) = BitVec.ofNat 32 a := by
  have h : ((a : ℕ) : EReal) = ((a : ℝ) : EReal) := rfl
  rw [h]
  unfold Ideal.fptosi
  have : Ideal.toIntClamped (-(2 ^ (32 - 1) : Nat)) ((2 ^ (32 - 1) : Nat) - 1) ((a : ℝ) : EReal) = (a : ℤ) := by
    show max _ (min _ (if (0 : ℝ) ≤ (a : ℝ) then ⌊(a : ℝ)⌋ else ⌈(a : ℝ)⌉)) = _
    rw [if_pos (Nat.cast_nonneg a), Int.floor_natCast]
    push_cast
    omega
  rw [this]
  exact BitVec.ofInt_natCast 32 a

/-- A small word read as a float. -/
theorem sitofp_nat {a : ℕ} (ha : a < 2 ^ 31) : (FloatOps.sitofp (F := Ideal) .f32 (BitVec.ofNat 32 a) : EReal) = ((a : ℕ) : EReal) := by
  show (((BitVec.ofNat 32 a).toInt : ℝ) : EReal) = _
  have : (BitVec.ofNat 32 a).toInt = (a : ℤ) := by
    rw [BitVec.toInt_ofNat', Int.bmod_eq_of_le] <;> omega
  rw [this]
  rfl

theorem sum_pick {ι : Type} [Fintype ι] (p : ι → Prop) [DecidablePred p] (f : ι → EReal) (n : ι) (hn : p n) (hu : ∀ m, p m → m = n) :
    (∑ m, (if p m then 1 else 0) * f m) = f n := by
  rw [Finset.sum_eq_single n]
  · rw [if_pos hn, one_mul]
  · intro b _ hb
    rw [if_neg fun h => hb (hu b h), zero_mul]
  · intro h
    exact absurd (Finset.mem_univ n) h

theorem sum_none {ι : Type} [Fintype ι] (p : ι → Prop) [DecidablePred p] (f : ι → EReal) (hn : ∀ m, ¬p m) :
    (∑ m, (if p m then 1 else 0) * f m) = 0 :=
  Finset.sum_eq_zero fun m _ => by rw [if_neg (hn m), zero_mul]

/-! ## The counts -/

theorem onehot_apply (v : S512x1.Idx → BitVec 32) (n : Fin 512) (j : Fin 64) :
    k0_pay3 (F := Ideal) v (ix2 n j) = if expert v n = j.val then 1#1 else 0#1 := by
  pointwise [k0_pay3, k0_pay2]
  have hj := j.isLt
  rw [cmpi_eq_word, expert_word v n]
  simp only [ofNat_inj (show j.val < 2 ^ 32 by omega) (expert_lt_word v n)]
  simp only [eq_comm]

theorem tri_word (a b : Fin 512) : IntOp.cmpi .sle (BitVec.ofNat 32 a) (BitVec.ofNat 32 b) = if a ≤ b then 1#1 else 0#1 := by
  have ha := a.isLt
  have hb := b.isLt
  have h1 : (BitVec.ofNat 32 a.val).toInt = a.val := by
    rw [BitVec.toInt_ofNat', Int.bmod_eq_of_le] <;> omega
  have h2 : (BitVec.ofNat 32 b.val).toInt = b.val := by
    rw [BitVec.toInt_ofNat', Int.bmod_eq_of_le] <;> omega
  by_cases h : a ≤ b
  · simp [IntOp.cmpi, BitVec.sle, h1, h2, h]
  · simp [IntOp.cmpi, BitVec.sle, h1, h2, h]

/-- The rows up to a row with its expert are the earlier ones and the row itself. -/
theorem card_upTo (e : Fin 512 → ℕ) (n : Fin 512) : (Finset.univ.filter fun m : Fin 512 => m ≤ n ∧ e m = e n).card = rank e n + 1 := by
  have : (Finset.univ.filter fun m : Fin 512 => m ≤ n ∧ e m = e n) = insert n (Finset.univ.filter fun m : Fin 512 => m < n ∧ e m = e n) := by
    ext m
    simp only [Finset.mem_filter, Finset.mem_univ, true_and, Finset.mem_insert]
    constructor
    · rintro ⟨h, h'⟩
      rcases h.lt_or_eq with h | h
      · exact Or.inr ⟨h, h'⟩
      · exact Or.inl h
    · rintro (rfl | ⟨h, h'⟩)
      · exact ⟨le_rfl, rfl⟩
      · exact ⟨h.le, h'⟩
  rw [this, Finset.card_insert_of_notMem (by simp)]
  rfl

/-- The count at a row: one more than the earlier rows with its expert. -/
theorem count_apply (v : S512x1.Idx → BitVec 32) (he : ∀ n, expert v n < 64) (n : Fin 512) :
    k0_pay4 (F := Ideal) (k0_pay3 (F := Ideal) v) (ix2 n 0) = ((rank (expert v) n + 1 : ℕ) : EReal) := by
  pointwise [k0_pay4]
  simp only [ind_word, onehot_apply, tri_word, ite_bit]
  rw [Finset.sum_eq_single (⟨expert v n, he n⟩ : Fin 64)]
  · rw [if_pos rfl, mul_one, ← card_upTo, Finset.card_filter]
    push_cast
    refine Finset.sum_congr rfl fun m _ => ?_
    by_cases h : m ≤ n <;> by_cases h' : expert v m = expert v n <;> simp [h, h']
  · intro b _ hb
    rw [if_neg, mul_zero]
    exact fun h => hb (Fin.ext h.symm)
  · intro h
    exact absurd (Finset.mem_univ _) h

theorem rank_le (e : Fin 512 → ℕ) (n : Fin 512) : rank e n ≤ 512 := by
  have := Finset.card_le_univ (Finset.univ.filter fun m : Fin 512 => m < n ∧ e m = e n)
  simpa [rank] using this

/-- The keep flag. -/
theorem keep_apply (v : S512x1.Idx → BitVec 32) (he : ∀ n, expert v n < 64) (n : Fin 512) :
    k0_pay5 (F := Ideal) (k0_pay3 (F := Ideal) v) (ix2 n 0) = if kept (expert v) n then 1#1 else 0#1 := by
  pointwise [k0_pay5]
  rw [count_apply v he, ofBits_six, bool_bit]
  congr 1
  rw [Nat.cast_le]
  apply propext
  unfold kept
  omega

/-- The slot number of a row. -/
theorem slot_apply (v : S512x1.Idx → BitVec 32) (he : ∀ n, expert v n < 64) (n : Fin 512) :
    k0_pay6 (F := Ideal) (k0_pay2 (F := Ideal) v) (k0_pay3 (F := Ideal) v) (ix2 n 0)
      = if kept (expert v) n then BitVec.ofNat 32 (6 * expert v n + rank (expert v) n) else 4294967295#32 := by
  have hr := rank_le (expert v) n
  pointwise [k0_pay6, k0_pay2]
  rw [keep_apply v he, count_apply v he]
  by_cases h : kept (expert v) n
  · rw [if_pos h, if_pos h]
    have hf : FloatOps.fptosi (F := Ideal) (φ := .f32) 32 ((rank (expert v) n + 1 : ℕ) : EReal) = BitVec.ofNat 32 (rank (expert v) n + 1) := fptosi_nat (by omega)
    rw [hf, expert_word v n]
    show (BitVec.ofNat 32 (expert v n) * BitVec.ofNat 32 6 + BitVec.ofNat 32 (rank (expert v) n + 1)) - BitVec.ofNat 32 1 = _
    have := he n
    apply BitVec.eq_of_toNat_eq
    simp only [BitVec.toNat_sub, BitVec.toNat_add, BitVec.toNat_mul, BitVec.toNat_ofNat]
    omega
  · rw [if_neg h, if_neg h]
    rfl

/-- The local expert of a slot column. -/
theorem colExpert_apply (n : Fin 512) (k : Fin 12) : k0_pay7 (ix2 n (slotY k)) = BitVec.ofNat 32 (k.val / 6) := by
  pointwise [k0_pay7]
  revert k
  decide

/-- The selection of slot `k` of device `c`: a one at the row the slot takes. -/
theorem sel_apply (v : S512x1.Idx → BitVec 32) (he : ∀ n, expert v n < 64) (c : Fin 32) (n : Fin 512) (k : Fin 12) :
    k0_pay8 (F := Ideal) (BitVec.ofNat 32 c.val) (k0_pay6 (F := Ideal) (k0_pay2 (F := Ideal) v) (k0_pay3 (F := Ideal) v))
        (iota .tc S512x16 32 [1] iota_S512x16_d1_w32) k0_pay7 8#32 (ix2 n (slotY k))
      = if At (expert v) c k n then 1 else 0 := by
  have hr := rank_le (expert v) n
  have hc := c.isLt
  have hk := k.isLt
  have hm := he n
  pointwise [k0_pay8]
  rw [slot_apply v he, colExpert_apply]
  have hsel : ∀ k : Fin 12, (Scalar.select
                (IntOp.andi
                  (IntOp.xori
                    (IntOp.cmpi CmpIPredicate.slt
                      (IntOp.remsi ArithUnit.vector (BitVec.ofNat 32 (slotY k).val)
                        (Scalar.select (Scalar.cmpi CmpIPredicate.eq 8#32 0#32) 1#32 8#32))
                      0#32)
                    (Scalar.cmpi CmpIPredicate.slt (Scalar.select (Scalar.cmpi CmpIPredicate.eq 8#32 0#32) 1#32 8#32)
                      0#32))
                  (IntOp.cmpi CmpIPredicate.ne
                    (IntOp.remsi ArithUnit.vector (BitVec.ofNat 32 (slotY k).val)
                      (Scalar.select (Scalar.cmpi CmpIPredicate.eq 8#32 0#32) 1#32 8#32))
                    0#32))
                (IntOp.addi
                  (IntOp.remsi ArithUnit.vector (BitVec.ofNat 32 (slotY k).val)
                    (Scalar.select (Scalar.cmpi CmpIPredicate.eq 8#32 0#32) 1#32 8#32))
                  (Scalar.select (Scalar.cmpi CmpIPredicate.eq 8#32 0#32) 1#32 8#32))
                (IntOp.remsi ArithUnit.vector (BitVec.ofNat 32 (slotY k).val)
                  (Scalar.select (Scalar.cmpi CmpIPredicate.eq 8#32 0#32) 1#32 8#32))) = BitVec.ofNat 32 (k.val % 6) := by decide
  have hlt : ∀ k : Fin 12, IntOp.cmpi CmpIPredicate.slt (BitVec.ofNat 32 (k.val % 6)) 6#32 = 1#1 := by decide
  rw [hsel, hlt, ind_word, cmpi_eq_word]
  have htgt : IntOp.addi (IntOp.addi (Scalar.muli (12#32) (BitVec.ofNat 32 c.val)) (IntOp.muli (6#32) (BitVec.ofNat 32 (k.val / 6)))) (BitVec.ofNat 32 (k.val % 6))
      = BitVec.ofNat 32 (12 * c.val + 6 * (k.val / 6) + k.val % 6) := by
    show BitVec.ofNat 32 12 * BitVec.ofNat 32 c.val + BitVec.ofNat 32 6 * BitVec.ofNat 32 (k.val / 6) + BitVec.ofNat 32 (k.val % 6) = _
    apply BitVec.eq_of_toNat_eq
    simp only [BitVec.toNat_add, BitVec.toNat_mul, BitVec.toNat_ofNat]
    omega
  rw [htgt]
  have hand : ∀ b : BitVec 1, IntOp.andi b 1#1 = b := by decide
  rw [hand]
  simp only [ite_bit]
  congr 1
  apply propext
  unfold At
  by_cases h : kept (expert v) n
  · rw [if_pos h, ofNat_inj (by omega) (by omega)]
    unfold kept at h
    omega
  · rw [if_neg h, show (4294967295#32) = BitVec.ofNat 32 4294967295 from rfl, ofNat_inj (by omega) (by omega)]
    unfold kept at h
    omega

/-! ## The slot table -/

/-- The slot's selection column, the table the kernel contracts with. -/
def selOf (v : S512x1.Idx → BitVec 32) (c : Fin 32) : FVec Ideal S512x16 .f32 :=
  k0_pay8 (F := Ideal) (BitVec.ofNat 32 c.val) (k0_pay6 (F := Ideal) (k0_pay2 (F := Ideal) v) (k0_pay3 (F := Ideal) v))
    (iota .tc S512x16 32 [1] iota_S512x16_d1_w32) k0_pay7 8#32

/-- The row numbers, down a column. -/
def rows : IVec S512x1 32 := iota .tc S512x1 32 [0] iota_S512x1_d0_w32

/-- The slot table: per slot the device and the row the slot's result goes to, and whether it is taken. -/
def tableOf (v : S512x1.Idx → BitVec 32) (c : Fin 32) : FVec Ideal S16x3 .f32 :=
  k0_pay12 (F := Ideal) rows (selOf v c) (k0_pay9 rows) (k0_pay10 rows) (k0_pay11 rows)

theorem selOf_apply (v : S512x1.Idx → BitVec 32) (he : ∀ n, expert v n < 64) (c : Fin 32) (n : Fin 512) (k : Fin 12) :
    selOf v c (ix2 n (slotY k)) = if At (expert v) c k n then 1 else 0 := sel_apply v he c n k

/-- The quotient by 16 of a row number as the kernel computes it. -/
theorem rowQuot_word (n : Fin 512) :
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 n.val) 16#32) 0#32))
      (IntOp.subi (IntOp.divsi ArithUnit.vector (BitVec.ofNat 32 n.val) 16#32) 1#32)
      (IntOp.divsi ArithUnit.vector (BitVec.ofNat 32 n.val) 16#32) = BitVec.ofNat 32 (n.val / 16) := by
  revert n
  decide +kernel

theorem rowRem_word (n : Fin 512) : IntOp.remsi ArithUnit.vector (BitVec.ofNat 32 n.val) 16#32 = BitVec.ofNat 32 (n.val % 16) := by
  revert n
  decide +kernel

theorem table_sum (v : S512x1.Idx → BitVec 32) (he : ∀ n, expert v n < 64) (c : Fin 32) (k : Fin 12) (f : Fin 512 → EReal) :
    (∑ n, selOf v c (ix2 n (slotY k)) * f n) = ((slotRow (expert v) c k).map f).getD 0 := by
  simp only [selOf_apply v he]
  rcases hs : slotRow (expert v) c k with _ | n
  · exact sum_none _ _ (slotRow_none.1 hs)
  · exact sum_pick _ _ n (slotRow_some.1 hs) fun m hm => hm.row_unique (slotRow_some.1 hs)

theorem tableOf_dest (v : S512x1.Idx → BitVec 32) (he : ∀ n, expert v n < 64) (c : Fin 32) (k : Fin 12) :
    tableOf v c (ix2 (slotY k) 0) = (((slotRow (expert v) c k).map fun n => n.val / 16).getD 0 : ℕ) := by
  unfold tableOf rows
  pointwise [k0_pay12, k0_pay9, k0_pay10, k0_pay11]
  simp only [rowQuot_word]
  rw [table_sum v he]
  cases slotRow (expert v) c k with
  | none => simp
  | some n => exact sitofp_nat (by have := n.isLt; omega)

theorem tableOf_row (v : S512x1.Idx → BitVec 32) (he : ∀ n, expert v n < 64) (c : Fin 32) (k : Fin 12) :
    tableOf v c (ix2 (slotY k) 1) = (((slotRow (expert v) c k).map fun n => n.val % 16).getD 0 : ℕ) := by
  unfold tableOf rows
  pointwise [k0_pay12, k0_pay9, k0_pay10, k0_pay11]
  simp only [rowRem_word]
  rw [table_sum v he]
  cases slotRow (expert v) c k with
  | none => simp
  | some n => exact sitofp_nat (by have := n.isLt; omega)

theorem tableOf_taken (v : S512x1.Idx → BitVec 32) (he : ∀ n, expert v n < 64) (c : Fin 32) (k : Fin 12) :
    tableOf v c (ix2 (slotY k) 2) = if (slotRow (expert v) c k).isSome then 1 else 0 := by
  unfold tableOf rows
  pointwise [k0_pay12, k0_pay9, k0_pay10, k0_pay11]
  have h := table_sum v he c k fun _ => 1
  simp only [mul_one] at h
  rw [h]
  cases slotRow (expert v) c k <;> simp

/-! ## The experts' products -/

/-- Slot `s` of the local expert: the row it takes, times the expert's matrix. -/
theorem lower_apply (v : S512x1.Idx → BitVec 32) (he : ∀ n, expert v n < 64) (c : Fin 32) (k : Fin 12) (hk : k.val < 6) (x : Vec Ideal S512x256 .f32)
    (w : Vec Ideal S1x256x512 .f32) (n : Fin 512) (hn : slotRow (expert v) c k = some n) (j : Fin 512) :
    k0_pay14 (F := Ideal) (selOf v c) x w (ix2 ⟨k.val % 6, by omega⟩ j) = ∑ d : Fin 256, x (ix2 n d) * w (ix3 0 d j) := by
  pointwise [k0_pay14, k0_pay13]
  refine Finset.sum_congr rfl fun d _ => ?_
  have h : (⟨k.val % 6, by omega⟩ : Fin 16) = slotY k := Fin.ext (by show k.val % 6 = 8 * (k.val / 6) + k.val % 6; omega)
  have e := table_sum v he c k fun n => x (ix2 n d)
  rw [hn] at e
  exact congrArg (· * w (ix3 0 d j)) (h ▸ e)

/-- Slot `s` of the local expert: the row it takes, times the expert's matrix. -/
theorem upper_apply (v : S512x1.Idx → BitVec 32) (he : ∀ n, expert v n < 64) (c : Fin 32) (k : Fin 12) (hk : 6 ≤ k.val) (x : Vec Ideal S512x256 .f32)
    (w : Vec Ideal S1x256x512 .f32) (n : Fin 512) (hn : slotRow (expert v) c k = some n) (j : Fin 512) :
    k0_pay15 (F := Ideal) (selOf v c) x w (ix2 ⟨k.val % 6, by omega⟩ j) = ∑ d : Fin 256, x (ix2 n d) * w (ix3 0 d j) := by
  pointwise [k0_pay15, k0_pay13]
  refine Finset.sum_congr rfl fun d _ => ?_
  have h : (⟨8 + k.val % 6, by omega⟩ : Fin 16) = slotY k := Fin.ext (by show 8 + k.val % 6 = 8 * (k.val / 6) + k.val % 6; omega)
  have e := table_sum v he c k fun n => x (ix2 n d)
  rw [hn] at e
  exact congrArg (· * w (ix3 0 d j)) (h ▸ e)

theorem half_lt_ind (p : Prop) [Decidable p] : ((((1 : ℝ) / 2 : ℝ) : EReal) < if p then 1 else 0) = p := by
  apply propext
  by_cases h : p
  · simp only [h, if_true, iff_true]
    exact_mod_cast (by norm_num : (1 : ℝ) / 2 < 1)
  · simp only [h, if_false, iff_false, not_lt]
    exact_mod_cast (by norm_num : (0 : ℝ) ≤ 1 / 2)

/-! ## What a device receives -/

/-- Per row of a device, whether it is kept and which device computes it. -/
def recvOf (v : S512x1.Idx → BitVec 32) (c : Fin 32) : FVec Ideal S16x2 .f32 :=
  k0_pay59 (F := Ideal) (k0_pay2 (F := Ideal) v) (k0_pay55 (F := Ideal) (BitVec.ofNat 32 c.val) rows)
    (k0_pay56 (F := Ideal) (k0_pay5 (F := Ideal) (k0_pay3 (F := Ideal) v))) 2#32
    (k0_pay57 (k0_pay2 (F := Ideal) v)) (k0_pay58 (k0_pay2 (F := Ideal) v))

theorem own_apply (c : Fin 32) (n : Fin 512) (r : Fin 16) :
    k0_pay55 (F := Ideal) (BitVec.ofNat 32 c.val) rows (ix2 n r) = if n = rowOf c r then 1 else 0 := by
  unfold rows
  pointwise [k0_pay55]
  have hn := n.isLt
  have hc := c.isLt
  have hr := r.isLt
  have : IntOp.addi (Scalar.muli (BitVec.ofNat 32 c.val) 16#32) (BitVec.ofNat 32 r.val) = BitVec.ofNat 32 (rowOf c r).val := by
    show BitVec.ofNat 32 c.val * BitVec.ofNat 32 16 + BitVec.ofNat 32 r.val = _
    apply BitVec.eq_of_toNat_eq
    simp only [BitVec.toNat_add, BitVec.toNat_mul, BitVec.toNat_ofNat, rowOf]
    omega
  rw [this, ind_word, cmpi_eq_word]
  have h2 := (rowOf c r).isLt
  simp only [ite_bit, ofNat_inj (show n.val < 2 ^ 32 by omega) (show (rowOf c r).val < 2 ^ 32 by omega), Fin.val_inj]

/-- The quotient by two of an expert's number as the kernel computes it. -/
theorem half_word (a : Fin 64) :
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 a.val) 2#32) 0#32))
      (IntOp.subi (IntOp.divsi ArithUnit.vector (BitVec.ofNat 32 a.val) 2#32) 1#32)
      (IntOp.divsi ArithUnit.vector (BitVec.ofNat 32 a.val) 2#32) = BitVec.ofNat 32 (a.val / 2) := by
  revert a
  decide +kernel

theorem recvOf_kept (v : S512x1.Idx → BitVec 32) (he : ∀ n, expert v n < 64) (c : Fin 32) (r : Fin 16) :
    recvOf v c (ix2 r 0) = if kept (expert v) (rowOf c r) then 1 else 0 := by
  unfold recvOf
  pointwise [k0_pay59]
  rw [Finset.sum_congr rfl fun n _ => by rw [own_apply]]
  rw [sum_pick (fun n => n = rowOf c r) _ (rowOf c r) rfl fun _ h => h]
  pointwise [k0_pay56]
  rw [ind_word, keep_apply v he]
  simp only [ite_bit]

theorem recvOf_owner (v : S512x1.Idx → BitVec 32) (he : ∀ n, expert v n < 64) (c : Fin 32) (r : Fin 16) :
    recvOf v c (ix2 r 1) = ((expert v (rowOf c r) / 2 : ℕ) : EReal) := by
  unfold recvOf
  pointwise [k0_pay59, k0_pay57, k0_pay58, k0_pay2]
  rw [Finset.sum_congr rfl fun n _ => by rw [own_apply]]
  rw [sum_pick (fun n => n = rowOf c r) _ (rowOf c r) rfl fun _ h => h]
  rw [expert_word v (rowOf c r), half_word ⟨expert v (rowOf c r), he _⟩]
  exact sitofp_nat (by have := he (rowOf c r); show expert v (rowOf c r) / 2 < _; omega)

theorem expected_apply (v : S512x1.Idx → BitVec 32) (he : ∀ n, expert v n < 64) (c : Fin 32) (v3 : Ideal .f32) (h3 : v3 = ((c.val : ℕ) : EReal)) :
    extractAt ![0, 0, 0] (k0_pay60 (F := Ideal) v3 (k0_pay2 (F := Ideal) v) (k0_pay55 (F := Ideal) (BitVec.ofNat 32 c.val) rows)
      (k0_pay56 (F := Ideal) (k0_pay5 (F := Ideal) (k0_pay3 (F := Ideal) v))) 2#32
      (k0_pay57 (k0_pay2 (F := Ideal) v)) (k0_pay58 (k0_pay2 (F := Ideal) v))) inpos_S1x1x1_p0_0_0
      = BitVec.ofNat 32 (arrivals (expert v) c).card := by
  pointwise [k0_pay60]
  have hk : ∀ r, k0_pay59 (F := Ideal) (k0_pay2 (F := Ideal) v) (k0_pay55 (F := Ideal) (BitVec.ofNat 32 c.val) rows)
      (k0_pay56 (F := Ideal) (k0_pay5 (F := Ideal) (k0_pay3 (F := Ideal) v))) 2#32
      (k0_pay57 (k0_pay2 (F := Ideal) v)) (k0_pay58 (k0_pay2 (F := Ideal) v)) (ix2 r 0) = _ := recvOf_kept v he c
  have ho : ∀ r, k0_pay59 (F := Ideal) (k0_pay2 (F := Ideal) v) (k0_pay55 (F := Ideal) (BitVec.ofNat 32 c.val) rows)
      (k0_pay56 (F := Ideal) (k0_pay5 (F := Ideal) (k0_pay3 (F := Ideal) v))) 2#32
      (k0_pay57 (k0_pay2 (F := Ideal) v)) (k0_pay58 (k0_pay2 (F := Ideal) v)) (ix2 r 1) = _ := recvOf_owner v he c
  simp only [hk, ho, h3, ofBits_half, half_lt_ind, ne_eq, Nat.cast_inj, bool_bit, and_bit]
  rw [IndicatorCount.fold_addi_setWidth_eq_card, card_arrivals he]
  congr 1
  simp only [ite_bit]
  refine Finset.card_bij (fun x _ => x.1) ?_ ?_ ?_
  · intro x hx
    simpa using hx
  · intro x _ y _ h
    exact Prod.ext h (Subsingleton.elim _ _)
  · intro r hr
    exact ⟨(r, 0), by simpa using hr, rfl⟩

end Cert.Moe

end
-- ==== Proof.Reference.lean ====
/- The reference: its run, that every semaphore counter ends at zero, and its result read at an index — the
   product of the row with its expert's matrix where the row is kept, zero where it is not. -/
module

public import proofs.«01_k».proof.Defs
public import proofs.«01_k».proof.Proof.Gen.ReferenceIdeal.Run
public import proofs.«01_k».proof.Proof.Values
public import Idealize.ShloMosaic.Lib.Pointwise
public import Idealize.ShloMosaic.Lib.IndicatorCount
public import Idealize.ShloMosaic.Lib.Quiescent

@[expose] public section

noncomputable section

namespace Cert.Moe

open Idealize.ShloMosaic Idealize.SL.Sem Cert.ReferenceIdeal Cert.ReferenceIdeal.Gen
open scoped Classical

/-- The frame of the reference, and its quiescence. -/
theorem frame_reference : Cert.quiescent_ReferenceIdeal (hReferenceIdeal := Cert.ReferenceIdeal.Gen.facts) := by
  intro m g _
  refine (θ_run (Cert.ReferenceIdeal.defs (F := Ideal)) _ _).mono (fun r h => ⟨fun c => ?_, ?_⟩) (Cert.ReferenceIdeal.Value.run (F := Ideal) m g)
  · exact (h c).2
  · exact sem_eq_zero_of_no_sems rfl r.2

/-- The reference's result, at a row and a column. -/
def result (x : S512x256.Idx → EReal) (v : S512x1.Idx → BitVec 32) (w : S64x256x512.Idx → EReal) (n : Fin 512) (j : Fin 512) : EReal :=
  if h : kept (expert v) n ∧ expert v n < 64 then ∑ d : Fin 256, x (ix2 n d) * w (ix3 ⟨expert v n, h.2⟩ d j) else 0

/-- A small-number compare. -/
theorem slt_word {a b : ℕ} (ha : a < 2 ^ 31) (hb : b < 2 ^ 31) :
    IntOp.cmpi .slt (BitVec.ofNat 32 a) (BitVec.ofNat 32 b) = if a < b then 1#1 else 0#1 := by
  have h1 : (BitVec.ofNat 32 a).toInt = a := by
    rw [BitVec.toInt_ofNat', Int.bmod_eq_of_le] <;> omega
  have h2 : (BitVec.ofNat 32 b).toInt = b := by
    rw [BitVec.toInt_ofNat', Int.bmod_eq_of_le] <;> omega
  show BitVec.ofBool (decide ((BitVec.ofNat 32 a).toInt < (BitVec.ofNat 32 b).toInt)) = _
  rw [h1, h2, bool_bit]
  simp only [Nat.cast_lt]

/-- The composed term of the reference's operations, of its three arguments that matter. -/
def term (x : FVec Ideal S512x256 .f32) (v : IVec S512x1 32) (w : FVec Ideal S64x256x512 .f32) : FVec Ideal S512x512 .f32 :=
  Host.reduceAdd (select (broadcastInDim S64x512x512 ![0, 1, 2] bcast_S64x512x1_S64x512x512_0_1_2 (broadcastInDim S64x512x1 ![0, 1] bcast_S64x512_S64x512x1_0_1 (andi (cmpi .eq (broadcastInDim S64x512 ![0, 1] bcast_S64x1_S64x512_0_1 (broadcastInDim S64x1 ![0] bcast_S64_S64x1_0 (iotaInDim S64 32 0))) (broadcastInDim S64x512 ![0, 1] bcast_S1x512_S64x512_0_1 (broadcastInDim S1x512 ![1] bcast_S512_S1x512_1 (shapeCast _ v shapeCasts_S512x1_S512)))) (broadcastInDim S64x512 ![0, 1] bcast_S1x512_S64x512_0_1 (broadcastInDim S1x512 ![1] bcast_S512_S1x512_1 (cmpi .slt (Host.reduce IntOp.addi (extui 32 (andi (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0)))) (cmpi .eq (broadcastInDim S512x512 ![0, 1] bcast_S1x512_S512x512_0_1 (broadcastInDim S1x512 ![1] bcast_S512_S1x512_1 (shapeCast _ v shapeCasts_S512x1_S512))) (broadcastInDim S512x512 ![0, 1] bcast_S512x1_S512x512_0_1 (broadcastInDim S512x1 ![0] bcast_S512_S512x1_0 (shapeCast _ v shapeCasts_S512x1_S512))))) natLt_1_32) (constantI S_ 32 0#32) reducesTo_S512x512_S512_d1 h_S_) (broadcastInDim S512 ![] bcast_S_S512 (constantI S_ 32 6#32))))))))
   (transpose S64x512x512 [0, 2, 1] (Host.dotGeneral dot_S64x256x512_S512x256_S64x512x512_1_1_02_0_n_n none w x) transposes_S64x512x512_S64x512x512_0_2_1)
   (broadcastInDim S64x512x512 ![] bcast_S_S64x512x512 (id (constant (F := Ideal) S_ .f32 0x00000000#32)))) (constant S_ .f32 0x00000000#32) reducesTo_S64x512x512_S512x512_d0 h_S_

theorem term_apply (x : FVec Ideal S512x256 .f32) (v : IVec S512x1 32) (w : FVec Ideal S64x256x512 .f32) (n : Fin 512) (j : Fin 512) :
    term x v w (ix2 n j) = result x v w n j := by
  unfold term
  pointwise
  have hr := rank_le (expert v) n
  have hcount : Finset.fold IntOp.addi (0#32)
              (fun x : Fin 512 =>
                BitVec.setWidth 32
                  (IntOp.andi (IntOp.cmpi CmpIPredicate.slt (BitVec.ofNat 32 x.val) (BitVec.ofNat 32 n.val))
                    (IntOp.cmpi CmpIPredicate.eq (v (ix2 x 0)) (v (ix2 n 0)))))
              Finset.univ = BitVec.ofNat 32 (rank (expert v) n) := by
    rw [IndicatorCount.fold_addi_setWidth_eq_card]
    congr 1
    unfold rank
    congr 1
    ext m
    have hm := m.isLt
    have hn := n.isLt
    rw [Finset.mem_filter, Finset.mem_filter, slt_word (by omega) (by omega), cmpi_eq_word, and_bit, ite_bit, expert_word v m, expert_word v n,
      ofNat_inj (expert_lt_word v m) (expert_lt_word v n)]
    rfl
  rw [hcount, slt_word (a := rank (expert v) n) (b := 6) (by omega) (by omega)]
  have hz : id (constant (F := Ideal) S_ .f32 0#32) ix0 = 0 := Ideal.ofBits_zero_f32
  simp only [hz, cmpi_eq_word, and_bit, expert_word v n]
  unfold result
  by_cases h : kept (expert v) n ∧ expert v n < 64
  · rw [dif_pos h, Finset.sum_eq_single (⟨expert v n, h.2⟩ : Fin 64)]
    · rw [if_pos ⟨rfl, h.1⟩]
      show Scalar.select 1#1 _ _ = _
      rw [Scalar.select, if_pos (show (1#1 : BitVec 1) = 1 from rfl)]
      exact Finset.sum_congr rfl fun d _ => mul_comm _ _
    · intro b _ hb
      rw [if_neg]
      · rfl
      · rintro ⟨h', -⟩
        have hb' := b.isLt
        exact hb (Fin.ext ((ofNat_inj (by omega) (expert_lt_word v n)).1 h'))
    · intro h'
      exact absurd (Finset.mem_univ _) h'
  · rw [dif_neg h]
    refine Finset.sum_eq_zero fun b _ => ?_
    rw [if_neg]
    · rfl
    · rintro ⟨h', hk⟩
      have hb' := b.isLt
      have := (ofNat_inj (by omega) (expert_lt_word v n)).1 h'
      exact h ⟨hk, by omega⟩

/-- The reference's result array. -/
def resultBuf (x : FVec Ideal S512x256 .f32) (v : IVec S512x1 32) (w : FVec Ideal S64x256x512 .f32) : FVec Ideal S512x512 .f32 :=
  fun i => result x v w (i 0) (i 1)

theorem term_eq (x : FVec Ideal S512x256 .f32) (v : IVec S512x1 32) (w : FVec Ideal S64x256x512 .f32) : term x v w = resultBuf x v w := by
  funext i
  have : i = ix2 (i 0) (i 1) := by
    funext a
    match a with
    | 0 => rfl
    | 1 => rfl
  rw [this]
  exact term_apply x v w (i 0) (i 1)

/-- The reference's run: its result in closed form, its arguments unchanged. -/
theorem run_reference (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v30)
          = resultBuf (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (Cert.ReferenceIdeal.defs (F := Ideal)) _ _).mono (fun _ h c => ⟨(h c).1.trans (term_eq _ _ _), (h c).2⟩) (Cert.ReferenceIdeal.Value.run (F := Ideal) m ρ)

end Cert.Moe

end
-- ==== Proof.Protocol.lean ====
/-
  The protocol of the kernel's remote copies. Every device has a barrier cell, a receive cell and twelve send cells. A
  device's signal to a peer hands the peer the rows of the device's result buffer the peer will write; the peer's copy
  hands the written row to the device's receive cell, and the copied product row back to the peer's own send cell.
-/
module

public import proofs.«01_k».proof.Proof.Values
public import proofs.«01_k».proof.Proof.Gen.KernelIdeal.Launch
public import Idealize.ShloMosaic.Lib.Rounds
public import Idealize.ShloMosaic.Lib.Tactic

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

instance remoteDec (e : Fin 512 → ℕ) (c : Fin 32) (k : Fin 12) : Decidable (Remote e c k) := Classical.propDecidable _
instance keptDec (e : Fin 512 → ℕ) (n : Fin 512) : Decidable (kept e n) := Classical.propDecidable _
instance hitsDec (e : Fin 512 → ℕ) (d : Fin 32) (p : Fin 32 × Fin 12) : Decidable (Hits e d p) := Classical.propDecidable _

/-- A duty: the slot `(device, place)` a copy empties; of a signal only the device counts. -/
abbrev Du : Type := Fin 32 × Fin 12
/-- The algebra of the protocol's rounds. -/
abbrev RM : Type := Rounds.URounds (GSem nD τ sig) Du

/-- The pipeline's algebra, beside the gather's and the protocol's. -/
abbrev UU : Type := UR sig nD τ × (Sites.UC × RM)
local notation "𝕄" => MT nD τ sig ℕ (Elt Ideal) ℕ UU ℕ

abbrev EP : Emb (UR sig nD τ) (MT nD τ sig ℕ (Elt Ideal) ℕ UU ℕ) := embL
abbrev EC : Emb Sites.UC (MT nD τ sig ℕ (Elt Ideal) ℕ UU ℕ) := (Emb.inl : Emb Sites.UC (Sites.UC × RM)).trans embR
abbrev ER : Emb RM (MT nD τ sig ℕ (Elt Ideal) ℕ UU ℕ) := (Emb.inr : Emb RM (Sites.UC × RM)).trans embR

/-! ## Cells and rows -/

abbrev barCell (c : Dev nD) : GSem nD τ sig := ((c : Thread nD τ), .reg barrier0)
abbrev recvSem : DmaSem sig := 26
abbrev recvCell (c : Dev nD) : GSem nD τ sig := ((c : Thread nD τ), .dma recvSem)
abbrev sendSem (k : Fin 12) : DmaSem sig := ⟨14 + k.val, by have := k.isLt; show 14 + k.val < 27; omega⟩
abbrev sendCell (c : Dev nD) (k : Fin 12) : GSem nD τ sig := ((c : Thread nD τ), .dma (sendSem k))

/-- The credit of one row of 512 floats. -/
abbrev A : ℕ := ((Memref.whole cc0_stg3_0).slice (Rect.unit (s := S16x512) ![0, 0] S1x512.size (by decide)) (fun _ => rfl) : Memref sig .tc .vmem S1x512 .f32).view.dmaCredit
theorem A_pos : 0 < A := View.dmaCredit_pos _ (by decide)

open scoped Classical in
/-- The elements of row `r` of a 16 by 512 buffer. -/
def rowSet (r : Fin 16) : Finset S16x512.Idx := Finset.univ.filter fun i => i 0 = r

theorem mem_rowSet {r : Fin 16} {i : S16x512.Idx} : i ∈ rowSet r ↔ i 0 = r := by
  unfold rowSet; simp

theorem rowSet_disjoint {r r' : Fin 16} (h : r ≠ r') : Disjoint (rowSet r) (rowSet r') :=
  Finset.disjoint_left.mpr fun _ h1 h2 => h ((mem_rowSet.mp h1).symm.trans (mem_rowSet.mp h2))

theorem rowSet_univ : (Finset.univ : Finset (Fin 16)).biUnion rowSet = Finset.univ := by
  ext i; rw [Finset.mem_biUnion]; exact ⟨fun _ => Finset.mem_univ _, fun _ => ⟨i 0, Finset.mem_univ _, mem_rowSet.mpr rfl⟩⟩

/-- A 16 by 512 buffer of ideal floats. -/
abbrev Rows : Type := S16x512.Idx → EReal

/-- Row `r` of device `c`'s result buffer, at the contents `f`; -/
def outRow (c : Dev nD) (r : Fin 16) (f : Rows) : sProp 𝕄 := (c : Thread nD τ).loc cc0_stg3_0 ↦[rowSet r]{fullShare} f
/-- of its product buffer. -/
def yRow (c : Dev nD) (r : Fin 16) (f : Rows) : sProp 𝕄 := (c : Thread nD τ).loc cc0_scratch0 ↦[rowSet r]{fullShare} f

instance outRow_storable (c : Dev nD) (r : Fin 16) (f : Rows) : BI.Storable (upEmb : UEmb _ 𝕄) (outRow c r f) := by
  unfold outRow; infer_instance
instance yRow_storable (c : Dev nD) (r : Fin 16) (f : Rows) : BI.Storable (upEmb : UEmb _ 𝕄) (yRow c r f) := by
  unfold yRow; infer_instance

theorem outRow_congr (c : Dev nD) (r : Fin 16) {f g : Rows} (h : ∀ j, f (ix2 r j) = g (ix2 r j)) :
    (outRow c r f : sProp 𝕄) = outRow c r g := by
  unfold outRow
  refine pointsTo_congr fun i hi => ?_
  have h0 : i 0 = r := mem_rowSet.mp hi
  have : i = ix2 r (i 1) := by rw [← h0]; exact (ix2_eta i).symm
  rw [this]; exact h _

/-! ## What the copies leave -/

variable (e : Fin 512 → ℕ) (Y : Dev nD → Rows)

/-- The device slot `k` of device `c` is addressed to (0 for an empty slot). -/
def slotDest (c : Dev nD) (k : Fin 12) : Dev nD := ((slotRow e c k).map dest).getD 0

open scoped Classical in
/-- What device `d`'s result buffer ends holding: at the place of a kept row the product row of the slot that holds it,
    zero elsewhere. -/
def G (d : Dev nD) : Rows := fun i =>
  if h : ∃ p, p ∈ hits e d ∧ slotDrow e p = i 0 then Y h.choose.1 (ix2 (slotY h.choose.2) (i 1)) else 0

theorem G_slot {c : Dev nD} {k : Fin 12} {n : Fin 512} (h : slotRow e c k = some n) (j : Fin 512) :
    G e Y (dest n) (ix2 (drow n) j) = Y c (ix2 (slotY k) j) := by
  have hp : (c, k) ∈ hits e (dest n) := mem_hits.mpr ⟨n, h, rfl⟩
  have hx : ∃ p, p ∈ hits e (dest n) ∧ slotDrow e p = (ix2 (drow n) j : S16x512.Idx) 0 := ⟨(c, k), hp, slotDrow_eq h⟩
  unfold G
  rw [dif_pos hx]
  have he := slotDrow_injOn e (dest n) hx.choose_spec.1 hp (hx.choose_spec.2.trans (slotDrow_eq h).symm)
  rw [he]
  rfl

theorem G_lost (he : ∀ n, e n < 64) {d : Dev nD} {r : Fin 16} (h : ¬kept e (rowOf d r)) (j : Fin 512) :
    G e Y d (ix2 r j) = 0 := by
  unfold G
  rw [dif_neg]
  rintro ⟨p, hp, hr⟩
  have : r ∈ keptRows e d := by rw [← hits_image he d]; exact Finset.mem_image.mpr ⟨p, hp, hr⟩
  exact h (Finset.mem_filter.mp this).2

theorem remote_iff (c : Dev nD) (k : Fin 12) : Remote e c k ↔ ∃ d, d ≠ c ∧ Hits e d (c, k) :=
  ⟨fun ⟨n, hn, hd⟩ => ⟨dest n, hd, n, hn, rfl⟩, fun ⟨_, hd, n, hn, h⟩ => ⟨n, hn, h ▸ hd⟩⟩

theorem slotDest_eq {c : Dev nD} {k : Fin 12} {n : Fin 512} (h : slotRow e c k = some n) : slotDest e c k = dest n := by
  unfold slotDest; rw [h]; rfl

theorem hits_iff (d c : Dev nD) (k : Fin 12) : Hits e d (c, k) ↔ (slotRow e c k).isSome ∧ slotDest e c k = d := by
  constructor
  · rintro ⟨n, hn, hd⟩
    exact ⟨by rw [show slotRow e c k = some n from hn]; rfl, (slotDest_eq e hn).trans hd⟩
  · rintro ⟨hs, hd⟩
    obtain ⟨n, hn⟩ := Option.isSome_iff_exists.mp hs
    exact ⟨n, hn, (slotDest_eq e hn).symm.trans hd⟩

theorem remote_iff' (c : Dev nD) (k : Fin 12) : Remote e c k ↔ (slotRow e c k).isSome ∧ slotDest e c k ≠ c := by
  constructor
  · rintro ⟨n, hn, hd⟩
    exact ⟨by rw [hn]; rfl, by rw [slotDest_eq e hn]; exact hd⟩
  · rintro ⟨hs, hd⟩
    obtain ⟨n, hn⟩ := Option.isSome_iff_exists.mp hs
    exact ⟨n, hn, by rw [← slotDest_eq e hn]; exact hd⟩

theorem arrivals_iff (d c : Dev nD) (k : Fin 12) : (c, k) ∈ arrivals e d ↔ Remote e c k ∧ slotDest e c k = d := by
  rw [mem_arrivals, remote_iff']
  constructor
  · rintro ⟨h, hd⟩
    obtain ⟨h1, h2⟩ := (hits_iff e d c k).mp h
    exact ⟨⟨h1, fun hh => hd (hh.symm.trans h2)⟩, h2⟩
  · rintro ⟨⟨h1, h2⟩, h3⟩
    exact ⟨(hits_iff e d c k).mpr ⟨h1, h3⟩, fun hh : c = d => h2 (h3.trans hh.symm)⟩

/-! ## The schedule -/

/-- What device `c`'s signal hands device `N`: that `c`'s receive cell is open, and the rows of `c`'s result buffer `N`'s
    slots are addressed to. -/
def barPay (c N : Dev nD) : sProp 𝕄 :=
  iprop(reached ER (recvCell c) 0
    ∗ bigSep Finset.univ fun k : Fin 12 => if Remote e N k ∧ slotDest e N k = c then iprop(∃ f, outRow c (slotDrow e (N, k)) f) else iprop(emp))

/-- One round on every cell: thirty-two signals on a barrier cell, an arrival for every slot addressed to a device from
    another on its receive cell, and one for the copy of a slot that leaves on that slot's send cell. -/
def moe : Rounds.Schedule (GSem nD τ sig) Du 𝕄 where
  duties g r := if r = 0 ∧ g.1.2 = .tc then
      match g.2 with
      | .reg s => if s = barrier0 then Finset.univ.image fun c : Dev nD => (c, 0) else ∅
      | .dma s => if s.val = 26 then arrivals e g.1.1
        else if h : 14 ≤ s.val ∧ s.val < 26 then (if Remote e g.1.1 ⟨s.val - 14, by omega⟩ then {(0, 0)} else ∅) else ∅
    else ∅
  unitless _ := False
  amount g _ _ := match g.2 with
    | .reg _ => 1
    | .dma _ => A
  payload g _ d := match g.2 with
    | .reg _ => barPay e d.1 g.1.1
    | .dma s => if s.val = 26 then outRow g.1.1 (slotDrow e d) (G e Y g.1.1)
      else if h : 14 ≤ s.val ∧ s.val < 26 then yRow g.1.1 (slotY ⟨s.val - 14, by omega⟩) (Y g.1.1) else iprop(emp)
  amount_pos g _ _ _ := by
    split
    · exact Nat.one_pos
    · exact A_pos

instance barPay_storable (c N : Dev nD) : BI.Storable (upEmb : UEmb _ 𝕄) (barPay e c N) := by
  have hk (k : Fin 12) : BI.Storable (upEmb : UEmb _ 𝕄)
      (if Remote e N k ∧ slotDest e N k = c then iprop(∃ f, outRow c (slotDrow e (N, k)) f) else iprop(emp)) := by
    split <;> infer_instance
  unfold barPay; infer_instance

instance moe_payload_storable (g : GSem nD τ sig) (r : ℕ) (d : Du) :
    BI.Storable (upEmb : UEmb _ 𝕄) ((moe e Y).payload g r d) := by
  unfold moe
  dsimp only
  split
  · infer_instance
  · split
    · infer_instance
    · split <;> infer_instance

section Tables

variable (c : Dev nD) (k : Fin 12)

theorem sendSem_range : 14 ≤ (sendSem k).val ∧ (sendSem k).val < 26 := by
  have := k.isLt; constructor <;> (show _; simp only [sendSem]; omega)
theorem sendSem_ne : ¬(sendSem k).val = 26 := by have := (sendSem_range k).2; omega
theorem sendSem_sub : (⟨(sendSem k).val - 14, by have := sendSem_range k; omega⟩ : Fin 12) = k := by
  apply Fin.ext; simp only [sendSem]; omega

theorem duties_bar : (moe e Y).duties (barCell c) 0 = Finset.univ.image fun c : Dev nD => (c, 0) := by
  dsimp only [moe]; rw [if_pos ⟨rfl, rfl⟩, if_pos rfl]
theorem duties_recv : (moe e Y).duties (recvCell c) 0 = arrivals e c := by
  dsimp only [moe]; rw [if_pos ⟨rfl, rfl⟩]; exact if_pos rfl
theorem duties_send : (moe e Y).duties (sendCell c k) 0 = if Remote e c k then {(0, 0)} else ∅ := by
  dsimp only [moe]; rw [if_pos ⟨rfl, rfl⟩, if_neg (sendSem_ne k), dif_pos (sendSem_range k), sendSem_sub]
theorem duties_later (g : GSem nD τ sig) : ∀ r, 1 ≤ r → (moe e Y).duties g r = ∅ := fun r hr => by
  dsimp only [moe]; rw [if_neg fun h => by omega]

theorem mem_duties_bar (d : Dev nD) : ((d, 0) : Du) ∈ (moe e Y).duties (barCell c) 0 := by
  rw [duties_bar]; exact Finset.mem_image_of_mem _ (Finset.mem_univ d)

theorem amount_bar (d : Du) : (moe e Y).amount (barCell c) 0 d = 1 := rfl
theorem amount_recv (d : Du) : (moe e Y).amount (recvCell c) 0 d = A := rfl
theorem amount_send (d : Du) : (moe e Y).amount (sendCell c k) 0 d = A := rfl

theorem bar_inj : Function.Injective fun c : Dev nD => ((c, 0) : Du) := fun _ _ h => congrArg Prod.fst h

theorem expect_bar : (moe e Y).expect (barCell c) 0 = 32 := by
  unfold Schedule.expect Schedule.amountOf
  rw [duties_bar, Finset.sum_image bar_inj.injOn]
  simp only [amount_bar, Finset.sum_const, Finset.card_univ, Fintype.card_fin, smul_eq_mul, mul_one]
theorem expect_recv : (moe e Y).expect (recvCell c) 0 = (arrivals e c).card * A := by
  unfold Schedule.expect Schedule.amountOf
  rw [duties_recv]
  simp only [amount_recv, Finset.sum_const, smul_eq_mul]
theorem expect_send (h : Remote e c k) : (moe e Y).expect (sendCell c k) 0 = A := by
  unfold Schedule.expect Schedule.amountOf
  rw [duties_send, if_pos h, Finset.sum_singleton, amount_send]

theorem payload_bar (d : Du) : (moe e Y).payload (barCell c) 0 d = barPay e d.1 c := rfl
theorem payload_recv (d : Du) : (moe e Y).payload (recvCell c) 0 d = outRow c (slotDrow e d) (G e Y c) := by
  dsimp only [moe]; exact if_pos rfl
theorem payload_send (d : Du) : (moe e Y).payload (sendCell c k) 0 d = yRow c (slotY k) (Y c) := by
  dsimp only [moe]; rw [if_neg (sendSem_ne k), dif_pos (sendSem_range k), sendSem_sub]

end Tables

/-! ## Sums over the devices, or slots, still to come -/

/-- The sum of `f` over the places from `i` on. -/
def from_ {n : ℕ} {B : Type} [AddCommMonoid B] (f : Fin n → B) (i : ℕ) : B := ∑ k ∈ Finset.univ.filter (fun k : Fin n => i ≤ k.val), f k

theorem from_step {n : ℕ} {B : Type} [AddCommMonoid B] (f : Fin n → B) (k : Fin n) : from_ f k.val = from_ f (k.val + 1) + f k := by
  unfold from_
  have : (Finset.univ.filter fun j : Fin n => k.val ≤ j.val) = insert k (Finset.univ.filter fun j : Fin n => k.val + 1 ≤ j.val) := by
    ext j
    simp only [Finset.mem_filter, Finset.mem_univ, true_and, Finset.mem_insert, Fin.ext_iff]
    omega
  rw [this, Finset.sum_insert (by simp), add_comm]

theorem from_zero {n : ℕ} {B : Type} [AddCommMonoid B] (f : Fin n → B) : from_ f 0 = ∑ k, f k := by
  unfold from_; rw [Finset.filter_true_of_mem fun _ _ => Nat.zero_le _]

theorem from_end {n : ℕ} {B : Type} [AddCommMonoid B] (f : Fin n → B) {i : ℕ} (h : n ≤ i) : from_ f i = 0 := by
  unfold from_; rw [Finset.filter_false_of_mem fun k _ => by have := k.isLt; omega, Finset.sum_empty]

/-! ## What a device owes -/

/-- A unit to device `N`'s barrier cell; -/
def dueBar (N : Dev nD) : CellTallies nD τ sig ℕ := tallyAt (barCell N) 19 1
/-- for slot `k` of device `c`, when it leaves, a row to its destination's receive cell. -/
def dueSend (c : Dev nD) (k : Fin 12) : CellTallies nD τ sig ℕ := if Remote e c k then tallyAt (recvCell (slotDest e c k)) 20 A else 0

/-- What device `c` owes with the signals from `n` and the slots from `k` still to come. -/
def owed (c : Dev nD) (n k : ℕ) : CellTallies nD τ sig ℕ := from_ dueBar n + from_ (dueSend e c) k

/-- The indices are numbers and a cell's level is the index: 19 for the barrier cells, 20 for the receive cells, 21 for the
    send cells; below those the staging copies' and the gather's. -/
def L (g : GSem nD τ sig) : Finset ℕ := if g.1.2 = .tc then Finset.range 22 else ∅
def lv (_ : GSem nD τ sig) (i : ℕ) : ℕ := i

theorem mem_L (c : Dev nD) (sm : SemLoc sig) {i : ℕ} (h : i < 22) : i ∈ L ((c : Thread nD τ), sm) := by
  unfold L; rw [if_pos rfl]; exact Finset.mem_range.mpr h

theorem from_pos {n : ℕ} {f : Fin n → CellTallies nD τ sig ℕ} {i : ℕ} {g : GSem nD τ sig} {u : ℕ} (h : 0 < from_ f i g u) :
    ∃ k, 0 < f k g u := by
  by_contra hc
  push Not at hc
  have : from_ f i g u = 0 := by
    unfold from_
    rw [Finset.sum_apply, Finsupp.finset_sum_apply]
    exact Finset.sum_eq_zero fun k _ => Nat.le_zero.mp (hc k)
  omega

theorem tallyAt_pos {g g' : GSem nD τ sig} {u u' a : ℕ} (h : 0 < (tallyAt g u a : CellTallies nD τ sig ℕ) g' u') : g' = g ∧ u' = u := by
  rw [tallyAt_apply] at h
  by_contra hc
  rw [if_neg hc] at h
  exact absurd h (Nat.lt_irrefl 0)

theorem owed_pos {c : Dev nD} {n k : ℕ} {g : GSem nD τ sig} {u : ℕ} (h : 0 < owed e c n k g u) : (∃ N, g = barCell N ∧ u = 19 ∧ n < 32) ∨ ∃ N, g = recvCell N ∧ u = 20 := by
  unfold owed at h
  rw [Pi.add_apply, Finsupp.add_apply] at h
  rcases Nat.add_pos_iff_pos_or_pos.mp h with h | h
  · by_cases hn : n < 32
    · obtain ⟨N, hN⟩ := from_pos h
      obtain ⟨h1, h2⟩ := tallyAt_pos hN
      exact .inl ⟨N, h1, h2, hn⟩
    · rw [from_end _ (show 32 ≤ n by omega)] at h
      exact absurd h (Nat.lt_irrefl 0)
  · obtain ⟨k, hk⟩ := from_pos h
    unfold dueSend at hk
    split at hk
    · obtain ⟨h1, h2⟩ := tallyAt_pos hk
      exact .inr ⟨_, h1, h2⟩
    · exact absurd hk (Nat.lt_irrefl 0)

/-- At its barrier a device owes only rows, to receive cells above it. -/
theorem mayWait_bar (c : Dev nD) : (levAts L lv : sProp 𝕄) ⊢ MayWait (c : Thread nD τ) (.reg barrier0) 19 (owed e c 32 0) :=
  MayOwe.of_cut (L := L) (lev := lv) 19 (fun p hp => by rw [Finset.mem_singleton.mp hp]; exact mem_L c _ (by decide))
    (fun g u hg => by
      rcases owed_pos e hg with ⟨N, -, -, h⟩ | ⟨N, rfl, rfl⟩
      · omega
      · exact mem_L N _ (by decide))
    (fun p hp => by rw [Finset.mem_singleton.mp hp]; exact le_rfl)
    (fun g u hg => by
      rcases owed_pos e hg with ⟨N, -, -, h⟩ | ⟨N, rfl, rfl⟩
      · omega
      · show 19 < 20; omega)

end Cert.Moe

end
-- ==== Proof.Steps.lean ====
module

public import proofs.«01_k».proof.Proof.Protocol

/-! The steps of the kernel's body, each once: a signal, the barrier wait, a slot's copy, a slot kept at home, a lost row's
    zeroing, the waits on arrivals and on departures, and the state each moves along. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

/-! ## Rows as views -/

/-- The rectangle of one row. -/
abbrev rowRect (o : Fin 2 → ℕ) (h : ∀ a, o a + S1x512.size a ≤ S16x512.size a) : Rect S16x512 := Rect.unit (s := S16x512) o S1x512.size h

theorem rowRect_set {o : Fin 2 → ℕ} {h} {r : Fin 16} (ho : o = ![r.val, 0]) : (rowRect o h).set = rowSet r := by
  subst ho
  ext i
  rw [Rect.mem_set_unit, mem_rowSet]
  constructor
  · intro hi
    have h0 := hi 0
    have h1 : r.val ≤ (i 0).val ∧ (i 0).val < r.val + 1 := h0
    exact Fin.ext (by omega)
  · intro hi a
    have : (i 0).val = r.val := congrArg Fin.val hi
    fin_cases a
    · show r.val ≤ (i 0).val ∧ (i 0).val < r.val + 1
      omega
    · show 0 ≤ (i 1).val ∧ (i 1).val < 0 + 512
      have h5 : (i 1).val < 512 := (i 1).isLt
      omega

theorem rowRect_emb {o : Fin 2 → ℕ} {h} {r : Fin 16} (ho : o = ![r.val, 0]) (x : S1x512.Idx) : (rowRect o h).emb x = ix2 r (x 1) := by
  subst ho
  have h0 : (x 0).val = 0 := by have : (x 0).val < 1 := (x 0).isLt; omega
  funext a
  fin_cases a
  · apply Fin.ext
    show r.val + 1 * (x 0).val = r.val
    omega
  · apply Fin.ext
    show 0 + 1 * (x 1).val = (x 1).val
    omega

/-- Row `r` of the result buffer, or of the product buffer, as a view. -/
abbrev outM (o : Fin 2 → ℕ) (h : ∀ a, o a + S1x512.size a ≤ S16x512.size a) : Memref sig .tc .vmem S1x512 .f32 := (Memref.whole cc0_stg3_0).slice (rowRect o h) (fun _ => rfl)
abbrev yM (o : Fin 2 → ℕ) (h : ∀ a, o a + S1x512.size a ≤ S16x512.size a) : Memref sig .tc .vmem S1x512 .f32 := (Memref.whole cc0_scratch0).slice (rowRect o h) (fun _ => rfl)

theorem outM_set {o : Fin 2 → ℕ} {h} {r : Fin 16} (ho : o = ![r.val, 0]) : (outM o h).view.set = rowSet r :=
  (View.set_slice_whole cc0_stg3_0 (rowRect o h)).trans (rowRect_set ho)
theorem yM_set {o : Fin 2 → ℕ} {h} {r : Fin 16} (ho : o = ![r.val, 0]) : (yM o h).view.set = rowSet r :=
  (View.set_slice_whole cc0_scratch0 (rowRect o h)).trans (rowRect_set ho)

theorem yM_read {o : Fin 2 → ℕ} {h} {r : Fin 16} (ho : o = ![r.val, 0]) (f : Rows) (x : S1x512.Idx) :
    (yM o h).view.read (Elt Ideal) f x = f (ix2 r (x 1)) := by
  rw [View.read_apply]
  show f ((rowRect o h).emb x) = _
  rw [rowRect_emb ho]
  rfl

theorem outM_write {o : Fin 2 → ℕ} {h} {r : Fin 16} (ho : o = ![r.val, 0]) (f : Rows) (w : S1x512.Idx → EReal) (j : Fin 512) :
    ((outM o h).view.write (Elt Ideal) f w Finset.univ : Rows) (ix2 r j) = w (ix2 0 j) := by
  have hx : (outM o h).view.emb (ix2 0 j) = (ix2 r j : S16x512.Idx) := rowRect_emb ho (ix2 0 j)
  rw [← hx, View.write_emb_of_mem _ _ (Finset.mem_univ _)]
  rfl

/-! ## Families -/

theorem sep_at {I : Type} [Fintype I] [DecidableEq I] (i : I) (Φ : I → sProp 𝕄) :
    bigSep Finset.univ Φ = iprop(Φ i ∗ bigSep (Finset.univ.erase i) Φ) := BI.bigSep_univ_split i
theorem sep_get {I : Type} [DecidableEq I] {s : Finset I} {i : I} (h : i ∈ s) (Φ : I → sProp 𝕄) : bigSep s Φ ⊢ Φ i := BI.bigSep_elim h

theorem sep_image {I J : Type} [DecidableEq I] [DecidableEq J] {s : Finset I} {f : I → J} (hf : Set.InjOn f s) (Φ : J → sProp 𝕄) :
    bigSep (s.image f) Φ = bigSep s fun i => Φ (f i) := by
  unfold bigSep
  exact Finset.fold_image fun x hx y hy h => hf hx hy h

/-! ## A family part of whose members have moved on -/

/-- The members from `i` on are at `P`, those before it at `P'`. -/
def along {n : ℕ} (P P' : Fin n → sProp 𝕄) (i : ℕ) : sProp 𝕄 := bigSep Finset.univ fun k : Fin n => if i ≤ k.val then P k else P' k

theorem along_take {n : ℕ} (P P' : Fin n → sProp 𝕄) (k : Fin n) {i : ℕ} (hi : i = k.val) : along P P' i ⊢ iprop(P k ∗ (P' k -∗ along P P' (i + 1))) := by
  subst hi
  have hr : bigSep (Finset.univ.erase k) (fun j : Fin n => if k.val ≤ j.val then P j else P' j)
      = bigSep (Finset.univ.erase k) (fun j : Fin n => if k.val + 1 ≤ j.val then P j else P' j) := by
    refine bigSep_congr fun j hj => ?_
    have hne : j.val ≠ k.val := fun h => (Finset.mem_erase.mp hj).1 (Fin.ext h)
    by_cases h : k.val ≤ j.val
    · rw [if_pos h, if_pos (by omega)]
    · rw [if_neg h, if_neg (by omega)]
  unfold along
  rw [sep_at k, sep_at k (fun j : Fin n => if k.val + 1 ≤ j.val then P j else P' j),
    hr, if_pos le_rfl, if_neg (by omega)]
  iintro ⟨H, Hr⟩
  isplitl [H]; · iexact H
  iintro H
  isplitl [H]; · iexact H
  iexact Hr

/-- A member that has moved on, lent. -/
theorem along_lend {n : ℕ} (P P' : Fin n → sProp 𝕄) (k : Fin n) {i : ℕ} (hi : k.val < i) : along P P' i ⊢ iprop(P' k ∗ (P' k -∗ along P P' i)) := by
  unfold along
  rw [sep_at k, if_neg (by omega)]
  iintro ⟨H, Hr⟩
  isplitl [H]; · iexact H
  iintro H
  isplitl [H]; · iexact H
  iexact Hr

theorem along_start {n : ℕ} (P P' : Fin n → sProp 𝕄) : along P P' 0 = bigSep Finset.univ P := by
  unfold along; exact bigSep_congr fun k _ => if_pos (Nat.zero_le _)

theorem along_end {n : ℕ} (P P' : Fin n → sProp 𝕄) {i : ℕ} (h : n ≤ i) : along P P' i = bigSep Finset.univ P' := by
  unfold along; exact bigSep_congr fun k _ => if_neg (by have := k.isLt; omega)

/-! ## What every device may consult -/

variable (e : Fin 512 → ℕ) (Y : Dev nD → Rows) (κ : GSem nD τ sig → ℕ) (c : Dev nD)

/-- The invariants of all the cells, round 0 of every barrier cell and every send cell reached, and the levels. -/
def inv : sProp 𝕄 :=
  iprop((bigSep Finset.univ fun d : Dev nD => cellInv ER (moe e Y) (κ (barCell d)) (barCell d))
    ∗ (bigSep Finset.univ fun d : Dev nD => cellInv ER (moe e Y) (κ (recvCell d)) (recvCell d))
    ∗ (bigSep Finset.univ fun p : Dev nD × Fin 12 => cellInv ER (moe e Y) (κ (sendCell p.1 p.2)) (sendCell p.1 p.2))
    ∗ (bigSep Finset.univ fun d : Dev nD => reached ER (barCell d) 0)
    ∗ levAts L lv)

instance inv_persistent : BI.Persistent (inv e Y κ) := by unfold inv; infer_instance

theorem inv_bar (d : Dev nD) : inv e Y κ ⊢ cellInv ER (moe e Y) (κ (barCell d)) (barCell d) := by
  unfold inv
  iintro ⟨H, -⟩
  iapply (sep_get (Finset.mem_univ d) _) $$ H
theorem inv_recv (d : Dev nD) : inv e Y κ ⊢ cellInv ER (moe e Y) (κ (recvCell d)) (recvCell d) := by
  unfold inv
  iintro ⟨-, H, -⟩
  iapply (sep_get (Finset.mem_univ d) _) $$ H
theorem inv_send (d : Dev nD) (k : Fin 12) : inv e Y κ ⊢ cellInv ER (moe e Y) (κ (sendCell d k)) (sendCell d k) := by
  unfold inv
  iintro ⟨-, -, H, -⟩
  iapply (sep_get (Finset.mem_univ (d, k)) fun p : Dev nD × Fin 12 => cellInv ER (moe e Y) (κ (sendCell p.1 p.2)) (sendCell p.1 p.2)) $$ H
theorem inv_reached (d : Dev nD) : inv e Y κ ⊢ reached ER (barCell d) 0 := by
  unfold inv
  iintro ⟨-, -, -, H, -⟩
  iapply (sep_get (Finset.mem_univ d) _) $$ H
theorem inv_lev : inv e Y κ ⊢ (levAts L lv : sProp 𝕄) := by
  unfold inv
  iintro ⟨-, -, -, -, H⟩
  iexact H

/-- What device `c` owes, with some record of its waits. -/
def Owes (n k : ℕ) : sProp 𝕄 := iprop(∃ W, owes (c : Thread nD τ) (owed e c n k) W)

/-- The machine's programs of this kernel's body. -/
abbrev PB (α : Type) : Type 1 := Prog (TpuEff nD τ sig (Elt Ideal) Λ₀ .tc) α
/-- The weakest precondition of a piece of the body on device `c`. -/
abbrev wpB {α : Type} (p : PB α) (Q : α → sProp 𝕄) : sProp 𝕄 :=
  wp frame (wpE (defs₀ (F := Ideal)) Variants.none (c : Thread nD τ) none) Set.univ (p : Prog (TpuEff nD τ sig (Elt Ideal) Λ₀ (c : Thread nD τ).2) α) Q

variable {α : Type} {Q : α → sProp 𝕄}

/-! ## Signals and the barrier -/

/-- What device `c` holds for its signal to `N`: -/
def sigTok (N : Dev nD) : sProp 𝕄 := iprop(dutyTok ER (barCell N) 0 (c, 0) ∗ barPay e c N)

theorem wp_sig {n : ℕ} (d : Dev nD) (hd : n = d.val) {sem : Sem sig} (hs : sem = barrier0) {kk : PUnit → PB α} :
    iprop(inv e Y κ ∗ Owes e c n 0 ∗ along (sigTok e c) (fun _ => iprop(emp)) n
        ∗ (Owes e c (n + 1) 0 ∗ along (sigTok e c) (fun _ => iprop(emp)) (n + 1) -∗ wpB c (kk ⟨⟩) Q))
      ⊢ wpB c (semSignalWord d sem 1#32 >>= kk) Q := by
  subst hs
  show _ ⊢ wpB c (Prog.op (.semSignal (d : Thread nD τ) barrier0 ((1 : ℕ) : ℤ)) fun r => kk r) Q
  iintro ⟨#HI, HO, HA, HK⟩
  unfold Owes
  icases HO with ⟨%W, HO⟩
  ihave HA := (along_take (sigTok e c) (fun _ => iprop(emp)) d hd) $$ HA
  icases HA with ⟨HT, HA⟩
  unfold sigTok
  icases HT with ⟨HT, HP⟩
  have hO : owed e c n 0 = owed e c (n + 1) 0 + tallyAt (barCell d) 19 1 := by
    subst hd; unfold owed; rw [from_step dueBar d]; unfold dueBar; abel
  iapply (Rounds.wp_signal Variants.none ER (moe e Y) (c : Thread nD τ) none (κ := κ (barCell d)) (mem_duties_bar e Y d c) (k' := 1) rfl 19
    (owed e c (n + 1) 0) hO) $$ [HO HT HP]
  · isplitr; · iapply (inv_bar e Y κ d); iexact HI
    isplitl [HO]; · iexact HO
    isplitl [HT]; · iexact HT
    isplitl [HP]; · rw [payload_bar]; iexact HP
    iapply (inv_reached e Y κ d); iexact HI
  iintro HO
  iapply HK
  isplitl [HO]; · iexists W; iexact HO
  iapply HA
  iempintro

theorem inv_may : inv e Y κ ⊢ MayWait (c : Thread nD τ) (.reg barrier0) 19 (owed e c 32 0) := by
  refine BI.Entails.trans ?_ (mayWait_bar e c)
  exact @inv_lev e Y κ

theorem bar_pays : (bigSep ((moe e Y).duties (barCell c) 0 \ ∅) fun d => (moe e Y).payload (barCell c) 0 d)
    ⊢ bigSep Finset.univ fun d : Dev nD => barPay e d c :=
  Entails.of_eq ((congrArg (fun s => bigSep s fun d => (moe e Y).payload (barCell c) 0 d)
    ((Finset.sdiff_empty).trans (duties_bar e Y c))).trans (sep_image bar_inj.injOn _))

theorem bar_rest : 0 + 32 = (moe e Y).expect (barCell c) 0 := by rw [expect_bar]

/-- What the barrier brings: the other devices' rows. -/
theorem wp_bar {sem : Sem sig} (hs : sem = barrier0) {kk : PUnit → PB α} :
    iprop(inv e Y κ ∗ Owes e c 32 0 ∗ cred (tallyAt (barCell c) 19 32) ∗ atPos ER (barCell c) 0 ∅ 0
        ∗ (Owes e c 32 0 ∗ atPos ER (barCell c) 1 ∅ 0 ∗ bigSep Finset.univ (fun d : Dev nD => barPay e d c) -∗ wpB c (kk ⟨⟩) Q))
      ⊢ wpB c (semWaitWord sem 32#32 >>= kk) Q := by
  subst hs
  show _ ⊢ wpB c (Prog.op (.semWait barrier0 ((32 : ℕ) : ℤ)) fun r => kk r) Q
  iintro ⟨#HI, HO, HC, HA, HK⟩
  unfold Owes
  icases HO with ⟨%W, HO⟩
  iapply (Rounds.wp_wait_rest_token Variants.none ER (moe e Y) (c : Thread nD τ) none (κ := κ (barCell c))
      (wpE_semWait_eq Variants.none (c : Thread nD τ) none Set.univ) (Set.mem_univ _) 19 (O := owed e c 32 0) (W := W) (R := 0) (m := 0) (T := ∅)
      (bar_rest e Y c)) $$ [HO HC HA]
  · isplitr; · iapply (inv_bar e Y κ c); iexact HI
    isplitl [HC]; · iexact HC
    isplitl [HO]; · iexact HO
    isplitr; · iapply (inv_may e Y κ c); iexact HI
    iexact HA
  iintro ⟨HO, HA, -, HP⟩
  iapply HK
  isplitl [HO]; · iexists _; iexact HO
  isplitl [HA]; · iexact HA
  iapply (bar_pays e Y c) $$ HP

/-! ## A slot -/

/-- What the copy of a slot that leaves takes: its tokens, and the place it goes to. -/
def pass (k : Fin 12) : sProp 𝕄 :=
  iprop(dutyTok ER (sendCell c k) 0 (0, 0) ∗ reached ER (sendCell c k) 0 ∗ dutyTok ER (recvCell (slotDest e c k)) 0 (c, k)
    ∗ reached ER (recvCell (slotDest e c k)) 0 ∗ ∃ f, outRow (slotDest e c k) (slotDrow e (c, k)) f)
/-- Before the copy; -/
def slotBefore (k : Fin 12) : sProp 𝕄 := iprop(yRow c (slotY k) (Y c) ∗ if Remote e c k then pass e c k else iprop(emp))
/-- after it: the product row is away until the send cell returns it. -/
def slotAfter (k : Fin 12) : sProp 𝕄 := if Remote e c k then cred (tallyAt (sendCell c k) 21 A) else yRow c (slotY k) (Y c)

theorem slotDrow_self {k : Fin 12} {n : Fin 512} (h : slotRow e c k = some n) : slotDrow e (c, k) = drow n := slotDrow_eq h

/-- The place of a copied row ends with what the plan says. -/
theorem landed (k : Fin 12) (n : Fin 512) (h : slotRow e c k = some n) (f g : Rows)
    (hg : ∀ j, g (ix2 (drow n) j) = Y c (ix2 (slotY k) j)) : (outRow (dest n) (drow n) g : sProp 𝕄) = outRow (dest n) (drow n) (G e Y (dest n)) :=
  outRow_congr _ _ fun j => (hg j).trans (G_slot e Y h j).symm

theorem copied (k : Fin 12) (n : Fin 512) (h : slotRow e c k = some n) {d : Dev nD} (hd : d = dest n) {r : Fin 16} (hr : r = drow n)
    {o o' : Fin 2 → ℕ} {hin hin'} (ho : o = ![r.val, 0]) (ho' : o' = ![(slotY k).val, 0]) (f : Rows) :
    ((d : Thread nD τ).loc cc0_stg3_0 ↦[(outM o hin).view.set]{fullShare} (outM o hin).view.write (Elt Ideal) f ((yM o' hin').view.read (Elt Ideal) (Y c)) Finset.univ)
      ⊢ (outRow d r (G e Y d) : sProp 𝕄) := by
  subst hd hr
  rw [← landed e Y c k n h f ((outM o hin).view.write (Elt Ideal) f ((yM o' hin').view.read (Elt Ideal) (Y c)) Finset.univ)
    fun j => by rw [outM_write ho, yM_read ho']; rfl]
  unfold outRow
  rw [outM_set ho]

theorem wp_copy {i : ℕ} (k : Fin 12) (hi : i = k.val) {P : Prop} [Decidable P] (hP : P ↔ Remote e c k)
    {dev : P → Dev nD} (hdev : ∀ h, dev h = slotDest e c k)
    {o : P → Fin 2 → ℕ} {hin : ∀ h, ∀ a, o h a + S1x512.size a ≤ S16x512.size a} (ho : ∀ h, o h = ![(slotDrow e (c, k)).val, 0])
    {o' : Fin 2 → ℕ} {hin' : ∀ a, o' a + S1x512.size a ≤ S16x512.size a} (ho' : o' = ![(slotY k).val, 0])
    {sS sR : DmaSem sig} (hS : sS = sendSem k) (hR : sR = recvSem) {hx : (yM o' hin').view.WordExact} {hx' : ∀ h, (outM (o h) (hin h)).view.WordExact}
    {ht : ∀ h, DmaTarget.Typed (nD := nD) (τ := τ) .vmem (.dma sR) (.remote (Dev.tc (dev h)) (outM (o h) (hin h)) (.dma sS))} {kk : PB α} :
    iprop(inv e Y κ ∗ Owes e c 32 i ∗ along (slotBefore e Y c) (slotAfter e Y c) i
        ∗ (Owes e c 32 (i + 1) ∗ along (slotBefore e Y c) (slotAfter e Y c) (i + 1) -∗ wpB c kk Q))
      ⊢ wpB c (if h : P then (Prog.lift (.enqueueDma (yM o' hin') (.remote (Dev.tc (dev h)) (outM (o h) (hin h)) (.dma sS)) (.dma sR) hx (hx' h) (ht h)) >>= fun _ => kk) else kk) Q := by
  by_cases hp : P
  · rw [dif_pos hp]
    obtain rfl : dev = fun _ => slotDest e c k := funext hdev
    obtain rfl : o = fun _ => ![(slotDrow e (c, k)).val, 0] := funext ho
    subst hS hR
    have hr := hP.mp hp
    obtain ⟨n, hn, -⟩ := hP.mp hp
    have hO : owed e c 32 i = owed e c 32 (i + 1) + tallyAt (recvCell (slotDest e c k)) 20 A := by
      subst hi; unfold owed; rw [from_step (dueSend e c) k]; unfold dueSend; rw [if_pos hr]; abel
    show _ ⊢ wpB c (Prog.op (.enqueueDma (yM o' hin') (.remote (Dev.tc (slotDest e c k)) (outM _ (hin hp)) (.dma (sendSem k))) (.dma recvSem) hx (hx' hp) (ht hp)) fun _ => kk) Q
    iintro ⟨#HI, HO, HA, HK⟩
    unfold Owes
    icases HO with ⟨%W, HO⟩
    ihave HA := (along_take _ _ k hi) $$ HA
    icases HA with ⟨HT, HA⟩
    unfold slotBefore slotAfter
    rw [if_pos hr, if_pos hr]
    unfold pass
    icases HT with ⟨HY, HT1, HR1, HT2, HR2, ⟨%f, Ho⟩⟩
    iapply (Rounds.wp_send_pointsTo Variants.none ER (moe e Y) (c : Thread nD τ) none (c' := (slotDest e c k : Thread nD τ)) (src := yM o' hin')
        (dst := outM _ (hin hp)) (sS := .dma (sendSem k)) (sem := .dma recvSem) (q := fullShare) (fs := (Y c : Rows)) (fd := (f : Rows))
        (κ₁ := κ (sendCell c k)) (κ₂ := κ (recvCell (slotDest e c k))) (r₁ := 0) (r₂ := 0) (d₁ := (0, 0)) (d₂ := (c, k))
        (by rw [duties_send, if_pos hr]; exact Finset.mem_singleton_self _)
        (by rw [duties_recv, arrivals_iff]; exact ⟨hr, rfl⟩)
        20 21 A rfl (amount_send e Y c k _) (amount_recv e Y _ _) (owed e c 32 (i + 1)) hO (W := W)
        (by rw [payload_send]; unfold yRow; rw [yM_set ho'])
        (by rw [payload_recv]; exact copied e Y c k n hn (slotDest_eq e hn) (slotDrow_self e c hn) rfl ho' f)) $$ [HY Ho HO HT1 HR1 HT2 HR2]
    · isplitr; · iapply (inv_send e Y κ c k); iexact HI
      isplitr; · iapply (inv_recv e Y κ _); iexact HI
      isplitl [HY]; · unfold yRow; rw [yM_set ho']; iexact HY
      isplitl [Ho]; · unfold outRow; rw [outM_set rfl]; iexact Ho
      isplitl [HO]; · iexact HO
      isplitl [HT1]; · iexact HT1
      isplitl [HR1]; · iexact HR1
      isplitl [HT2] <;> iassumption
    iintro ⟨HC, HO⟩
    iapply HK
    isplitl [HO]; · iexists W; iexact HO
    iapply HA
    iexact HC
  · rw [dif_neg hp]
    have hr : ¬Remote e c k := fun h => hp (hP.mpr h)
    have hO : owed e c 32 i = owed e c 32 (i + 1) := by
      subst hi; unfold owed; rw [from_step (dueSend e c) k]; unfold dueSend; rw [if_neg hr]; abel
    unfold Owes
    rw [hO]
    iintro ⟨-, HO, HA, HK⟩
    ihave HA := (along_take _ _ k hi) $$ HA
    icases HA with ⟨HT, HA⟩
    unfold slotBefore slotAfter
    icases HT with ⟨HY, -⟩
    iapply HK
    isplitl [HO]; · iexact HO
    iapply HA
    rw [if_neg hr]
    iexact HY

/-- The place of a slot that stays, before it is filled, and after. -/
def placeBefore (k : Fin 12) : sProp 𝕄 := if Hits e c (c, k) then iprop(∃ f, outRow c (slotDrow e (c, k)) f) else iprop(emp)
def placeAfter (k : Fin 12) : sProp 𝕄 := if Hits e c (c, k) then outRow c (slotDrow e (c, k)) (G e Y c) else iprop(emp)

theorem slotAfter_yes {k : Fin 12} (h : Remote e c k) : slotAfter e Y c k = cred (tallyAt (sendCell c k) 21 A) := if_pos h
theorem slotAfter_no {k : Fin 12} (h : ¬Remote e c k) : slotAfter e Y c k = yRow c (slotY k) (Y c) := if_neg h
theorem placeBefore_yes {k : Fin 12} (h : Hits e c (c, k)) : (placeBefore e c k : sProp 𝕄) = iprop(∃ f, outRow c (slotDrow e (c, k)) f) := if_pos h
theorem placeAfter_yes {k : Fin 12} (h : Hits e c (c, k)) : (placeAfter e Y c k : sProp 𝕄) = outRow c (slotDrow e (c, k)) (G e Y c) := if_pos h
theorem place_no {k : Fin 12} (h : ¬Hits e c (c, k)) : (placeBefore e c k : sProp 𝕄) = placeAfter e Y c k := (if_neg h).trans (if_neg h).symm

theorem stayed (k : Fin 12) (n : Fin 512) (h : slotRow e c k = some n) (hd : dest n = c) (hh : Hits e c (c, k))
    {o o' : Fin 2 → ℕ} {hin hin'} (ho : o = ![(slotDrow e (c, k)).val, 0]) (ho' : o' = ![(slotY k).val, 0]) (f : Rows) :
    ((c : Thread nD τ).loc cc0_stg3_0 ↦[rowSet (slotDrow e (c, k))]{fullShare} (outM o hin).view.write (Elt Ideal) f ((yM o' hin').view.read (Elt Ideal) (Y c)) Finset.univ)
      ⊢ (placeAfter e Y c k : sProp 𝕄) := by
  rw [placeAfter_yes e Y c hh]
  rw [← outM_set (h := hin) ho]
  exact copied e Y c k n h hd.symm (slotDrow_self e c h) ho ho' f

theorem wp_stay {i : ℕ} (k : Fin 12) (hi : i = k.val) {P : Prop} [Decidable P] (hP : P ↔ Hits e c (c, k))
    {o : Fin 2 → ℕ} {hin : P → ∀ a, o a + S1x512.size a ≤ S16x512.size a} (ho : P → o = ![(slotDrow e (c, k)).val, 0])
    {o' : Fin 2 → ℕ} {hin' : ∀ a, o' a + S1x512.size a ≤ S16x512.size a} (ho' : o' = ![(slotY k).val, 0])
    {hl : (Memref.whole cc0_scratch0 : Memref sig .tc .vmem S16x512 .f32).view.LoadsAt (rowRect o' hin').toLoadRect}
    {hl' : ∀ h, (Memref.whole cc0_stg3_0 : Memref sig .tc .vmem S16x512 .f32).view.LoadsAt (rowRect o (hin h)).toLoadRect}
    {hs : ∀ h, ((Memref.whole cc0_stg3_0 : Memref sig .tc .vmem S16x512 .f32).access (rowRect o (hin h))).Stores Finset.univ}
    {hm : ∀ h, (Finset.univ : Finset (rowRect o (hin h)).shape.Idx) = Finset.univ ∨ ∀ a, (rowRect o (hin h)).stride a = 1} {kk : PB α} :
    iprop(along (slotBefore e Y c) (slotAfter e Y c) (i + 1) ∗ along (placeBefore e c) (placeAfter e Y c) i
        ∗ (along (slotBefore e Y c) (slotAfter e Y c) (i + 1) ∗ along (placeBefore e c) (placeAfter e Y c) (i + 1) -∗ wpB c kk Q))
      ⊢ wpB c (if h : P then (Prog.lift (.load (Memref.whole cc0_scratch0) (rowRect o' hin').toLoadRect hl) >>= fun w =>
          Prog.lift (.load (Memref.whole cc0_stg3_0) (rowRect o (hin h)).toLoadRect (hl' h)) >>= fun _ =>
          Prog.lift (.store (Memref.whole cc0_stg3_0) (rowRect o (hin h)) w Finset.univ (hs h) (hm h)) >>= fun _ => kk) else kk) Q := by
  by_cases hp : P
  · rw [dif_pos hp]
    have hh := hP.mp hp
    obtain ⟨n, hn, hd⟩ := hP.mp hp
    replace hd : dest n = c := hd
    replace hn : slotRow e c k = some n := hn
    have hr : ¬Remote e c k := fun h => ((remote_iff' e c k).mp h).2 (((hits_iff e c c k).mp hh).2)
    have hoo := ho hp
    simp only [Prog.bind_lift]
    iintro ⟨HS, HA, HK⟩
    ihave HS := (along_lend _ _ k (by omega)) $$ HS
    icases HS with ⟨HY, HS⟩
    ihave HA := (along_take _ _ k hi) $$ HA
    icases HA with ⟨HT, HA⟩
    ihave HY := (Entails.of_eq (slotAfter_no e Y c hr)) $$ HY
    ihave HT := (Entails.of_eq (placeBefore_yes e c hh)) $$ HT
    icases HT with ⟨%f, Ho⟩
    unfold outRow yRow
    iapply (wp_load_rect Variants.none (c : Thread nD τ) none Set.univ (m := Memref.whole cc0_scratch0) (r := rowRect o' hin') (S := rowSet (slotY k))
      (q := fullShare) (f := (Y c : Rows)) (by rw [← yM_set ho'])) $$ HY
    iintro HY
    iapply (wp_load_rect Variants.none (c : Thread nD τ) none Set.univ (m := Memref.whole cc0_stg3_0) (r := rowRect o (hin hp)) (S := rowSet (slotDrow e (c, k)))
      (q := fullShare) (f := (f : Rows)) (by rw [← outM_set hoo])) $$ Ho
    iintro Ho
    iapply (wp_store Variants.none (c : Thread nD τ) none Set.univ (m := Memref.whole cc0_stg3_0) (r := rowRect o (hin hp)) (S := rowSet (slotDrow e (c, k)))
      (f := (f : Rows)) (by rw [← outM_set hoo]; exact subset_rfl)) $$ Ho
    iintro Ho
    iapply HK
    isplitl [HS HY]
    · iapply HS
      iapply (Entails.of_eq (slotAfter_no e Y c hr).symm)
      unfold yRow
      iexact HY
    iapply HA
    iapply (stayed e Y c k n hn hd hh hoo ho' f)
    iexact Ho
  · rw [dif_neg hp]
    have hh : ¬Hits e c (c, k) := fun h => hp (hP.mpr h)
    iintro ⟨HS, HA, HK⟩
    ihave HA := (along_take _ _ k hi) $$ HA
    icases HA with ⟨HT, HA⟩
    iapply HK
    isplitl [HS]; · iexact HS
    iapply HA
    iapply (Entails.of_eq (place_no e Y c hh))
    iexact HT

/-! ## Lost rows -/

/-- A row of the result no slot is addressed to, before it is zeroed, and after. -/
def lostBefore (r : Fin 16) : sProp 𝕄 := if kept e (rowOf c r) then iprop(emp) else iprop(∃ f, outRow c r f)
def lostAfter (r : Fin 16) : sProp 𝕄 := if kept e (rowOf c r) then iprop(emp) else outRow c r (G e Y c)

theorem zeroed (he : ∀ n, e n < 64) (r : Fin 16) (hr : ¬kept e (rowOf c r)) {o : Fin 2 → ℕ} {hin} (ho : o = ![r.val, 0]) (f : Rows)
    {z : S1x512.Idx → EReal} (hz : ∀ j, z (ix2 0 j) = 0) :
    ((c : Thread nD τ).loc cc0_stg3_0 ↦[rowSet r]{fullShare} (outM o hin).view.write (Elt Ideal) f z Finset.univ) ⊢ (lostAfter e Y c r : sProp 𝕄) := by
  unfold lostAfter
  rw [if_neg hr]
  exact Entails.of_eq (outRow_congr c r fun j => by rw [outM_write ho, hz, G_lost e Y he hr])

theorem wp_zero (he : ∀ n, e n < 64) {i : ℕ} (r : Fin 16) (hi : i = r.val) {P : Prop} [Decidable P] (hP : P ↔ ¬kept e (rowOf c r))
    {o : Fin 2 → ℕ} {hin : ∀ a, o a + S1x512.size a ≤ S16x512.size a} (ho : o = ![r.val, 0]) {z : S1x512.Idx → EReal} (hz : ∀ j, z (ix2 0 j) = 0)
    {hl : (Memref.whole cc0_stg3_0 : Memref sig .tc .vmem S16x512 .f32).view.LoadsAt (rowRect o hin).toLoadRect}
    {hs : ((Memref.whole cc0_stg3_0 : Memref sig .tc .vmem S16x512 .f32).access (rowRect o hin)).Stores Finset.univ}
    {hm : (Finset.univ : Finset (rowRect o hin).shape.Idx) = Finset.univ ∨ ∀ a, (rowRect o hin).stride a = 1} {kk : PB α} :
    iprop(along (lostBefore e c) (lostAfter e Y c) i ∗ (along (lostBefore e c) (lostAfter e Y c) (i + 1) -∗ wpB c kk Q))
      ⊢ wpB c (if P then (Prog.lift (.load (Memref.whole cc0_stg3_0) (rowRect o hin).toLoadRect hl) >>= fun _ =>
          Prog.lift (.store (Memref.whole cc0_stg3_0) (rowRect o hin) z Finset.univ hs hm) >>= fun _ => kk) else kk) Q := by
  by_cases hp : P
  · rw [if_pos hp]
    have hk := hP.mp hp
    simp only [Prog.bind_lift]
    iintro ⟨HA, HK⟩
    ihave HA := (along_take _ _ r hi) $$ HA
    icases HA with ⟨HT, HA⟩
    ihave HT := (Entails.of_eq (show lostBefore e c r = iprop(∃ f, outRow c r f) from if_neg hk)) $$ HT
    icases HT with ⟨%f, Ho⟩
    unfold outRow
    iapply (wp_load_rect Variants.none (c : Thread nD τ) none Set.univ (m := Memref.whole cc0_stg3_0) (r := rowRect o hin) (S := rowSet r)
      (q := fullShare) (f := (f : Rows)) (by rw [← outM_set ho])) $$ Ho
    iintro Ho
    iapply (wp_store Variants.none (c : Thread nD τ) none Set.univ (m := Memref.whole cc0_stg3_0) (r := rowRect o hin) (S := rowSet r)
      (f := (f : Rows)) (by rw [← outM_set ho]; exact subset_rfl)) $$ Ho
    iintro Ho
    iapply HK
    iapply HA
    iapply (zeroed e Y c he r hk ho f hz)
    iexact Ho
  · rw [if_neg hp]
    have hk : kept e (rowOf c r) := not_not.mp fun h => hp (hP.mpr h)
    iintro ⟨HA, HK⟩
    ihave HA := (along_take _ _ r hi) $$ HA
    icases HA with ⟨HT, HA⟩
    iapply HK
    iapply HA
    iapply (Entails.of_eq (show lostBefore e c r = lostAfter e Y c r from (if_pos hk).trans (if_pos hk).symm))
    iexact HT

/-! ## What the kernel takes for granted of its slots -/

theorem wp_fact {P : Prop} {d : Decidable P} (h : P) {kk : PLift P → PB α} : wpB c (kk ⟨h⟩) Q ⊢ wpB c (Prog.lift (.assume P d) >>= kk) Q :=
  wp_assume Variants.none (c : Thread nD τ) none Set.univ h

/-! ## The waits at the end -/

theorem owed_end : owed e c 32 12 = 0 := by
  unfold owed; rw [from_end _ le_rfl, from_end _ le_rfl, add_zero]

/-- Owing nothing. -/
def Idle : sProp 𝕄 := iprop(∃ W, owes (c : Thread nD τ) 0 W)

theorem idle_intro : Owes e c 32 12 ⊢ Idle c := by
  unfold Owes Idle; rw [owed_end]

/-- The receive cell after `t` arrivals were waited for: some of the rows have been handed over, and with the last all. -/
def arriving (t : ℕ) : sProp 𝕄 :=
  if t < (arrivals e c).card then
    iprop(cred (tallyAt (recvCell c) 20 (((arrivals e c).card - t) * A)) ∗ ∃ S, ⌜S ⊆ arrivals e c⌝ ∗ atPos ER (recvCell c) 0 S (t * A)
      ∗ bigSep S fun p => outRow c (slotDrow e p) (G e Y c))
  else iprop((∃ R, ⌜∀ r, R ≤ r → (moe e Y).duties (recvCell c) r = ∅⌝ ∗ atPos ER (recvCell c) R ∅ 0)
    ∗ bigSep (arrivals e c) fun p => outRow c (slotDrow e p) (G e Y c))

theorem arriving_lt {t : ℕ} (h : t < (arrivals e c).card) : arriving e Y c t =
    iprop(cred (tallyAt (recvCell c) 20 (((arrivals e c).card - t) * A)) ∗ ∃ S, ⌜S ⊆ arrivals e c⌝ ∗ atPos ER (recvCell c) 0 S (t * A)
      ∗ bigSep S fun p => outRow c (slotDrow e p) (G e Y c)) := if_pos h
theorem arriving_ge {t : ℕ} (h : ¬t < (arrivals e c).card) : arriving e Y c t =
    iprop((∃ R, ⌜∀ r, R ≤ r → (moe e Y).duties (recvCell c) r = ∅⌝ ∗ atPos ER (recvCell c) R ∅ 0)
    ∗ bigSep (arrivals e c) fun p => outRow c (slotDrow e p) (G e Y c)) := if_neg h

theorem pays_recv {S T : Finset Du} : (bigSep (S \ T) fun d => (moe e Y).payload (recvCell c) 0 d)
    = bigSep (S \ T) fun d => outRow c (slotDrow e d) (G e Y c) := bigSep_congr fun d _ => payload_recv e Y c d

theorem sep_sdiff {I : Type} [DecidableEq I] {s t : Finset I} (h : t ⊆ s) (Φ : I → sProp 𝕄) :
    bigSep s Φ = iprop(bigSep t Φ ∗ bigSep (s \ t) Φ) := BI.bigSep_sdiff_split h

theorem wp_arrive {t : ℕ} (ht : t < (arrivals e c).card) {sem : DmaSem sig} (hs : sem = recvSem)
    {s s' : Shape} {el el' : EltTy} {src : Memref sig .tc .vmem s' el'} {dst : Memref sig .tc .vmem s el} (hdst : dst.view.dmaCredit = A)
    {hx : src.view.WordExact} {hx' : dst.view.WordExact} {kk : PUnit → PB α} :
    iprop(inv e Y κ ∗ Idle c ∗ arriving e Y c t ∗ (Idle c ∗ arriving e Y c (t + 1) -∗ wpB c (kk ⟨⟩) Q))
      ⊢ wpB c (Prog.lift (.waitDma2 sem src dst hx hx') >>= kk) Q := by
  subst hs
  simp only [Prog.bind_lift]
  rw [arriving_lt e Y c ht]
  by_cases h1 : t + 1 < (arrivals e c).card
  · rw [arriving_lt e Y c h1]
    have hn : ((arrivals e c).card - t) * A = A + ((arrivals e c).card - (t + 1)) * A := by
      rw [show (arrivals e c).card - t = ((arrivals e c).card - (t + 1)) + 1 by omega, Nat.add_mul, Nat.one_mul, Nat.add_comm]
    rw [hn, ← tallyAt_add]
    iintro ⟨#HI, HO, ⟨HC, ⟨%S, %hS, HA, HP⟩⟩, HK⟩
    unfold Idle
    icases HO with ⟨%W, HO⟩
    ihave HC := (cred_add _ _).1 $$ HC
    icases HC with ⟨HC, HC'⟩
    iapply (Rounds.wp_wait Variants.none ER (moe e Y) (c : Thread nD τ) none (κ := κ (recvCell c))
      (wpE_waitDma2_eq Variants.none (c : Thread nD τ) none Set.univ) (Set.mem_univ _) (cr := Finsupp.single 20 A) (O := 0) (W := W)
      {(SemLoc.dma recvSem, 20)} (R := 0) (m := t * A) (T := S) (by rw [hdst]; exact Util.total_single 20 A) (fun x hx => by
        obtain ⟨i, hi, rfl⟩ := Finset.mem_image.mp hx
        rw [Finset.mem_singleton, Finset.mem_singleton.mp (Finsupp.support_single_subset hi)])) $$ [HC HO HA]
    · isplitr; · iapply (inv_recv e Y κ c); iexact HI
      isplitl [HC]; · iexact HC
      isplitl [HO]; · iexact HO
      isplitr; · rw [MayOwe_zero]; iempintro
      iexact HA
    iintro %S' ⟨%h, HO, HA, HP'⟩
    iapply HK
    isplitl [HO]; · iexists _; iexact HO
    isplitl [HC']; · iexact HC'
    iexists S'
    isplitr; · ipureintro; rw [← duties_recv e Y c]; exact h.2.1
    isplitl [HA]
    · rw [Nat.add_mul, Nat.one_mul, ← hdst]; iexact HA
    · rw [sep_sdiff h.1]
      isplitl [HP]; · iexact HP
      rw [← pays_recv]
      iexact HP'
  · rw [arriving_ge e Y c h1]
    have hn : ((arrivals e c).card - t) * A = A := by
      rw [show (arrivals e c).card - t = 1 by omega, Nat.one_mul]
    have hm : t * A + A = (moe e Y).expect (recvCell c) 0 := by
      rw [expect_recv, show (arrivals e c).card = t + 1 by omega, Nat.add_mul, Nat.one_mul]
    rw [hn]
    iintro ⟨#HI, HO, ⟨HC, ⟨%S, %hS, HA, HP⟩⟩, HK⟩
    unfold Idle
    icases HO with ⟨%W, HO⟩
    iapply (Rounds.wp_wait_rest_token Variants.none ER (moe e Y) (c : Thread nD τ) none (κ := κ (recvCell c))
      (wpE_waitDma2_eq Variants.none (c : Thread nD τ) none Set.univ) (Set.mem_univ _) 20 (O := 0) (W := W) (R := 0) (m := t * A) (T := S)
      (by rw [hdst]; exact hm)) $$ [HC HO HA]
    · isplitr; · iapply (inv_recv e Y κ c); iexact HI
      isplitl [HC]; · rw [hdst]; iexact HC
      isplitl [HO]; · iexact HO
      isplitr; · rw [MayWait_zero]; iempintro
      iexact HA
    iintro ⟨HO, HA, -, HP'⟩
    iapply HK
    isplitl [HO]; · iexists _; iexact HO
    isplitl [HA]
    · iexists 1
      isplitr; · ipureintro; exact duties_later e Y _
      iexact HA
    rw [sep_sdiff hS]
    isplitl [HP]; · iexact HP
    rw [← pays_recv, ← duties_recv e Y c]
    iexact HP'

/-- A program that is done. -/
theorem wpB_done {a : α} : Q a ⊢ wpB c (pure a) Q := by
  unfold wpB
  rw [show (Pure.pure a : PB α) = Prog.ret a from rfl, wp_ret]
  iintro H
  imodintro
  iexact H

/-- The arrivals, waited for in a loop of as many trips. -/
theorem wp_arrivals {lb ub st : BitVec 32} (hok : Scf.OK lb ub st) (hn : Scf.trips lb ub st = (arrivals e c).card)
    {body : Fin (Scf.trips lb ub st) → Unit → PB Unit} {sem : DmaSem sig} (hs : sem = recvSem)
    {s s' : Shape} {el el' : EltTy} {src : Memref sig .tc .vmem s' el'} {dst : Memref sig .tc .vmem s el} (hdst : dst.view.dmaCredit = A)
    {hx : src.view.WordExact} {hx' : dst.view.WordExact} (hb : ∀ i a, body i a = (Prog.lift (.waitDma2 sem src dst hx hx') >>= fun _ => pure ()))
    {kk : Unit → PB α} :
    iprop(inv e Y κ ∗ Idle c ∗ arriving e Y c 0 ∗ (Idle c ∗ arriving e Y c (arrivals e c).card -∗ wpB c (kk ⟨⟩) Q))
      ⊢ wpB c (Scf.for lb ub st hok () body >>= kk) Q := by
  iintro ⟨#HI, HO, HA, HK⟩
  iapply (Scf.wp_for_bind frame (wpE (defs₀ (F := Ideal)) Variants.none (c : Thread nD τ) none) Set.univ lb ub st hok () body
    (fun t _ => iprop(inv e Y κ ∗ Idle c ∗ arriving e Y c t)) (fun i a => by
      rw [hb]
      iintro ⟨#HI, HO, HA⟩
      iapply (wp_arrive e Y κ c (t := i.val) (by rw [← hn]; exact i.isLt) hs hdst)
      isplitr; · iexact HI
      isplitl [HO]; · iexact HO
      isplitl [HA]; · iexact HA
      iintro ⟨HO, HA⟩
      iapply (wpB_done c)
      isplitr; · iexact HI
      isplitl [HO] <;> iassumption)) $$ [HO HA]
  · isplitr; · iexact HI
    isplitl [HO] <;> iassumption
  iintro %a ⟨-, HO, HA⟩
  rw [hn]
  iapply HK
  isplitl [HO] <;> iassumption

/-- A slot's send cell, and its product row, before the wait on the copy's departure, -/
def sendBefore (k : Fin 12) : sProp 𝕄 := iprop(slotAfter e Y c k ∗ atPos ER (sendCell c k) 0 ∅ 0)
/-- and after it. -/
def sendAfter (k : Fin 12) : sProp 𝕄 :=
  iprop(yRow c (slotY k) (Y c) ∗ ∃ R, ⌜∀ r, R ≤ r → (moe e Y).duties (sendCell c k) r = ∅⌝ ∗ atPos ER (sendCell c k) R ∅ 0)

theorem send_rest {k : Fin 12} (h : Remote e c k) : 0 + A = (moe e Y).expect (sendCell c k) 0 := by rw [expect_send e Y c k h, Nat.zero_add]

theorem pays_send {k : Fin 12} (h : Remote e c k) : (bigSep ((moe e Y).duties (sendCell c k) 0 \ ∅) fun d => (moe e Y).payload (sendCell c k) 0 d)
    ⊢ yRow c (slotY k) (Y c) := by
  rw [Finset.sdiff_empty, duties_send, if_pos h, BI.bigSep_singleton, payload_send]

theorem send_none {k : Fin 12} (h : ¬Remote e c k) : ∀ r, 0 ≤ r → (moe e Y).duties (sendCell c k) r = ∅ := fun r _ => by
  rcases Nat.eq_zero_or_pos r with rfl | hr
  · rw [duties_send, if_neg h]
  · exact duties_later e Y _ r hr

theorem wp_depart {i : ℕ} (k : Fin 12) (hi : i = k.val) {P : Prop} [Decidable P] (hP : P ↔ Remote e c k) {sem : DmaSem sig} (hs : sem = sendSem k)
    {s s' : Shape} {el el' : EltTy} {src : Memref sig .tc .vmem s' el'} {dst : Memref sig .tc .vmem s el} (hdst : dst.view.dmaCredit = A)
    {hx : src.view.WordExact} {hx' : dst.view.WordExact} {kk : PB α} :
    iprop(inv e Y κ ∗ Idle c ∗ along (sendBefore e Y c) (sendAfter e Y c) i
        ∗ (Idle c ∗ along (sendBefore e Y c) (sendAfter e Y c) (i + 1) -∗ wpB c kk Q))
      ⊢ wpB c (if P then (Prog.lift (.waitDma2 sem src dst hx hx') >>= fun _ => kk) else kk) Q := by
  subst hs
  by_cases hp : P
  · rw [if_pos hp]
    have hr := hP.mp hp
    simp only [Prog.bind_lift]
    iintro ⟨#HI, HO, HA, HK⟩
    ihave HA := (along_take _ _ k hi) $$ HA
    icases HA with ⟨HT, HA⟩
    unfold sendBefore sendAfter Idle
    icases HT with ⟨HC, HP⟩
    ihave HC := (Entails.of_eq (slotAfter_yes e Y c hr)) $$ HC
    icases HO with ⟨%W, HO⟩
    iapply (Rounds.wp_wait_rest_token Variants.none ER (moe e Y) (c : Thread nD τ) none (κ := κ (sendCell c k))
      (wpE_waitDma2_eq Variants.none (c : Thread nD τ) none Set.univ) (Set.mem_univ _) 21 (O := 0) (W := W) (R := 0) (m := 0) (T := ∅)
      (by rw [hdst]; exact send_rest e Y c hr)) $$ [HC HO HP]
    · isplitr; · iapply (inv_send e Y κ c k); iexact HI
      isplitl [HC]; · rw [hdst]; iexact HC
      isplitl [HO]; · iexact HO
      isplitr; · rw [MayWait_zero]; iempintro
      iexact HP
    iintro ⟨HO, HP, -, HY⟩
    iapply HK
    isplitl [HO]; · iexists _; iexact HO
    iapply HA
    isplitl [HY]; · iapply (pays_send e Y c hr) $$ HY
    iexists 1
    isplitr; · ipureintro; exact duties_later e Y _
    iexact HP
  · rw [if_neg hp]
    have hr : ¬Remote e c k := fun h => hp (hP.mpr h)
    iintro ⟨-, HO, HA, HK⟩
    ihave HA := (along_take _ _ k hi) $$ HA
    icases HA with ⟨HT, HA⟩
    unfold sendBefore sendAfter
    icases HT with ⟨HC, HP⟩
    ihave HC := (Entails.of_eq (slotAfter_no e Y c hr)) $$ HC
    iapply HK
    isplitl [HO]; · iexact HO
    iapply HA
    isplitl [HC]; · iexact HC
    iexists 0
    isplitr; · ipureintro; exact send_none e Y c hr
    iexact HP

end Cert.Moe

end
-- ==== Proof.Words.lean ====
module

public import proofs.«01_k».proof.Proof.Steps
public import Idealize.ShloMosaic.Lib.LoopRemainder

/-! The words the kernel reads of a slot and of a result row, and what its conditions, checks, offsets and loop bounds come to. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

section Words

variable (e : Fin 512 → ℕ) (c : Dev nD) (k : Fin 12)

/-- Whether a slot is taken, the device its row goes to, the row there; and whether its row leaves the device. -/
def takenW : BitVec 1 := if (slotRow e c k).isSome then 1#1 else 0#1
def destW : BitVec 32 := BitVec.ofNat 32 (slotDest e c k).val
def rowW : BitVec 32 := BitVec.ofNat 32 (slotDrow e (c, k)).val
def awayW : BitVec 1 := if Remote e c k then 1#1 else 0#1
/-- The device's own number. -/
def meW : BitVec 32 := Scalar.remsi (Scalar.divsi (Dev.word c) 1#32) 32#32

theorem meW_eq : meW c = BitVec.ofNat 32 c.val := by
  revert c
  show ∀ c : Fin 32, Scalar.remsi (Scalar.divsi (Dev.word (nD := 32) c) 1#32) 32#32 = BitVec.ofNat 32 c.val
  decide

theorem cmpi_ne_word {w : ℕ} (a b : BitVec w) : IntOp.cmpi .ne a b = if a = b then 0#1 else 1#1 := by
  by_cases h : a = b
  · rw [if_pos h, h]
    show BitVec.ofBool (b != b) = 0#1
    simp
  · rw [if_neg h]
    show BitVec.ofBool (a != b) = 1#1
    rw [bne_iff_ne.2 h]
    rfl

theorem wide_bit (b : BitVec 1) : (Scalar.cmpi .ne (Scalar.extui b : BitVec 32) 0#32 = 1#1) ↔ b = 1#1 := by
  revert b; decide

theorem dest_word (d d' : Dev nD) : BitVec.ofNat 32 d.val = BitVec.ofNat 32 d'.val ↔ d = d' := by
  have h : d.val < 32 := d.isLt
  have h' : d'.val < 32 := d'.isLt
  rw [ofNat_inj (by omega) (by omega)]
  exact Fin.ext_iff.symm

variable {e c k}
variable {w0 : BitVec 1} {w1 w2 : BitVec 32}

/-- The kernel's flag of a slot whose row leaves. -/
theorem away_word (h0 : w0 = takenW e c k) (h1 : w1 = destW e c k) : Scalar.andi w0 (Scalar.cmpi .ne w1 (meW c)) = awayW e c k := by
  subst h0 h1
  show IntOp.andi _ (IntOp.cmpi .ne _ _) = _
  rw [cmpi_ne_word, meW_eq]
  unfold takenW destW awayW
  simp only [dest_word, remote_iff']
  by_cases ha : (slotRow e c k).isSome <;> by_cases hb : slotDest e c k = c <;> simp [ha, hb, IntOp.andi]

theorem home_word (h0 : w0 = takenW e c k) (h1 : w1 = destW e c k) : Scalar.andi w0 (Scalar.cmpi .eq w1 (meW c)) = 1#1 ↔ Hits e c (c, k) := by
  subst h0 h1
  show IntOp.andi _ (IntOp.cmpi .eq _ _) = _ ↔ _
  rw [cmpi_eq_word, meW_eq]
  unfold takenW destW
  simp only [dest_word, hits_iff]
  by_cases ha : (slotRow e c k).isSome <;> by_cases hb : slotDest e c k = c <;> simp [ha, hb, IntOp.andi]

theorem awayW_iff : awayW e c k = 1#1 ↔ Remote e c k := by unfold awayW; exact ite_bit

theorem cond_away (h0 : w0 = takenW e c k) (h1 : w1 = destW e c k) : k0_cond1 c w0 w1 = 1#1 ↔ Remote e c k :=
  (wide_bit _).trans (by rw [show Scalar.andi w0 (Scalar.cmpi .ne w1 (Scalar.remsi (Scalar.divsi (Dev.word c) 1#32) 32#32)) = awayW e c k from away_word h0 h1]; exact awayW_iff)

theorem cond_home (h0 : w0 = takenW e c k) (h1 : w1 = destW e c k) : k0_cond2 c w0 w1 = 1#1 ↔ Hits e c (c, k) :=
  (wide_bit _).trans (home_word h0 h1)

theorem dev_word (h1 : w1 = destW e c k) : k0_dev33 w1 = (slotDest e c k).val := by
  subst h1
  have h : (slotDest e c k).val < 32 := (slotDest e c k).isLt
  show (0#32 + destW e c k * 1#32).toNat = _
  unfold destW
  rw [BitVec.mul_one, BitVec.zero_add, BitVec.toNat_ofNat, Nat.mod_eq_of_lt (by omega)]

theorem row_word (h2 : w2 = rowW e c k) : k0_off1 w2 = ![(slotDrow e (c, k)).val, 0] := by
  subst h2
  have h : (slotDrow e (c, k)).val < 16 := (slotDrow e (c, k)).isLt
  show ![(rowW e c k).toNat, 0] = _
  unfold rowW
  rw [BitVec.toNat_ofNat, Nat.mod_eq_of_lt (by omega)]

theorem row_word' (h2 : w2 = rowW e c k) : k0_off2 w2 = ![(slotDrow e (c, k)).val, 0] := by
  subst h2
  have h : (slotDrow e (c, k)).val < 16 := (slotDrow e (c, k)).isLt
  show ![(rowW e c k).toNat, 0] = _
  unfold rowW
  rw [BitVec.toNat_ofNat, Nat.mod_eq_of_lt (by omega)]

theorem row_inside (r : Fin 16) (a : Fin 2) : (![r.val, 0] : Fin 2 → ℕ) a + S1x512.size a ≤ S16x512.size a := by
  have h := r.isLt
  fin_cases a
  · show r.val + 1 ≤ 16
    omega
  · show 0 + 512 ≤ 512
    omega

theorem chk_dev (h1 : w1 = destW e c k) : k0_chk2 c w0 w1 := fun _ => by rw [dev_word h1]; exact (slotDest e c k).isLt
theorem chk_row (h2 : w2 = rowW e c k) : k0_chk1 c w0 w1 w2 :=
  ⟨fun _ => by rw [row_word h2]; exact row_inside _, fun _ => by rw [row_word' h2]; exact row_inside _⟩

/-! ## Read from the slot table -/

variable {v : S512x1.Idx → BitVec 32} (he : ∀ n, expert v n < 64)

theorem slice_at {S : Shape} (t : S.Idx → EReal) {o : Fin S.rank → ℕ} {hs : S.Slices o S1x1} {hi : ∀ a, (![0, 0] : Fin 2 → ℕ) a < S1x1.size a} {i : S.Idx}
    (h : ∀ a, (i a).val = o a) : extractAt ![0, 0] (extractStridedSlice S1x1 o t hs) hi = t i := by
  show t _ = t i
  congr 1
  funext a
  apply Fin.ext
  show o a + (![0, 0] : Fin 2 → ℕ) (a.cast hs.1.symm) = (i a).val
  rw [h a]
  have h0 : ∀ b : Fin 2, (![0, 0] : Fin 2 → ℕ) b = 0 := by decide
  rw [h0]
  rfl

variable {hi : ∀ a, (![0, 0] : Fin 2 → ℕ) a < S1x1.size a}

include he in
theorem taken_read (c : Dev nD) (k : Fin 12) {hs : S16x3.Slices ![(slotY k).val, 2] S1x1} :
    Scalar.cmpf (F := Ideal) .ogt (extractAt ![0, 0] (extractStridedSlice S1x1 ![(slotY k).val, 2] (tableOf v c) hs) hi) (Scalar.ofBits .f32 0x3F000000#32)
      = takenW (expert v) c k := by
  rw [slice_at (i := ix2 (slotY k) 2) _ (by intro a; fin_cases a <;> rfl), tableOf_taken v he]
  show BitVec.ofBool (decide (Ideal.ofBits .f32 0x3F000000#32 < _)) = _
  simp only [ofBits_half, bool_bit, half_lt_ind]
  rfl

include he in
theorem dest_read (c : Dev nD) (k : Fin 12) {hs : S16x3.Slices ![(slotY k).val, 0] S1x1} :
    Scalar.fptosi (F := Ideal) 32 (extractAt ![0, 0] (extractStridedSlice S1x1 ![(slotY k).val, 0] (tableOf v c) hs) hi) = destW (expert v) c k := by
  rw [slice_at (i := ix2 (slotY k) 0) _ (by intro a; fin_cases a <;> rfl), tableOf_dest v he]
  have h : (((slotRow (expert v) c k).map fun n => n.val / 16).getD 0) = (slotDest (expert v) c k).val := by
    unfold slotDest; cases slotRow (expert v) c k <;> rfl
  have hb : (slotDest (expert v) c k).val < 32 := (slotDest (expert v) c k).isLt
  rw [h]
  exact fptosi_nat (by omega)

include he in
theorem row_read (c : Dev nD) (k : Fin 12) {hs : S16x3.Slices ![(slotY k).val, 1] S1x1} :
    Scalar.fptosi (F := Ideal) 32 (extractAt ![0, 0] (extractStridedSlice S1x1 ![(slotY k).val, 1] (tableOf v c) hs) hi) = rowW (expert v) c k := by
  rw [slice_at (i := ix2 (slotY k) 1) _ (by intro a; fin_cases a <;> rfl), tableOf_row v he]
  have h : (((slotRow (expert v) c k).map fun n => n.val % 16).getD 0) = (slotDrow (expert v) (c, k)).val := by
    unfold slotDrow; cases slotRow (expert v) c k <;> rfl
  have hb : (slotDrow (expert v) (c, k)).val < 16 := (slotDrow (expert v) (c, k)).isLt
  rw [h]
  exact fptosi_nat (by omega)

/-! ## Read from the table of result rows -/

theorem ind_lt_half (p : Prop) [Decidable p] : ((if p then 1 else 0 : EReal) < (((1 : ℝ) / 2 : ℝ) : EReal)) = ¬p := by
  apply propext
  by_cases h : p
  · simp only [h, if_true, not_true, iff_false, not_lt]
    exact_mod_cast (by norm_num : (1 : ℝ) / 2 ≤ 1)
  · simp only [h, if_false, not_false_iff, iff_true]
    exact_mod_cast (by norm_num : (0 : ℝ) < 1 / 2)

include he in
theorem lost_read (c : Dev nD) (r : Fin 16) {hs : S16x2.Slices ![r.val, 0] S1x1} :
    Scalar.cmpi .ne (Scalar.extui (Scalar.cmpf (F := Ideal) .olt (extractAt ![0, 0] (extractStridedSlice S1x1 ![r.val, 0] (recvOf v c) hs) hi)
      (Scalar.ofBits .f32 0x3F000000#32)) : BitVec 32) 0#32 = 1#1 ↔ ¬kept (expert v) (rowOf c r) := by
  rw [wide_bit, slice_at (i := ix2 r 0) _ (by intro a; fin_cases a <;> rfl), recvOf_kept v he]
  show BitVec.ofBool (decide (_ < Ideal.ofBits .f32 0x3F000000#32)) = _ ↔ _
  simp only [ofBits_half, bool_bit, ite_bit, ind_lt_half]

theorem zero_read (j : Fin 512) : k0_pay62 (F := Ideal) (ix2 0 j) = 0 := by
  show Ideal.ofBits .f32 0x00000000#32 = 0
  simp [Ideal.ofBits, Ideal.ieee]

/-! ## The loops over the arrivals -/

theorem t1_ub (w : BitVec 32) : (k0_t1_loop w).ub = w := by
  show Scalar.addi 0#32 (Scalar.muli (Scalar.divsi (Scalar.subi w 0#32) 1#32) 1#32) = w
  rw [Scalar.muli_divsi_one]
  show 0#32 + (w - 0#32) = w
  rw [BitVec.zero_add, BitVec.sub_zero]

theorem ofNat_toInt {n : ℕ} (h : n < 2 ^ 31) : (BitVec.ofNat 32 n).toInt = n := by
  rw [BitVec.toInt_ofNat']
  rw [Int.bmod_eq_of_le] <;> omega

theorem trips_upto {n : ℕ} (h : n < 2 ^ 31) : Scf.trips 0#32 (BitVec.ofNat 32 n) 1#32 = n := by
  have h0 : (0#32 : BitVec 32).toInt = 0 := by decide
  have h1 : (1#32 : BitVec 32).toInt = 1 := by decide
  unfold Scf.trips
  rw [ofNat_toInt h, h0, h1]
  omega

theorem trips_t1 {n : ℕ} (h : n < 2 ^ 31) : Scf.trips (k0_t1_loop (BitVec.ofNat 32 n)).lb (k0_t1_loop (BitVec.ofNat 32 n)).ub (k0_t1_loop (BitVec.ofNat 32 n)).st = n := by
  rw [t1_ub]
  exact trips_upto h

theorem trips_t2 (w : BitVec 32) : Scf.trips (k0_t2_loop w).lb (k0_t2_loop w).ub (k0_t2_loop w).st = 0 := Scf.rem_trips 0#32 (Scalar.subi w 0#32)

theorem chk_loops {n : ℕ} (h : n < 2 ^ 31) : k0_chk25 (BitVec.ofNat 32 n) := by
  refine ⟨?_, Scf.rem_ok 0#32 (Scalar.subi (BitVec.ofNat 32 n) 0#32)⟩
  show Scf.OK (k0_t1_loop (BitVec.ofNat 32 n)).lb (k0_t1_loop (BitVec.ofNat 32 n)).ub (k0_t1_loop (BitVec.ofNat 32 n)).st
  unfold Scf.OK
  rw [trips_t1 h]
  show 0 < (1#32 : BitVec 32).toInt ∧ (0#32 : BitVec 32).toInt + n * (1#32 : BitVec 32).toInt < 2 ^ 31
  have h0 : (0#32 : BitVec 32).toInt = 0 := by decide
  have h1 : (1#32 : BitVec 32).toInt = 1 := by decide
  rw [h0, h1]
  omega

theorem arrivals_few (e : Fin 512 → ℕ) (c : Dev nD) : (arrivals e c).card < 2 ^ 31 := by
  have h := Finset.card_le_univ (arrivals e c)
  rw [Fintype.card_prod, Fintype.card_fin, Fintype.card_fin] at h
  omega

end Words

end Cert.Moe

end
-- ==== Proof.Slots.lean ====
module

public import proofs.«01_k».proof.Proof.Words

/-! The kernel's twelve slots: each read from the slot table, copied to its row's device where that is another, and stored
    into the device's own result rows where it is this one. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

variable (e : Fin 512 → ℕ) (Y : Dev nD → Rows) (κ : GSem nD τ sig → ℕ) (c : Dev nD)
variable {α : Type} {Q : α → sProp 𝕄}

/-- The slots before `i` are done with. -/
def Slots (i : ℕ) : sProp 𝕄 :=
  iprop(inv e Y κ ∗ Owes e c 32 i ∗ along (slotBefore e Y c) (slotAfter e Y c) i ∗ along (placeBefore e c) (placeAfter e Y c) i)

variable {w0 : BitVec 1} {w1 w2 : BitVec 32}

/-- A slot: the copy if its row leaves, the store if it stays. -/
theorem slot_step {i : ℕ} (k : Fin 12) (hi : i = k.val) (h0 : w0 = takenW e c k) (h1 : w1 = destW e c k) (h2 : w2 = rowW e c k)
    {g2 : k0_chk2 c w0 w1} {g1 : k0_chk1 c w0 w1 w2}
    {o' : Fin 2 → ℕ} {hin' : ∀ a, o' a + S1x512.size a ≤ S16x512.size a} (ho' : o' = ![(slotY k).val, 0])
    {sS sR : DmaSem sig} (hS : sS = sendSem k) (hR : sR = recvSem) {hx : (yM o' hin').view.WordExact}
    {hx' : ∀ h, (outM (k0_off1 w2) (k0_off1_inb c w0 w1 w2 g1 h)).view.WordExact}
    {ht : ∀ h, DmaTarget.Typed (nD := nD) (τ := τ) .vmem (.dma sR)
      (.remote (Dev.tc (⟨k0_dev33 w1, k0_dev33_lt c w0 w1 g2 h⟩ : Dev nD)) (outM (k0_off1 w2) (k0_off1_inb c w0 w1 w2 g1 h)) (.dma sS))}
    {hl : (Memref.whole cc0_scratch0 : Memref sig .tc .vmem S16x512 .f32).view.LoadsAt (rowRect o' hin').toLoadRect}
    {hl' : ∀ h, (Memref.whole cc0_stg3_0 : Memref sig .tc .vmem S16x512 .f32).view.LoadsAt (rowRect (k0_off2 w2) (k0_off2_inb c w0 w1 w2 g1 h)).toLoadRect}
    {hs : ∀ h, ((Memref.whole cc0_stg3_0 : Memref sig .tc .vmem S16x512 .f32).access (rowRect (k0_off2 w2) (k0_off2_inb c w0 w1 w2 g1 h))).Stores Finset.univ}
    {hm : ∀ h, (Finset.univ : Finset (rowRect (k0_off2 w2) (k0_off2_inb c w0 w1 w2 g1 h)).shape.Idx) = Finset.univ ∨ ∀ a, (rowRect (k0_off2 w2) (k0_off2_inb c w0 w1 w2 g1 h)).stride a = 1}
    {kk : PB α} {R : sProp 𝕄} (hk : iprop(Slots e Y κ c (i + 1) ∗ R) ⊢ wpB c kk Q) :
    iprop(Slots e Y κ c i ∗ R)
      ⊢ wpB c (have jp : Unit → PB α := fun _ =>
            if h : k0_cond2 c w0 w1 = 1#1 then (Prog.lift (.load (Memref.whole cc0_scratch0) (rowRect o' hin').toLoadRect hl) >>= fun w =>
              Prog.lift (.load (Memref.whole cc0_stg3_0) (rowRect (k0_off2 w2) (k0_off2_inb c w0 w1 w2 g1 h)).toLoadRect (hl' h)) >>= fun _ =>
              Prog.lift (.store (Memref.whole cc0_stg3_0) (rowRect (k0_off2 w2) (k0_off2_inb c w0 w1 w2 g1 h)) w Finset.univ (hs h) (hm h)) >>= fun _ => kk) else kk
          if h : k0_cond1 c w0 w1 = 1#1 then (Prog.lift (.enqueueDma (yM o' hin') (.remote (Dev.tc (⟨k0_dev33 w1, k0_dev33_lt c w0 w1 g2 h⟩ : Dev nD))
            (outM (k0_off1 w2) (k0_off1_inb c w0 w1 w2 g1 h)) (.dma sS)) (.dma sR) hx (hx' h) (ht h)) >>= fun _ => jp ⟨⟩) else jp ⟨⟩) Q := by
  refine (show _ ⊢ iprop(Slots e Y κ c i ∗ (Slots e Y κ c (i + 1) -∗ wpB c kk Q)) from sep_mono .rfl (wand_intro_left hk)).trans ?_
  unfold Slots
  iintro ⟨⟨#HI, HO, HS, HP⟩, HK⟩
  iapply (wp_copy e Y κ c k hi (cond_away h0 h1) (fun h => Fin.ext (dev_word h1)) (fun _ => row_word h2) ho' hS hR) $$ [HO HS HP HK]
  isplitr; · iexact HI
  isplitl [HO]; · iexact HO
  isplitl [HS]; · iexact HS
  iintro ⟨HO, HS⟩
  iapply (wp_stay e Y c k hi (cond_home h0 h1) (fun _ => row_word' h2) ho') $$ [HO HS HP HK]
  isplitl [HS]; · iexact HS
  isplitl [HP]; · iexact HP
  iintro ⟨HS, HP⟩
  iapply HK
  isplitr; · iexact HI
  isplitl [HO]; · iexact HO
  isplitl [HS] <;> iassumption

/-- A fact the kernel takes for granted. -/
theorem fact_step {P : Prop} {d : Decidable P} (h : P) {kk : PLift P → PB α} {R : sProp 𝕄} (hk : R ⊢ wpB c (kk ⟨h⟩) Q) :
    R ⊢ wpB c (Prog.lift (.assume P d) >>= kk) Q := hk.trans (wp_fact c h)

/-! ## The parts of the body that handle slots -/

section Parts

variable (v : S512x1.Idx → BitVec 32) (he : ∀ n, expert v n < 64)
variable {a0 : (Memref.whole cc0_stg0_0 : Memref sig .tc .vmem S512x256 .f32).IsWhole} {a1 : (Memref.whole cc0_stg1_0 : Memref sig .tc .vmem S512x1 .i32).IsWhole}
  {a2 : (Memref.whole cc0_stg2_0 : Memref sig .tc .vmem S2x256x512 .f32).IsWhole} {a3 : (Memref.whole cc0_stg3_0 : Memref sig .tc .vmem S16x512 .f32).IsWhole}
  {a4 : (Memref.whole cc0_scratch0 : Memref sig .tc .vmem S16x512 .f32).IsWhole}

variable {R : sProp 𝕄}

include he in
/-- Slots 0 and 1, and the facts about slot 2. -/
theorem part8_run {w0 : BitVec 1} {w1 : FVec Ideal S1x1 .f32} {hs : S16x3.Slices ![0, 0] S1x1} (h0 : w0 = takenW (expert v) c 0)
    (h1 : w1 = extractStridedSlice S1x1 ![0, 0] (tableOf v c) hs)
    {Q : (Σ' (v208 : BitVec 1) (v225 : BitVec 1) (v234 : BitVec 1) (v237 : BitVec 32) (h6 : k0_chk6 c v234 v237) (v240 : BitVec 32) (h5 : k0_chk5 c v234 v237 v240) (v242 : BitVec 1) (v244 : BitVec 1), BitVec 32) → sProp 𝕄}
    (hk : ∀ v234 v237 h6 v240 h5 v244 v245, v234 = takenW (expert v) c 2 → v237 = destW (expert v) c 2 → v240 = rowW (expert v) c 2 →
      iprop(Slots (expert v) Y κ c 2 ∗ R) ⊢ Q ⟨awayW (expert v) c 0, awayW (expert v) c 1, v234, v237, h6, v240, h5, awayW (expert v) c 2, v244, v245⟩) :
    iprop(Slots (expert v) Y κ c 0 ∗ R)
      ⊢ wpB c (k0_part8_skel (Memref.whole cc0_stg0_0) a0 (Memref.whole cc0_stg1_0) a1 (Memref.whole cc0_stg2_0) a2 (Memref.whole cc0_stg3_0) a3
        (Memref.whole cc0_scratch0) a4 cc0_scratch1 cc0_scratch2 c (meW c) (tableOf v c) w0 w1) Q := by
  unfold k0_part8_skel
  extract_lets v203 v206 _ v208 _ v217 v220 v223 _ v225 v234 v237 v240 _ v242 _ v244 v245
  have t0 := h0
  have d0 : v203 = destW (expert v) c 0 := by
    show Scalar.fptosi 32 (k0_pay18 w1) = _
    rw [h1]
    exact dest_read he c 0
  have r0 : v206 = rowW (expert v) c 0 := row_read he c 0
  have t1 : v217 = takenW (expert v) c 1 := taken_read he c 1
  have d1 : v220 = destW (expert v) c 1 := dest_read he c 1
  have r1 : v223 = rowW (expert v) c 1 := row_read he c 1
  have t2 : v234 = takenW (expert v) c 2 := taken_read he c 2
  have d2 : v237 = destW (expert v) c 2 := dest_read he c 2
  have r2 : v240 = rowW (expert v) c 2 := row_read he c 2
  have o0 : v208 = awayW (expert v) c 0 := away_word t0 d0
  have o1 : v225 = awayW (expert v) c 1 := away_word t1 d1
  have o2 : v242 = awayW (expert v) c 2 := away_word t2 d2
  refine fact_step c (chk_dev d0) (fact_step c (chk_row r0) ?_)
  refine slot_step (expert v) Y κ c 0 rfl t0 d0 r0 (g2 := chk_dev d0) (g1 := chk_row r0) rfl rfl rfl ?_
  refine fact_step c (chk_dev d1) (fact_step c (chk_row r1) ?_)
  refine slot_step (expert v) Y κ c 1 rfl t1 d1 r1 (g2 := chk_dev d1) (g1 := chk_row r1) rfl rfl rfl ?_
  refine fact_step c (chk_dev d2) (fact_step c (chk_row r2) ?_)
  refine (?_ : _ ⊢ _).trans (wpB_done c)
  rw [o0, o1, o2]
  exact hk _ _ _ _ _ _ _ t2 d2 r2

include he in
/-- Slots 2, 3 and 4. -/
theorem part9_run {v234 : BitVec 1} {v237 v240 v245 : BitVec 32} {v244 : BitVec 1} {h6 : k0_chk6 c v234 v237} {h5 : k0_chk5 c v234 v237 v240}
    (h0 : v234 = takenW (expert v) c 2) (h1 : v237 = destW (expert v) c 2) (h2 : v240 = rowW (expert v) c 2)
    {Q : (Σ' (v259 : BitVec 1) (v276 : BitVec 1) (v285 : BitVec 1), FVec Ideal S1x1 .f32) → sProp 𝕄}
    (hk : iprop(Slots (expert v) Y κ c 5 ∗ R) ⊢ Q ⟨awayW (expert v) c 3, awayW (expert v) c 4, takenW (expert v) c 5, k0_pay33 (tableOf v c)⟩) :
    iprop(Slots (expert v) Y κ c 2 ∗ R)
      ⊢ wpB c (k0_part9_skel (Memref.whole cc0_stg0_0) a0 (Memref.whole cc0_stg1_0) a1 (Memref.whole cc0_stg2_0) a2 (Memref.whole cc0_stg3_0) a3
        (Memref.whole cc0_scratch0) a4 cc0_scratch1 cc0_scratch2 c (meW c) (tableOf v c) v234 v237 h6 v240 h5 v244 v245) Q := by
  unfold k0_part9_skel
  refine slot_step (expert v) Y κ c 2 rfl h0 h1 h2 (g2 := chk_dev h1) (g1 := chk_row h2) rfl rfl rfl ?_
  beta_reduce
  extract_lets _ v251 v254 v257 _ v259 v268 v271 v274 _ v276 v285
  have t3 : v251 = takenW (expert v) c 3 := taken_read he c 3
  have d3 : v254 = destW (expert v) c 3 := dest_read he c 3
  have r3 : v257 = rowW (expert v) c 3 := row_read he c 3
  have t4 : v268 = takenW (expert v) c 4 := taken_read he c 4
  have d4 : v271 = destW (expert v) c 4 := dest_read he c 4
  have r4 : v274 = rowW (expert v) c 4 := row_read he c 4
  have o3 : v259 = awayW (expert v) c 3 := away_word t3 d3
  have o4 : v276 = awayW (expert v) c 4 := away_word t4 d4
  have t5 : v285 = takenW (expert v) c 5 := taken_read he c 5
  refine fact_step c (chk_dev d3) (fact_step c (chk_row r3) ?_)
  refine slot_step (expert v) Y κ c 3 rfl t3 d3 r3 (g2 := chk_dev d3) (g1 := chk_row r3) rfl rfl rfl ?_
  refine fact_step c (chk_dev d4) (fact_step c (chk_row r4) ?_)
  refine slot_step (expert v) Y κ c 4 rfl t4 d4 r4 (g2 := chk_dev d4) (g1 := chk_row r4) rfl rfl rfl ?_
  refine (?_ : _ ⊢ _).trans (wpB_done c)
  rw [o3, o4, t5]
  exact hk

include he in
/-- Slots 5 and 6, and the facts about slot 7. -/
theorem part10_run {w0 : BitVec 1} {w1 : FVec Ideal S1x1 .f32} {hs : S16x3.Slices ![5, 0] S1x1} (h0 : w0 = takenW (expert v) c 5)
    (h1 : w1 = extractStridedSlice S1x1 ![5, 0] (tableOf v c) hs)
    {Q : (Σ' (v293 : BitVec 1) (v310 : BitVec 1) (v319 : BitVec 1) (v322 : BitVec 32) (h16 : k0_chk16 c v319 v322) (v325 : BitVec 32) (h15 : k0_chk15 c v319 v322 v325) (v327 : BitVec 1) (v329 : BitVec 1), BitVec 32) → sProp 𝕄}
    (hk : ∀ v319 v322 h16 v325 h15 v329 v330, v319 = takenW (expert v) c 7 → v322 = destW (expert v) c 7 → v325 = rowW (expert v) c 7 →
      iprop(Slots (expert v) Y κ c 7 ∗ R) ⊢ Q ⟨awayW (expert v) c 5, awayW (expert v) c 6, v319, v322, h16, v325, h15, awayW (expert v) c 7, v329, v330⟩) :
    iprop(Slots (expert v) Y κ c 5 ∗ R)
      ⊢ wpB c (k0_part10_skel (Memref.whole cc0_stg0_0) a0 (Memref.whole cc0_stg1_0) a1 (Memref.whole cc0_stg2_0) a2 (Memref.whole cc0_stg3_0) a3
        (Memref.whole cc0_scratch0) a4 cc0_scratch1 cc0_scratch2 c (meW c) (tableOf v c) w0 w1) Q := by
  unfold k0_part10_skel
  extract_lets v288 v291 _ v293 _ v302 v305 v308 _ v310 v319 v322 v325 _ v327 _ v329 v330
  have t5 := h0
  have d5 : v288 = destW (expert v) c 5 := by
    show Scalar.fptosi 32 (k0_pay34 w1) = _
    rw [h1]
    exact dest_read he c 5
  have r5 : v291 = rowW (expert v) c 5 := row_read he c 5
  have t6 : v302 = takenW (expert v) c 6 := taken_read he c 6
  have d6 : v305 = destW (expert v) c 6 := dest_read he c 6
  have r6 : v308 = rowW (expert v) c 6 := row_read he c 6
  have t7 : v319 = takenW (expert v) c 7 := taken_read he c 7
  have d7 : v322 = destW (expert v) c 7 := dest_read he c 7
  have r7 : v325 = rowW (expert v) c 7 := row_read he c 7
  have o5 : v293 = awayW (expert v) c 5 := away_word t5 d5
  have o6 : v310 = awayW (expert v) c 6 := away_word t6 d6
  have o7 : v327 = awayW (expert v) c 7 := away_word t7 d7
  refine fact_step c (chk_dev d5) (fact_step c (chk_row r5) ?_)
  refine slot_step (expert v) Y κ c 5 rfl t5 d5 r5 (g2 := chk_dev d5) (g1 := chk_row r5) rfl rfl rfl ?_
  refine fact_step c (chk_dev d6) (fact_step c (chk_row r6) ?_)
  refine slot_step (expert v) Y κ c 6 rfl t6 d6 r6 (g2 := chk_dev d6) (g1 := chk_row r6) rfl rfl rfl ?_
  refine fact_step c (chk_dev d7) (fact_step c (chk_row r7) ?_)
  refine (?_ : _ ⊢ _).trans (wpB_done c)
  rw [o5, o6, o7]
  exact hk _ _ _ _ _ _ _ t7 d7 r7

include he in
/-- Slots 7, 8 and 9. -/
theorem part11_run {v319 : BitVec 1} {v322 v325 v330 : BitVec 32} {v329 : BitVec 1} {h16 : k0_chk16 c v319 v322} {h15 : k0_chk15 c v319 v322 v325}
    (h0 : v319 = takenW (expert v) c 7) (h1 : v322 = destW (expert v) c 7) (h2 : v325 = rowW (expert v) c 7)
    {Q : (Σ' (v344 : BitVec 1) (v361 : BitVec 1) (v370 : BitVec 1), FVec Ideal S1x1 .f32) → sProp 𝕄}
    (hk : iprop(Slots (expert v) Y κ c 10 ∗ R) ⊢ Q ⟨awayW (expert v) c 8, awayW (expert v) c 9, takenW (expert v) c 10, k0_pay49 (tableOf v c)⟩) :
    iprop(Slots (expert v) Y κ c 7 ∗ R)
      ⊢ wpB c (k0_part11_skel (Memref.whole cc0_stg0_0) a0 (Memref.whole cc0_stg1_0) a1 (Memref.whole cc0_stg2_0) a2 (Memref.whole cc0_stg3_0) a3
        (Memref.whole cc0_scratch0) a4 cc0_scratch1 cc0_scratch2 c (meW c) (tableOf v c) v319 v322 h16 v325 h15 v329 v330) Q := by
  unfold k0_part11_skel
  refine slot_step (expert v) Y κ c 7 rfl h0 h1 h2 (g2 := chk_dev h1) (g1 := chk_row h2) rfl rfl rfl ?_
  beta_reduce
  extract_lets _ v336 v339 v342 _ v344 v353 v356 v359 _ v361 v370
  have t8 : v336 = takenW (expert v) c 8 := taken_read he c 8
  have d8 : v339 = destW (expert v) c 8 := dest_read he c 8
  have r8 : v342 = rowW (expert v) c 8 := row_read he c 8
  have t9 : v353 = takenW (expert v) c 9 := taken_read he c 9
  have d9 : v356 = destW (expert v) c 9 := dest_read he c 9
  have r9 : v359 = rowW (expert v) c 9 := row_read he c 9
  have o8 : v344 = awayW (expert v) c 8 := away_word t8 d8
  have o9 : v361 = awayW (expert v) c 9 := away_word t9 d9
  have t10 : v370 = takenW (expert v) c 10 := taken_read he c 10
  refine fact_step c (chk_dev d8) (fact_step c (chk_row r8) ?_)
  refine slot_step (expert v) Y κ c 8 rfl t8 d8 r8 (g2 := chk_dev d8) (g1 := chk_row r8) rfl rfl rfl ?_
  refine fact_step c (chk_dev d9) (fact_step c (chk_row r9) ?_)
  refine slot_step (expert v) Y κ c 9 rfl t9 d9 r9 (g2 := chk_dev d9) (g1 := chk_row r9) rfl rfl rfl ?_
  refine (?_ : _ ⊢ _).trans (wpB_done c)
  rw [o8, o9, t10]
  exact hk

include he in
/-- Slots 10 and 11. -/
theorem part12_run {w0 : BitVec 1} {v70 v71 : IVec S512x1 32} {v87 : IVec S512x1 1} {w1 : FVec Ideal S1x1 .f32} {hs : S16x3.Slices ![12, 0] S1x1} (h0 : w0 = takenW (expert v) c 10)
    (h1 : w1 = extractStridedSlice S1x1 ![12, 0] (tableOf v c) hs)
    {Q : (Σ' (v378 : BitVec 1) (v395 : BitVec 1) (v409 : FVec Ideal S512x16 .f32) (v411 : FVec Ideal S512x1 .f32) (c2_i32_179 : BitVec 32) (v413 : IVec S512x1 32), IVec S512x1 1) → sProp 𝕄}
    (hk : iprop(Slots (expert v) Y κ c 12 ∗ R) ⊢ Q ⟨awayW (expert v) c 10, awayW (expert v) c 11, k0_pay55 (F := Ideal) (meW c) v71, k0_pay56 (F := Ideal) v87, 2#32, k0_pay57 v70, k0_pay58 v70⟩) :
    iprop(Slots (expert v) Y κ c 10 ∗ R)
      ⊢ wpB c (k0_part12_skel (Memref.whole cc0_stg0_0) a0 (Memref.whole cc0_stg1_0) a1 (Memref.whole cc0_stg2_0) a2 (Memref.whole cc0_stg3_0) a3
        (Memref.whole cc0_scratch0) a4 cc0_scratch1 cc0_scratch2 c (meW c) v70 v71 v87 (tableOf v c) w0 w1) Q := by
  unfold k0_part12_skel
  extract_lets v373 v376 _ v378 _ v387 v390 v393 _ v395
  have t10 := h0
  have d10 : v373 = destW (expert v) c 10 := by
    show Scalar.fptosi 32 (k0_pay50 w1) = _
    rw [h1]
    exact dest_read he c 10
  have r10 : v376 = rowW (expert v) c 10 := row_read he c 10
  have t11 : v387 = takenW (expert v) c 11 := taken_read he c 11
  have d11 : v390 = destW (expert v) c 11 := dest_read he c 11
  have r11 : v393 = rowW (expert v) c 11 := row_read he c 11
  have o10 : v378 = awayW (expert v) c 10 := away_word t10 d10
  have o11 : v395 = awayW (expert v) c 11 := away_word t11 d11
  refine fact_step c (chk_dev d10) (fact_step c (chk_row r10) ?_)
  refine slot_step (expert v) Y κ c 10 rfl t10 d10 r10 (g2 := chk_dev d10) (g1 := chk_row r10) rfl rfl rfl ?_
  refine fact_step c (chk_dev d11) (fact_step c (chk_row r11) ?_)
  refine slot_step (expert v) Y κ c 11 rfl t11 d11 r11 (g2 := chk_dev d11) (g1 := chk_row r11) rfl rfl rfl ?_
  refine (?_ : _ ⊢ _).trans (wpB_done c)
  rw [o10, o11]
  exact hk

end Parts

end Cert.Moe

end
-- ==== Proof.RowParts.lean ====
module

public import proofs.«01_k».proof.Proof.Slots

/-! The kernel's sixteen result rows: each zeroed where its row's expert had taken its six rows already. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

variable (Y : Dev nD → Rows) (c : Dev nD)
variable {α : Type} {Q : α → sProp 𝕄}

/-- The rows before `i` are done with. -/
def Lost (e : Fin 512 → ℕ) (i : ℕ) : sProp 𝕄 := along (lostBefore e c) (lostAfter e Y c) i

theorem zero_step (e : Fin 512 → ℕ) (he : ∀ n, e n < 64) {i : ℕ} (r : Fin 16) (hi : i = r.val) {P : Prop} [Decidable P] (hP : P ↔ ¬kept e (rowOf c r))
    {o : Fin 2 → ℕ} {hin : ∀ a, o a + S1x512.size a ≤ S16x512.size a} (ho : o = ![r.val, 0]) {z : S1x512.Idx → EReal} (hz : ∀ j, z (ix2 0 j) = 0)
    {hl : (Memref.whole cc0_stg3_0 : Memref sig .tc .vmem S16x512 .f32).view.LoadsAt (rowRect o hin).toLoadRect}
    {hs : ((Memref.whole cc0_stg3_0 : Memref sig .tc .vmem S16x512 .f32).access (rowRect o hin)).Stores Finset.univ}
    {hm : (Finset.univ : Finset (rowRect o hin).shape.Idx) = Finset.univ ∨ ∀ a, (rowRect o hin).stride a = 1} {kk : PB α} {R : sProp 𝕄}
    (hk : iprop(Lost Y c e (i + 1) ∗ R) ⊢ wpB c kk Q) :
    iprop(Lost Y c e i ∗ R)
      ⊢ wpB c (if P then (Prog.lift (.load (Memref.whole cc0_stg3_0) (rowRect o hin).toLoadRect hl) >>= fun _ =>
          Prog.lift (.store (Memref.whole cc0_stg3_0) (rowRect o hin) z Finset.univ hs hm) >>= fun _ => kk) else kk) Q :=
  (sep_mono .rfl (wand_intro_left hk)).trans (wp_zero e Y c he r hi hP ho hz)

section Parts

variable (v : S512x1.Idx → BitVec 32) (he : ∀ n, expert v n < 64)
variable {a0 : (Memref.whole cc0_stg0_0 : Memref sig .tc .vmem S512x256 .f32).IsWhole} {a1 : (Memref.whole cc0_stg1_0 : Memref sig .tc .vmem S512x1 .i32).IsWhole}
  {a2 : (Memref.whole cc0_stg2_0 : Memref sig .tc .vmem S2x256x512 .f32).IsWhole} {a3 : (Memref.whole cc0_stg3_0 : Memref sig .tc .vmem S16x512 .f32).IsWhole}
  {a4 : (Memref.whole cc0_scratch0 : Memref sig .tc .vmem S16x512 .f32).IsWhole}
variable {R : sProp 𝕄}

include he in
/-- The count of the rows to come, and rows 0 and 1. -/
theorem part13_run {v3 : Ideal .f32} {v70 : IVec S512x1 32} {v409 : FVec Ideal S512x16 .f32} {v411 : FVec Ideal S512x1 .f32} {c2 : BitVec 32} {v413 : IVec S512x1 32} {v415 : IVec S512x1 1}
    (hr : k0_pay59 (F := Ideal) v70 v409 v411 c2 v413 v415 = recvOf v c)
    (hn : extractAt ![0, 0, 0] (k0_pay60 (F := Ideal) v3 v70 v409 v411 c2 v413 v415) inpos_S1x1x1_p0_0_0 = BitVec.ofNat 32 (arrivals (expert v) c).card)
    {Q : (Σ' (v438 : FVec Ideal S16x2 .f32) (v450 : BitVec 32), k0_chk25 v450) → sProp 𝕄}
    (hk : ∀ rc v450 h25, rc = recvOf v c → v450 = BitVec.ofNat 32 (arrivals (expert v) c).card → iprop(Lost Y c (expert v) 2 ∗ R) ⊢ Q ⟨rc, v450, h25⟩) :
    iprop(Lost Y c (expert v) 0 ∗ R)
      ⊢ wpB c (k0_part13_skel (Memref.whole cc0_stg0_0) a0 (Memref.whole cc0_stg1_0) a1 (Memref.whole cc0_stg2_0) a2 (Memref.whole cc0_stg3_0) a3
        (Memref.whole cc0_scratch0) a4 cc0_scratch1 cc0_scratch2 v3 v70 v409 v411 c2 v413 v415) Q := by
  unfold k0_part13_skel
  extract_lets v450 _ v453 v454 v455 v458 v459 v460
  have hn : v450 = BitVec.ofNat 32 (arrivals (expert v) c).card := hn
  have z0 : v455 = 1#1 ↔ ¬kept (expert v) (rowOf c 0) := by
    show Scalar.cmpi .ne (Scalar.extui (Scalar.cmpf .olt (extractAt ![0, 0] (extractStridedSlice S1x1 ![0, 0] (k0_pay59 v70 v409 v411 c2 v413 v415) _) _) _) : BitVec 32) 0#32 = 1#1 ↔ _
    rw [hr]
    exact lost_read he c 0
  have z1 : v460 = 1#1 ↔ ¬kept (expert v) (rowOf c 1) := by
    show Scalar.cmpi .ne (Scalar.extui (Scalar.cmpf .olt (extractAt ![0, 0] (extractStridedSlice S1x1 ![1, 0] (k0_pay59 v70 v409 v411 c2 v413 v415) _) _) _) : BitVec 32) 0#32 = 1#1 ↔ _
    rw [hr]
    exact lost_read he c 1
  refine fact_step c (by rw [hn]; exact chk_loops (arrivals_few _ _)) ?_
  refine zero_step Y c (expert v) he 0 rfl (z0 : v455 = 1#1 ↔ _) rfl zero_read ?_
  refine zero_step Y c (expert v) he 1 rfl (z1 : v460 = 1#1 ↔ _) rfl zero_read ?_
  refine (?_ : _ ⊢ _).trans (wpB_done c)
  rw [hr]
  exact hk _ _ _ rfl hn

include he in
/-- Rows 2 to 8. -/
theorem part14_run {rc : FVec Ideal S16x2 .f32} (hrc : rc = recvOf v c) {Q : BitVec 1 → sProp 𝕄}
    (hk : ∀ w, w = Scalar.cmpf (F := Ideal) .olt (k0_pay79 rc) (Scalar.ofBits .f32 0x3F000000#32) → iprop(Lost Y c (expert v) 9 ∗ R) ⊢ Q w) :
    iprop(Lost Y c (expert v) 2 ∗ R)
      ⊢ wpB c (k0_part14_skel (Memref.whole cc0_stg0_0) a0 (Memref.whole cc0_stg1_0) a1 (Memref.whole cc0_stg2_0) a2 (Memref.whole cc0_stg3_0) a3
        (Memref.whole cc0_scratch0) a4 cc0_scratch1 cc0_scratch2 rc) Q := by
  subst hrc
  unfold k0_part14_skel
  extract_lets _ v463 v464 v465 v468 v469 v470 v473 v474 v475 v478 v479 v480 v483 v484 v485 v488 v489 v490 v493 v494 v495 v498
  have z2 : v465 = 1#1 ↔ ¬kept (expert v) (rowOf c 2) := lost_read he c 2
  have z3 : v470 = 1#1 ↔ ¬kept (expert v) (rowOf c 3) := lost_read he c 3
  have z4 : v475 = 1#1 ↔ ¬kept (expert v) (rowOf c 4) := lost_read he c 4
  have z5 : v480 = 1#1 ↔ ¬kept (expert v) (rowOf c 5) := lost_read he c 5
  have z6 : v485 = 1#1 ↔ ¬kept (expert v) (rowOf c 6) := lost_read he c 6
  have z7 : v490 = 1#1 ↔ ¬kept (expert v) (rowOf c 7) := lost_read he c 7
  have z8 : v495 = 1#1 ↔ ¬kept (expert v) (rowOf c 8) := lost_read he c 8
  have w9 : v498 = Scalar.cmpf (F := Ideal) .olt (k0_pay79 (recvOf v c)) (Scalar.ofBits .f32 0x3F000000#32) := rfl
  clear_value v465 v470 v475 v480 v485 v490 v495 v498
  refine zero_step Y c (expert v) he 2 rfl (z2 : v465 = 1#1 ↔ _) rfl zero_read ?_
  refine zero_step Y c (expert v) he 3 rfl (z3 : v470 = 1#1 ↔ _) rfl zero_read ?_
  refine zero_step Y c (expert v) he 4 rfl (z4 : v475 = 1#1 ↔ _) rfl zero_read ?_
  refine zero_step Y c (expert v) he 5 rfl (z5 : v480 = 1#1 ↔ _) rfl zero_read ?_
  refine zero_step Y c (expert v) he 6 rfl (z6 : v485 = 1#1 ↔ _) rfl zero_read ?_
  refine zero_step Y c (expert v) he 7 rfl (z7 : v490 = 1#1 ↔ _) rfl zero_read ?_
  refine zero_step Y c (expert v) he 8 rfl (z8 : v495 = 1#1 ↔ _) rfl zero_read ?_
  refine (?_ : _ ⊢ _).trans (wpB_done c)
  exact hk _ w9

include he in
/-- Rows 9 to 15. -/
theorem part15_run {v450 : BitVec 32} {w : BitVec 1} {rc : FVec Ideal S16x2 .f32} (hrc : rc = recvOf v c) (hw : w = Scalar.cmpf (F := Ideal) .olt (k0_pay79 rc) (Scalar.ofBits .f32 0x3F000000#32))
    {Q : (Σ' (_ : BitVec 32), BitVec 32) → sProp 𝕄} (hk : ∀ a, iprop(Lost Y c (expert v) 16 ∗ R) ⊢ Q a) :
    iprop(Lost Y c (expert v) 9 ∗ R)
      ⊢ wpB c (k0_part15_skel (Memref.whole cc0_stg0_0) a0 (Memref.whole cc0_stg1_0) a1 (Memref.whole cc0_stg2_0) a2 (Memref.whole cc0_stg3_0) a3
        (Memref.whole cc0_scratch0) a4 cc0_scratch1 cc0_scratch2 rc v450 w) Q := by
  subst hrc
  subst hw
  unfold k0_part15_skel
  extract_lets v499 v500 _ v503 v504 v505 v508 v509 v510 v513 v514 v515 v518 v519 v520 v523 v524 v525 v528 v529 v530
  have z9 : v500 = 1#1 ↔ ¬kept (expert v) (rowOf c 9) := lost_read he c 9
  have z10 : v505 = 1#1 ↔ ¬kept (expert v) (rowOf c 10) := lost_read he c 10
  have z11 : v510 = 1#1 ↔ ¬kept (expert v) (rowOf c 11) := lost_read he c 11
  have z12 : v515 = 1#1 ↔ ¬kept (expert v) (rowOf c 12) := lost_read he c 12
  have z13 : v520 = 1#1 ↔ ¬kept (expert v) (rowOf c 13) := lost_read he c 13
  have z14 : v525 = 1#1 ↔ ¬kept (expert v) (rowOf c 14) := lost_read he c 14
  have z15 : v530 = 1#1 ↔ ¬kept (expert v) (rowOf c 15) := lost_read he c 15
  clear_value v500 v505 v510 v515 v520 v525 v530
  refine zero_step Y c (expert v) he 9 rfl (z9 : v500 = 1#1 ↔ _) rfl zero_read ?_
  refine zero_step Y c (expert v) he 10 rfl (z10 : v505 = 1#1 ↔ _) rfl zero_read ?_
  refine zero_step Y c (expert v) he 11 rfl (z11 : v510 = 1#1 ↔ _) rfl zero_read ?_
  refine zero_step Y c (expert v) he 12 rfl (z12 : v515 = 1#1 ↔ _) rfl zero_read ?_
  refine zero_step Y c (expert v) he 13 rfl (z13 : v520 = 1#1 ↔ _) rfl zero_read ?_
  refine zero_step Y c (expert v) he 14 rfl (z14 : v525 = 1#1 ↔ _) rfl zero_read ?_
  refine zero_step Y c (expert v) he 15 rfl (z15 : v530 = 1#1 ↔ _) rfl zero_read ?_
  exact (hk _).trans (wpB_done c)

end Parts

end Cert.Moe

end
-- ==== Proof.Enter.lean ====
module

public import proofs.«01_k».proof.Proof.RowParts

/-! The kernel up to its slots: the thirty-two signals, the loads, the products, and the barrier. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

variable (e : Fin 512 → ℕ) (Y : Dev nD → Rows) (κ : GSem nD τ sig → ℕ) (c : Dev nD)
variable {α : Type} {Q : α → sProp 𝕄} {R : sProp 𝕄}

/-- The first `i` signals are sent. -/
def Signalled (i : ℕ) : sProp 𝕄 := iprop(inv e Y κ ∗ Owes e c i 0 ∗ along (sigTok e c) (fun _ => iprop(emp)) i)

theorem sig_step {i : ℕ} {d : Dev nD} (hd : i = d.val) {sem : Sem sig} (hs : sem = barrier0) {kk : PUnit → PB α}
    (hk : iprop(Signalled e Y κ c (i + 1) ∗ R) ⊢ wpB c (kk ⟨⟩) Q) :
    iprop(Signalled e Y κ c i ∗ R) ⊢ wpB c (semSignalWord d sem 1#32 >>= kk) Q := by
  refine (show _ ⊢ iprop(Signalled e Y κ c i ∗ (Signalled e Y κ c (i + 1) -∗ wpB c (kk ⟨⟩) Q)) from sep_mono .rfl (wand_intro_left hk)).trans ?_
  unfold Signalled
  iintro ⟨⟨#HI, HO, HS⟩, HK⟩
  iapply (wp_sig e Y κ c d hd hs) $$ [HO HS HK]
  isplitr; · iexact HI
  isplitl [HO]; · iexact HO
  isplitl [HS]; · iexact HS
  iintro ⟨HO, HS⟩
  iapply HK
  isplitr; · iexact HI
  isplitl [HO] <;> iassumption

theorem device_step {kk : Dev nD → PB α} (hk : R ⊢ wpB c (kk c) Q) : R ⊢ wpB c (Prog.lift .deviceId >>= kk) Q := by
  show R ⊢ wpB c (Prog.op .deviceId kk) Q
  unfold wpB
  rw [wp_deviceId]
  exact hk

/-- The device's block of the arguments and of the products, whole in its buffers. -/
def xHeld (x : S512x256.Idx → EReal) : sProp 𝕄 := (c : Thread nD τ).loc cc0_stg0_0 ↦{fullShare} x
def idxHeld (v : S512x1.Idx → BitVec 32) : sProp 𝕄 := (c : Thread nD τ).loc cc0_stg1_0 ↦{fullShare} v
def wHeld (w : S2x256x512.Idx → EReal) : sProp 𝕄 := (c : Thread nD τ).loc cc0_stg2_0 ↦{fullShare} w
def outHeld (f : Rows) : sProp 𝕄 := (c : Thread nD τ).loc cc0_stg3_0 ↦{fullShare} f
def yHeld (f : Rows) : sProp 𝕄 := (c : Thread nD τ).loc cc0_scratch0 ↦{fullShare} f

/-- The matrix of one of the device's two experts. -/
def half (w : S2x256x512.Idx → EReal) (a : Fin 2) : S1x256x512.Idx → EReal := fun i => w (ix3 a (i 1) (i 2))

/-- The products: eight rows for each of the device's two experts. -/
def prods (v : S512x1.Idx → BitVec 32) (x : S512x256.Idx → EReal) (w : S2x256x512.Idx → EReal) : Rows := fun i =>
  if h : (i 0).val < 8 then k0_pay14 (F := Ideal) (selOf v c) x (half w 0) (ix2 ⟨(i 0).val, h⟩ (i 1))
  else k0_pay15 (F := Ideal) (selOf v c) x (half w 1) (ix2 ⟨(i 0).val - 8, by have h2 : (i 0).val < 16 := (i 0).isLt; omega⟩ (i 1))

theorem half_read {o : Fin 3 → ℕ} (a : Fin 2) (ho : o = ![a.val, 0, 0]) {h : ∀ b, o b + S1x256x512.size b ≤ S2x256x512.size b} (w : S2x256x512.Idx → EReal) :
    ((Memref.whole cc0_stg2_0 : Memref sig .tc .vmem S2x256x512 .f32).access (Rect.unit (s := S2x256x512) o S1x256x512.size h)).read (Elt Ideal) w = half w a := by
  subst ho
  funext i
  rw [View.read_apply]
  show w ((Rect.unit (s := S2x256x512) ![a.val, 0, 0] S1x256x512.size h).emb i) = w (ix3 a (i 1) (i 2))
  congr 1
  have h0 : (i 0).val = 0 := by have : (i 0).val < 1 := (i 0).isLt; omega
  funext b
  apply Fin.ext
  fin_cases b
  · show a.val + 1 * (i 0).val = a.val
    omega
  · show 0 + 1 * (i 1).val = (i 1).val
    omega
  · show 0 + 1 * (i 2).val = (i 2).val
    omega

theorem eight_emb {o : Fin 2 → ℕ} {n : ℕ} (ho : o = ![n, 0]) {h : ∀ b, o b + S8x512.size b ≤ S16x512.size b} (i : Fin 8) (j : Fin 512) :
    ∀ hb, ((Memref.whole cc0_scratch0 : Memref sig .tc .vmem S16x512 .f32).access (Rect.unit (s := S16x512) o S8x512.size h)).emb (ix2 i j) = (ix2 ⟨n + i.val, hb⟩ j : S16x512.Idx) := by
  subst ho
  intro hb
  show (Rect.unit (s := S16x512) ![n, 0] S8x512.size h).emb (ix2 i j) = _
  funext b
  apply Fin.ext
  fin_cases b
  · show n + 1 * i.val = n + i.val
    omega
  · show 0 + 1 * j.val = j.val
    omega

theorem eight_set {o : Fin 2 → ℕ} {n : ℕ} (ho : o = ![n, 0]) {h : ∀ b, o b + S8x512.size b ≤ S16x512.size b} {i : S16x512.Idx} (hi : (i 0).val < n) :
    i ∉ ((Memref.whole cc0_scratch0 : Memref sig .tc .vmem S16x512 .f32).access (Rect.unit (s := S16x512) o S8x512.size h)).setOn Finset.univ := by
  subst ho
  intro hm
  obtain ⟨x, -, hx⟩ := Finset.mem_map.mp hm
  have : n + 1 * (x 0).val = (i 0).val := congrArg (fun t : S16x512.Idx => (t 0).val) hx
  omega

/-- The two stores fill the product buffer. -/
theorem stored {h : ∀ b, (![0, 0] : Fin 2 → ℕ) b + S8x512.size b ≤ S16x512.size b} {h' : ∀ b, (![8, 0] : Fin 2 → ℕ) b + S8x512.size b ≤ S16x512.size b}
    (v : S512x1.Idx → BitVec 32) (x : S512x256.Idx → EReal) (w : S2x256x512.Idx → EReal) (f : Rows) :
    (((Memref.whole cc0_scratch0 : Memref sig .tc .vmem S16x512 .f32).access (Rect.unit (s := S16x512) ![8, 0] S8x512.size h')).write (Elt Ideal)
      (((Memref.whole cc0_scratch0 : Memref sig .tc .vmem S16x512 .f32).access (Rect.unit (s := S16x512) ![0, 0] S8x512.size h)).write (Elt Ideal) f
        (k0_pay14 (F := Ideal) (selOf v c) x (half w 0)) Finset.univ) (k0_pay15 (F := Ideal) (selOf v c) x (half w 1)) Finset.univ : Rows) = prods c v x w := by
  funext i
  have h2 : (i 0).val < 16 := (i 0).isLt
  unfold prods
  by_cases h8 : (i 0).val < 8
  · rw [dif_pos h8]
    refine (View.write_of_not_mem _ _ _ (eight_set rfl h8)).trans ?_
    have hx := eight_emb (o := ![0, 0]) rfl (h := h) ⟨(i 0).val, h8⟩ (i 1) (by show 0 + (i 0).val < 16; omega)
    have hi : i = (ix2 ⟨0 + (i 0).val, by omega⟩ (i 1) : S16x512.Idx) := by
      rw [show (⟨0 + (i 0).val, by omega⟩ : Fin 16) = i 0 from Fin.ext (Nat.zero_add _)]; exact (ix2_eta i).symm
    conv_lhs => rw [hi, ← hx]
    exact View.write_emb_of_mem _ _ (Finset.mem_univ _)
  · rw [dif_neg h8]
    have hx := eight_emb (o := ![8, 0]) rfl (h := h') ⟨(i 0).val - 8, by omega⟩ (i 1) (by show 8 + ((i 0).val - 8) < 16; omega)
    have hi : i = (ix2 ⟨8 + ((i 0).val - 8), by omega⟩ (i 1) : S16x512.Idx) := by
      rw [show (⟨8 + ((i 0).val - 8), by omega⟩ : Fin 16) = i 0 from Fin.ext (by show 8 + ((i 0).val - 8) = (i 0).val; omega)]; exact (ix2_eta i).symm
    conv_lhs => rw [hi, ← hx]
    exact View.write_emb_of_mem _ _ (Finset.mem_univ _)

theorem stored_held {h : ∀ b, (![0, 0] : Fin 2 → ℕ) b + S8x512.size b ≤ S16x512.size b} {h' : ∀ b, (![8, 0] : Fin 2 → ℕ) b + S8x512.size b ≤ S16x512.size b}
    (v : S512x1.Idx → BitVec 32) (x : S512x256.Idx → EReal) (w : S2x256x512.Idx → EReal) (f : Rows)
    {x' : S512x256.Idx → EReal} {w0 w1 : S1x256x512.Idx → EReal} (hx : x' = x) (h0 : w0 = half w 0) (h1 : w1 = half w 1) :
    ((c : Thread nD τ).loc cc0_scratch0 ↦{fullShare}
      ((Memref.whole cc0_scratch0 : Memref sig .tc .vmem S16x512 .f32).access (Rect.unit (s := S16x512) ![8, 0] S8x512.size h')).write (Elt Ideal)
      (((Memref.whole cc0_scratch0 : Memref sig .tc .vmem S16x512 .f32).access (Rect.unit (s := S16x512) ![0, 0] S8x512.size h)).write (Elt Ideal) f
        (k0_pay14 (F := Ideal) (selOf v c) x' w0) Finset.univ) (k0_pay15 (F := Ideal) (selOf v c) x' w1) Finset.univ : sProp 𝕄)
      ⊢ (c : Thread nD τ).loc cc0_scratch0 ↦{fullShare} prods c v x w :=
  Entails.of_eq (congrArg (yHeld c) (by subst hx h0 h1; exact stored c v _ w f))

section Parts

variable (v : S512x1.Idx → BitVec 32)
variable {a0 : (Memref.whole cc0_stg0_0 : Memref sig .tc .vmem S512x256 .f32).IsWhole} {a1 : (Memref.whole cc0_stg1_0 : Memref sig .tc .vmem S512x1 .i32).IsWhole}
  {a2 : (Memref.whole cc0_stg2_0 : Memref sig .tc .vmem S2x256x512 .f32).IsWhole} {a3 : (Memref.whole cc0_stg3_0 : Memref sig .tc .vmem S16x512 .f32).IsWhole}
  {a4 : (Memref.whole cc0_scratch0 : Memref sig .tc .vmem S16x512 .f32).IsWhole}

/-- The signals to devices 0 to 6. -/
theorem part1_run {Q : (Σ' (d0 : Dev nD) (v2 : BitVec 32) (v3 : Ideal .f32) (v4 : Sems sig S_) (c7_i32 : BitVec 32), BitVec 32) → sProp 𝕄}
    (hk : iprop(Signalled e Y κ c 7 ∗ R) ⊢ Q ⟨c, meW c, k0_pay1 (F := Ideal) c, SemArray.scalar (sig.barrier 0 rfl), 7#32, 1#32⟩) :
    iprop(Signalled e Y κ c 0 ∗ R) ⊢ wpB c (k0_part1_skel (Memref.whole cc0_stg0_0) a0 (Memref.whole cc0_stg1_0) a1 (Memref.whole cc0_stg2_0) a2 (Memref.whole cc0_stg3_0) a3
        (Memref.whole cc0_scratch0) a4 cc0_scratch1 cc0_scratch2) Q := by
  unfold k0_part1_skel
  refine device_step c ?_
  iterate 7 refine sig_step e Y κ c (by rfl) (by rfl) ?_
  exact hk.trans (wpB_done c)

/-- To devices 7 to 15. -/
theorem part2_run {a b : BitVec 32} {Q : PUnit → sProp 𝕄} (hk : iprop(Signalled e Y κ c 16 ∗ R) ⊢ Q ⟨⟩) :
    iprop(Signalled e Y κ c 7 ∗ R) ⊢ wpB c (k0_part2_skel (Memref.whole cc0_stg0_0) a0 (Memref.whole cc0_stg1_0) a1 (Memref.whole cc0_stg2_0) a2 (Memref.whole cc0_stg3_0) a3
        (Memref.whole cc0_scratch0) a4 cc0_scratch1 cc0_scratch2 (SemArray.scalar (sig.barrier 0 rfl)) a b) Q := by
  unfold k0_part2_skel
  iterate 9 refine sig_step e Y κ c (by rfl) (by rfl) ?_
  exact hk.trans (wpB_done c)

/-- To devices 16 to 23. -/
theorem part3_run {Q : BitVec 32 → sProp 𝕄} (hk : ∀ a, iprop(Signalled e Y κ c 24 ∗ R) ⊢ Q a) :
    iprop(Signalled e Y κ c 16 ∗ R) ⊢ wpB c (k0_part3_skel (Memref.whole cc0_stg0_0) a0 (Memref.whole cc0_stg1_0) a1 (Memref.whole cc0_stg2_0) a2 (Memref.whole cc0_stg3_0) a3
        (Memref.whole cc0_scratch0) a4 cc0_scratch1 cc0_scratch2 (SemArray.scalar (sig.barrier 0 rfl))) Q := by
  unfold k0_part3_skel
  iterate 8 refine sig_step e Y κ c (by rfl) (by rfl) ?_
  exact (hk _).trans (wpB_done c)

/-- To devices 24 to 31; then the route is loaded. -/
theorem part4_run {a : BitVec 32} {Q : (Σ' (v70 : IVec S512x1 32) (v71 : IVec S512x1 32), IVec S512x64 1) → sProp 𝕄}
    (hk : iprop(Signalled e Y κ c 32 ∗ idxHeld c v ∗ R) ⊢ Q ⟨k0_pay2 (F := Ideal) v, rows, k0_pay3 (F := Ideal) v⟩) :
    iprop(Signalled e Y κ c 24 ∗ idxHeld c v ∗ R) ⊢ wpB c (k0_part4_skel (Memref.whole cc0_stg0_0) a0 (Memref.whole cc0_stg1_0) a1 (Memref.whole cc0_stg2_0) a2 (Memref.whole cc0_stg3_0) a3
        (Memref.whole cc0_scratch0) a4 cc0_scratch1 cc0_scratch2 (SemArray.scalar (sig.barrier 0 rfl)) a) Q := by
  unfold k0_part4_skel
  iterate 8 refine sig_step e Y κ c (by rfl) (by rfl) ?_
  simp only [Prog.bind_lift]
  refine (show _ ⊢ iprop(Signalled e Y κ c 32 ∗ idxHeld c v ∗ (Signalled e Y κ c 32 ∗ idxHeld c v -∗ Q ⟨k0_pay2 (F := Ideal) v, iota .tc S512x1 32 [0] iota_S512x1_d0_w32, k0_pay3 (F := Ideal) v⟩))
    from sep_mono .rfl (sep_mono .rfl (wand_intro_left (sep_assoc.1.trans hk)))).trans ?_
  iintro ⟨HS, HV, HK⟩
  unfold idxHeld
  iapply (wp_load_rect Variants.none (c : Thread nD τ) none Set.univ (m := Memref.whole cc0_stg1_0) (r := Rect.unit (s := S512x1) ![0, 0] S512x1.size inb_S512x1_S512x1_0_0) (S := Finset.univ) (q := fullShare) (f := v) (Finset.subset_univ _)) $$ HV
  iintro HV
  iapply (wpB_done c)
  have hv : ((Memref.whole cc0_stg1_0 : Memref sig .tc .vmem S512x1 .i32).access (Rect.unit (s := S512x1) ![0, 0] S512x1.size inb_S512x1_S512x1_0_0)).read (Elt Ideal) v = v :=
    Memref.readAt_unit_zero (Elt Ideal) cc0_stg1_0 (by funext b; fin_cases b <;> rfl) _ v
  rw [hv]
  iapply HK
  isplitl [HS] <;> iassumption

/-- The products are computed and stored, and the barrier is waited for. -/
theorem part7_run {x : S512x256.Idx → EReal} {w : S2x256x512.Idx → EReal}
    {Q : (Σ' (v180 : FVec Ideal S16x3 .f32) (v200 : BitVec 1), FVec Ideal S1x1 .f32) → sProp 𝕄}
    (hk : iprop((Owes e c 32 0 ∗ atPos ER (barCell c) 1 ∅ 0 ∗ bigSep Finset.univ (fun d : Dev nD => barPay e d c) ∗ xHeld c x ∗ wHeld c w ∗ yHeld c (prods c v x w)) ∗ R)
      ⊢ Q ⟨tableOf v c, Scalar.cmpf .ogt (k0_pay16 (F := Ideal) rows (selOf v c) (k0_pay9 rows) (k0_pay10 rows) (k0_pay11 rows)) (Scalar.ofBits .f32 0x3F000000#32),
          k0_pay17 (F := Ideal) rows (selOf v c) (k0_pay9 rows) (k0_pay10 rows) (k0_pay11 rows)⟩) :
    iprop((inv e Y κ ∗ Owes e c 32 0 ∗ cred (tallyAt (barCell c) 19 32) ∗ atPos ER (barCell c) 0 ∅ 0 ∗ xHeld c x ∗ wHeld c w ∗ (∃ f, yHeld c f)) ∗ R)
      ⊢ wpB c (k0_part7_skel (Memref.whole cc0_stg0_0) a0 (Memref.whole cc0_stg1_0) a1 (Memref.whole cc0_stg2_0) a2 (Memref.whole cc0_stg3_0) a3
        (Memref.whole cc0_scratch0) a4 cc0_scratch1 cc0_scratch2 (SemArray.scalar (sig.barrier 0 rfl)) rows (selOf v c) (k0_pay9 rows) (k0_pay10 rows) (k0_pay11 rows)) Q := by
  unfold tableOf at hk
  refine (sep_mono .rfl (wand_intro_left hk)).trans ?_
  unfold k0_part7_skel xHeld wHeld yHeld
  simp only [Prog.bind_lift]
  iintro ⟨⟨#HI, HO, HC, HA, HX, HW, ⟨%f, HY⟩⟩, HK⟩
  iapply (wp_load_rect Variants.none (c : Thread nD τ) none Set.univ (m := Memref.whole cc0_stg0_0) (r := Rect.unit (s := S512x256) ![0, 0] S512x256.size inb_S512x256_S512x256_0_0) (S := Finset.univ) (q := fullShare) (f := x) (Finset.subset_univ _)) $$ HX
  iintro HX
  iapply (wp_load_rect Variants.none (c : Thread nD τ) none Set.univ (m := Memref.whole cc0_stg2_0) (r := Rect.unit (s := S2x256x512) ![0, 0, 0] S1x256x512.size inb_S2x256x512_S1x256x512_0_0_0) (S := Finset.univ) (q := fullShare) (f := w) (Finset.subset_univ _)) $$ HW
  iintro HW
  iapply (wp_load_rect Variants.none (c : Thread nD τ) none Set.univ (m := Memref.whole cc0_scratch0) (r := Rect.unit (s := S16x512) ![0, 0] S8x512.size inb_S16x512_S8x512_0_0) (S := Finset.univ) (q := fullShare) (f := (f : Rows)) (Finset.subset_univ _)) $$ HY
  iintro HY
  iapply (wp_store Variants.none (c : Thread nD τ) none Set.univ (m := Memref.whole cc0_scratch0) (r := Rect.unit (s := S16x512) ![0, 0] S8x512.size inb_S16x512_S8x512_0_0) (S := Finset.univ) (f := (f : Rows)) (Finset.subset_univ _)) $$ HY
  iintro HY
  iapply (wp_load_rect Variants.none (c : Thread nD τ) none Set.univ (m := Memref.whole cc0_stg2_0) (r := Rect.unit (s := S2x256x512) ![1, 0, 0] S1x256x512.size inb_S2x256x512_S1x256x512_1_0_0) (S := Finset.univ) (q := fullShare) (f := w) (Finset.subset_univ _)) $$ HW
  iintro HW
  iapply (wp_load_rect Variants.none (c : Thread nD τ) none Set.univ (m := Memref.whole cc0_scratch0) (r := Rect.unit (s := S16x512) ![8, 0] S8x512.size inb_S16x512_S8x512_8_0) (S := Finset.univ) (q := fullShare) (Finset.subset_univ _)) $$ HY
  iintro HY
  iapply (wp_store Variants.none (c : Thread nD τ) none Set.univ (m := Memref.whole cc0_scratch0) (r := Rect.unit (s := S16x512) ![8, 0] S8x512.size inb_S16x512_S8x512_8_0) (S := Finset.univ) (Finset.subset_univ _)) $$ HY
  iintro HY
  iapply (wp_bar e Y κ c rfl) $$ [HO HC HA HX HW HY HK]
  isplitr; · iexact HI
  isplitl [HO]; · iexact HO
  isplitl [HC]; · iexact HC
  isplitl [HA]; · iexact HA
  iintro ⟨HO, HA, HP⟩
  iapply (wpB_done c)
  iapply HK
  isplitl [HO]; · iexact HO
  isplitl [HA]; · iexact HA
  isplitl [HP]; · iexact HP
  isplitl [HX]; · iexact HX
  isplitl [HW]; · iexact HW
  have hx : ((Memref.whole cc0_stg0_0 : Memref sig .tc .vmem S512x256 .f32).access (Rect.unit (s := S512x256) ![0, 0] S512x256.size inb_S512x256_S512x256_0_0)).read (Elt Ideal) x = x :=
    Memref.readAt_unit_zero (Elt Ideal) cc0_stg0_0 (by funext b; fin_cases b <;> rfl) _ x
  iapply (stored_held c v x w f hx (half_read 0 rfl w) (half_read 1 rfl w))
  iexact HY

end Parts

end Cert.Moe

end
-- ==== Proof.Pieces.lean ====
module

public import proofs.«01_k».proof.Proof.RowParts
public import proofs.«01_k».proof.Proof.Enter

/-! Dividing the two 16-row buffers: the result buffer into the places others write, those the device's own slots fill and
    those no slot fills; the product buffer into the slots' rows and the four that hold none. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

variable (e : Fin 512 → ℕ) (Y : Dev nD → Rows) (κ : GSem nD τ sig → ℕ) (c : Dev nD)

theorem out_rows (f : Rows) : outHeld c f = (bigSep Finset.univ fun r : Fin 16 => outRow c r f : sProp 𝕄) := by
  unfold outHeld outRow
  rw [← rowSet_univ]
  exact pointsTo_biUnion _ _ fun _ _ _ _ h => rowSet_disjoint h

theorem y_rows (f : Rows) : yHeld c f = (bigSep Finset.univ fun r : Fin 16 => yRow c r f : sProp 𝕄) := by
  unfold yHeld yRow
  rw [← rowSet_univ]
  exact pointsTo_biUnion _ _ fun _ _ _ _ h => rowSet_disjoint h

/-- The rows of the product buffer that belong to no slot. -/
def spare : Finset (Fin 16) := Finset.univ.filter fun r => r ∉ Finset.univ.image slotY

/-- The product buffer is its slots' rows and the spare ones. -/
theorem y_split (f : Rows) : yHeld c f
    = (iprop((bigSep Finset.univ fun k : Fin 12 => yRow c (slotY k) f) ∗ bigSep spare fun r => yRow c r f) : sProp 𝕄) := by
  rw [y_rows, BI.bigSep_filter_split Finset.univ (fun r => r ∈ Finset.univ.image slotY)]
  have : (Finset.univ.filter fun r : Fin 16 => r ∈ Finset.univ.image slotY) = Finset.univ.image slotY := by ext r; simp
  rw [this, sep_image (slotY_injective.injOn)]
  rfl

/-- A family with some members left out. -/
theorem sep_if {I : Type} [DecidableEq I] (s : Finset I) (p : I → Prop) [DecidablePred p] (Φ : I → sProp 𝕄) :
    (bigSep s fun i => if p i then Φ i else iprop(emp)) = bigSep (s.filter p) Φ := by
  rw [BI.bigSep_filter_split s p]
  have h1 : (bigSep (s.filter p) fun i => if p i then Φ i else (iprop(emp) : sProp 𝕄)) = bigSep (s.filter p) Φ :=
    bigSep_congr fun i hi => if_pos (Finset.mem_filter.mp hi).2
  have h2 : (bigSep (s.filter fun i => ¬p i) fun i => if p i then Φ i else (iprop(emp) : sProp 𝕄)) = bigSep (s.filter fun i => ¬p i) fun _ => iprop(emp) :=
    bigSep_congr fun i hi => if_neg (Finset.mem_filter.mp hi).2
  rw [h1, h2, show (bigSep (s.filter fun i => ¬p i) fun _ => (iprop(emp) : sProp 𝕄)) = iprop(emp) from BI.bigSep_emp_const _]
  exact equiv_iff.mp Idealize.SL.BI.sep_emp

open scoped Classical in
/-- The result buffer: the places of the slots of other devices, of the device's own slots, and of no slot. -/
theorem out_split (he : ∀ n, e n < 64) (f : Rows) : outHeld c f
    = (iprop((bigSep (arrivals e c) fun p => outRow c (slotDrow e p) f)
        ∗ (bigSep Finset.univ fun k : Fin 12 => if Hits e c (c, k) then outRow c (slotDrow e (c, k)) f else iprop(emp))
        ∗ bigSep Finset.univ fun r : Fin 16 => if kept e (rowOf c r) then iprop(emp) else outRow c r f) : sProp 𝕄) := by
  have hl : (bigSep Finset.univ fun r : Fin 16 => if kept e (rowOf c r) then iprop(emp) else outRow c r f : sProp 𝕄)
      = bigSep (Finset.univ.filter fun r => ¬kept e (rowOf c r)) fun r => outRow c r f := by
    rw [← sep_if]
    exact bigSep_congr fun r _ => by by_cases h : kept e (rowOf c r) <;> simp [h]
  have hk : (Finset.univ.filter fun r => kept e (rowOf c r)) = keptRows e c := by unfold keptRows; congr
  have ho : (bigSep Finset.univ fun k : Fin 12 => if Hits e c (c, k) then outRow c (slotDrow e (c, k)) f else iprop(emp) : sProp 𝕄)
      = bigSep ((hits e c).filter fun p => ¬p.1 ≠ c) fun p => outRow c (slotDrow e p) f := by
    rw [sep_if Finset.univ (fun k => Hits e c (c, k)) (fun k => outRow c (slotDrow e (c, k)) f)]
    have : ((hits e c).filter fun p => ¬p.1 ≠ c) = (Finset.univ.filter fun k => Hits e c (c, k)).image fun k => (c, k) := by
      ext ⟨d, k⟩
      simp only [Finset.mem_filter, Finset.mem_image, hits, Finset.mem_univ, true_and, Prod.mk.injEq, not_not]
      constructor
      · rintro ⟨h, rfl⟩; exact ⟨k, h, rfl, rfl⟩
      · rintro ⟨k', h, rfl, rfl⟩; exact ⟨h, rfl⟩
    rw [this, sep_image (fun a _ b _ h => (Prod.mk.inj h).2)]
  have ha : arrivals e c = (hits e c).filter fun p => p.1 ≠ c := by
    ext p; simp only [arrivals, hits, Finset.mem_filter, Finset.mem_univ, true_and]
  rw [out_rows, BI.bigSep_filter_split Finset.univ (fun r => kept e (rowOf c r)), hk, ← hits_image he c, sep_image (slotDrow_injOn e c), hl, ho, ha,
    BI.bigSep_filter_split (hits e c) (fun p => p.1 ≠ c)]
  exact equiv_iff.mp ⟨Idealize.SL.BI.sep_assoc, Idealize.SL.BI.sep_assoc'⟩

open scoped Classical in
/-- The places of the arrivals, sorted by the device they come from. -/
theorem arrivals_by (Φ : Fin 32 × Fin 12 → sProp 𝕄) : bigSep (arrivals e c) Φ
    = bigSep Finset.univ fun N : Dev nD => bigSep Finset.univ fun k : Fin 12 => if Remote e N k ∧ slotDest e N k = c then Φ (N, k) else iprop(emp) := by
  have : arrivals e c = Finset.univ.filter fun p : Fin 32 × Fin 12 => Remote e p.1 p.2 ∧ slotDest e p.1 p.2 = c := by
    ext ⟨N, k⟩; rw [arrivals_iff]; simp
  rw [this, ← sep_if Finset.univ (fun p : Fin 32 × Fin 12 => Remote e p.1 p.2 ∧ slotDest e p.1 p.2 = c) Φ]
  exact BI.bigSep_univ_prod (fun x : Fin 32 × Fin 12 => if Remote e x.1 x.2 ∧ slotDest e x.1 x.2 = c then Φ x else iprop(emp))

theorem some_row (d : Dev nD) (r : Fin 16) (f : Rows) : (outRow d r f : sProp 𝕄) ⊢ iprop(∃ f, outRow d r f) := by
  iintro H; iexists f; iexact H

/-- What the device lends, keeps for its own slots and zeroes. -/
theorem out_lend (he : ∀ n, e n < 64) : (iprop(reached ER (recvCell c) 0 ∗ ∃ f, outHeld c f) : sProp 𝕄)
    ⊢ iprop((bigSep Finset.univ fun N : Dev nD => barPay e c N) ∗ (bigSep Finset.univ fun k => placeBefore e c k) ∗ bigSep Finset.univ fun r => lostBefore e c r) := by
  iintro ⟨#HR, ⟨%f, HO⟩⟩
  ihave H := (Entails.of_eq (out_split e c he f)) $$ HO
  icases H with ⟨HA, HP, HL⟩
  ihave HA := (Entails.of_eq (arrivals_by e c (fun p => outRow c (slotDrow e p) f))) $$ HA
  isplitl [HA]
  · ihave HA := (bigSep_with_persistent (R := reached ER (recvCell c) 0) (Ψ := fun N : Dev nD => barPay e c N) (S := Finset.univ) ?_) $$ [HA]
    rotate_left
    · isplitr; · iexact HR
      iexact HA
    · iexact HA
    · intro N _
      unfold barPay
      refine sep_mono .rfl (bigSep_mono fun k _ => ?_)
      by_cases h : Remote e N k ∧ slotDest e N k = c
      · rw [if_pos h, if_pos h]; exact some_row _ _ f
      · rw [if_neg h, if_neg h]; exact Idealize.SL.BI.Entails.refl (iprop(emp) : sProp 𝕄)
  isplitl [HP]
  · iapply (show (bigSep Finset.univ fun k : Fin 12 => if Hits e c (c, k) then outRow c (slotDrow e (c, k)) f else iprop(emp) : sProp 𝕄) ⊢ bigSep Finset.univ fun k => placeBefore e c k from bigSep_mono fun k _ => ?_) $$ HP
    unfold placeBefore
    by_cases h : Hits e c (c, k)
    · rw [if_pos h, if_pos h]; exact some_row _ _ f
    · rw [if_neg h, if_neg h]; exact .refl _
  · iapply (show (bigSep Finset.univ fun r : Fin 16 => if kept e (rowOf c r) then iprop(emp) else outRow c r f : sProp 𝕄) ⊢ bigSep Finset.univ fun r => lostBefore e c r from bigSep_mono fun r _ => ?_) $$ HL
    unfold lostBefore
    by_cases h : kept e (rowOf c r)
    · rw [if_pos h, if_pos h]; exact .refl _
    · rw [if_neg h, if_neg h]; exact some_row _ _ f

/-- The result buffer whole again, as the plan says. -/
theorem out_whole (he : ∀ n, e n < 64) :
    (iprop((bigSep (arrivals e c) fun p => outRow c (slotDrow e p) (G e Y c)) ∗ (bigSep Finset.univ fun k => placeAfter e Y c k)
      ∗ bigSep Finset.univ fun r => lostAfter e Y c r) : sProp 𝕄) ⊢ outHeld c (G e Y c) :=
  Entails.of_eq ((out_split e c he (G e Y c)).symm ▸ rfl)

/-- The tokens of the copy from slot `k`. -/
def slotTok (k : Fin 12) : sProp 𝕄 :=
  iprop(dutyTok ER (sendCell c k) 0 (0, 0) ∗ reached ER (sendCell c k) 0 ∗ dutyTok ER (recvCell (slotDest e c k)) 0 (c, k))

/-- With the others' places in hand and the products stored, the slots are ready. -/
theorem slots_ready : (iprop((bigSep Finset.univ fun d : Dev nD => barPay e d c) ∗ (bigSep Finset.univ fun k => slotTok e c k)
      ∗ bigSep Finset.univ fun k => yRow c (slotY k) (Y c)) : sProp 𝕄)
    ⊢ bigSep Finset.univ fun k => slotBefore e Y c k := by
  iintro ⟨HB, HT, HY⟩
  unfold barPay
  ihave HB := (Entails.of_eq (bigSep_sep' _ _ _)) $$ HB
  icases HB with ⟨#HR, HB⟩
  ihave HB := (Entails.of_eq (Pipeline.bigSep_univ_comm _)) $$ HB
  ihave H := (Entails.of_eq (bigSep_sep' _ _ _).symm) $$ [HB HT]
  · isplitl [HB]; · iexact HB
    iexact HT
  ihave H := (Entails.of_eq (bigSep_sep' _ _ _).symm) $$ [H HY]
  · isplitl [H]; · iexact H
    iexact HY
  ihave H := (bigSep_with_persistent (R := bigSep Finset.univ fun d : Dev nD => reached ER (recvCell d) 0) (Ψ := fun k => slotBefore e Y c k) (S := Finset.univ) ?_) $$ [H]
  rotate_left
  · isplitr; · iexact HR
    iexact H
  · iexact H
  intro k _
  unfold slotBefore
  iintro ⟨HR, ⟨⟨HB, HT⟩, HY⟩⟩
  isplitl [HY]; · iexact HY
  by_cases h : Remote e c k
  · rw [if_pos h]
    unfold pass slotTok
    icases HT with ⟨H1, H2, H3⟩
    isplitl [H1]; · iexact H1
    isplitl [H2]; · iexact H2
    isplitl [H3]; · iexact H3
    isplitl [HR]
    · iapply (sep_get (Finset.mem_univ (slotDest e c k)) (fun d => reached ER (recvCell d) 0)) $$ HR
    ihave HB := (sep_get (Finset.mem_univ (slotDest e c k)) (fun d : Dev nD => if Remote e c k ∧ slotDest e c k = d then iprop(∃ f, outRow d (slotDrow e (c, k)) f) else iprop(emp))) $$ HB
    ihave HB := (Entails.of_eq (if_pos ⟨h, rfl⟩)) $$ HB
    iexact HB
  · rw [if_neg h]; iempintro

end Cert.Moe
-- ==== Proof.Body.lean ====
module

public import proofs.«01_k».proof.Proof.Pieces

/-! The kernel's body, whole: the signals, the products, the slots, the rows no slot fills, the arrivals and the departures. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

section Steps

variable (e : Fin 512 → ℕ) (Y : Dev nD → Rows) (κ : GSem nD τ sig → ℕ) (c : Dev nD)
variable {α β : Type} {Q : α → sProp 𝕄} {R X : sProp 𝕄}

theorem bind_step {p : PB β} {kk : β → PB α} (h : X ⊢ wpB c p (fun a => wpB c (kk a) Q)) : X ⊢ wpB c (p >>= kk) Q := by
  unfold wpB at h ⊢
  rw [wp_bind]
  exact h

/-- The device owes nothing more, and the first `i` send cells have been waited on. -/
def Departing (i : ℕ) : sProp 𝕄 := iprop(inv e Y κ ∗ Idle c ∗ along (sendBefore e Y c) (sendAfter e Y c) i)

theorem depart_step {i : ℕ} (k : Fin 12) (hi : i = k.val) {P : Prop} [Decidable P] (hP : P ↔ Remote e c k) {sem : DmaSem sig} (hs : sem = sendSem k)
    {s s' : Shape} {el el' : EltTy} {src : Memref sig .tc .vmem s' el'} {dst : Memref sig .tc .vmem s el} (hdst : dst.view.dmaCredit = A)
    {hx : src.view.WordExact} {hx' : dst.view.WordExact} {kk : PB α}
    (hk : iprop(Departing e Y κ c (i + 1) ∗ R) ⊢ wpB c kk Q) :
    iprop(Departing e Y κ c i ∗ R) ⊢ wpB c (if P then (Prog.lift (.waitDma2 sem src dst hx hx') >>= fun _ => kk) else kk) Q := by
  refine (sep_mono .rfl (wand_intro_left hk)).trans ?_
  unfold Departing
  iintro ⟨⟨#HI, HO, HA⟩, HK⟩
  iapply (wp_depart e Y κ c k hi hP hs hdst)
  isplitr; · iexact HI
  isplitl [HO]; · iexact HO
  isplitl [HA]; · iexact HA
  iintro ⟨HO, HA⟩
  iapply HK
  isplitr; · iexact HI
  isplitl [HO]; · iexact HO
  iexact HA

/-- The receive cell after `t` arrivals. -/
def Landing (t : ℕ) : sProp 𝕄 := iprop(inv e Y κ ∗ Idle c ∗ arriving e Y c t)

theorem arrivals_step {lb ub st : BitVec 32} {hok : Scf.OK lb ub st} (hn : Scf.trips lb ub st = (arrivals e c).card)
    {body : Fin (Scf.trips lb ub st) → Unit → PB Unit} {sem : DmaSem sig} (hs : sem = recvSem)
    {s s' : Shape} {el el' : EltTy} {src : Memref sig .tc .vmem s' el'} {dst : Memref sig .tc .vmem s el} (hdst : dst.view.dmaCredit = A)
    {hx : src.view.WordExact} {hx' : dst.view.WordExact} (hb : ∀ i a, body i a = (Prog.lift (.waitDma2 sem src dst hx hx') >>= fun _ => pure ()))
    {kk : Unit → PB α} (hk : iprop(Landing e Y κ c (arrivals e c).card ∗ R) ⊢ wpB c (kk ⟨⟩) Q) :
    iprop(Landing e Y κ c 0 ∗ R) ⊢ wpB c (Scf.for lb ub st hok () body >>= kk) Q := by
  refine (sep_mono .rfl (wand_intro_left hk)).trans ?_
  unfold Landing
  iintro ⟨⟨#HI, HO, HA⟩, HK⟩
  iapply (wp_arrivals e Y κ c hok hn hs hdst hb)
  isplitr; · iexact HI
  isplitl [HO]; · iexact HO
  isplitl [HA]; · iexact HA
  iintro ⟨HO, HA⟩
  iapply HK
  isplitr; · iexact HI
  isplitl [HO]; · iexact HO
  iexact HA

/-- A loop of no trips. -/
theorem idle_step {lb ub st : BitVec 32} {hok : Scf.OK lb ub st} (hn : Scf.trips lb ub st = 0)
    {body : Fin (Scf.trips lb ub st) → Unit → PB Unit} {kk : Unit → PB α} (hk : X ⊢ wpB c (kk ⟨⟩) Q) :
    X ⊢ wpB c (Scf.for lb ub st hok () body >>= kk) Q := by
  rw [Scf.for_eq_ret _ _ _ hok () body hn]
  exact hk

end Steps

section Stages

variable (e : Fin 512 → ℕ) (Y : Dev nD → Rows) (κ : GSem nD τ sig → ℕ) (c : Dev nD)
variable (v : S512x1.Idx → BitVec 32) (x : S512x256.Idx → EReal) (w : S2x256x512.Idx → EReal)

/-- The receive cell before any wait. -/
def recvReady : sProp 𝕄 := iprop(cred (tallyAt (recvCell c) 20 ((arrivals e c).card * A)) ∗ atPos ER (recvCell c) 0 ∅ 0)
/-- The send cells before any wait. -/
def sendsReady : sProp 𝕄 := bigSep Finset.univ fun k : Fin 12 => atPos ER (sendCell c k) 0 ∅ 0
/-- The receive cell when the body is done, -/
def recvDone : sProp 𝕄 := iprop(∃ R, ⌜∀ r, R ≤ r → (moe e Y).duties (recvCell c) r = ∅⌝ ∗ atPos ER (recvCell c) R ∅ 0)
/-- and the send cells. -/
def sendsDone : sProp 𝕄 := bigSep Finset.univ fun k : Fin 12 => iprop(∃ R, ⌜∀ r, R ≤ r → (moe e Y).duties (sendCell c k) r = ∅⌝ ∗ atPos ER (sendCell c k) R ∅ 0)
/-- The rows of the product buffer that no slot moves. -/
def spareRows : sProp 𝕄 := bigSep spare fun r => yRow c r (Y c)

/-- What is not touched before the slots. -/
def later : sProp 𝕄 :=
  iprop((bigSep Finset.univ fun k => slotTok e c k) ∗ recvReady e c ∗ sendsReady c ∗ (bigSep Finset.univ fun k => placeBefore e c k)
    ∗ bigSep Finset.univ fun r => lostBefore e c r)

/-- What the body starts from, -/
def bodyPre : sProp 𝕄 :=
  iprop(inv e Y κ ∗ Owes e c 0 0 ∗ (bigSep Finset.univ fun N : Dev nD => sigTok e c N) ∗ idxHeld c v ∗ cred (tallyAt (barCell c) 19 32) ∗ atPos ER (barCell c) 0 ∅ 0
    ∗ xHeld c x ∗ wHeld c w ∗ (∃ f, yHeld c f) ∗ later e c)
/-- and what it ends with. -/
def bodyPost : sProp 𝕄 :=
  iprop(Idle c ∗ idxHeld c v ∗ xHeld c x ∗ wHeld c w ∗ outHeld c (G e Y c) ∗ yHeld c (Y c) ∗ recvDone e Y c ∗ sendsDone e Y c ∗ atPos ER (barCell c) 1 ∅ 0)

/-- The blocks the body has read, and the barrier cell past its round. -/
def held3 : sProp 𝕄 := iprop(idxHeld c v ∗ xHeld c x ∗ wHeld c w ∗ atPos ER (barCell c) 1 ∅ 0)

theorem stage1 : bodyPre e Y κ c v x w ⊢ iprop(Signalled e Y κ c 0 ∗ idxHeld c v
    ∗ (cred (tallyAt (barCell c) 19 32) ∗ atPos ER (barCell c) 0 ∅ 0 ∗ xHeld c x ∗ wHeld c w ∗ (∃ f, yHeld c f) ∗ later e c)) := by
  unfold bodyPre Signalled
  rw [along_start]
  iintro ⟨HI, HO, HT, HV, HR⟩
  isplitl [HI HO HT]
  · isplitl [HI]; · iexact HI
    isplitl [HO]; · iexact HO
    iexact HT
  isplitl [HV]; · iexact HV
  iexact HR

theorem stage2 : iprop(Signalled e Y κ c 32 ∗ idxHeld c v
      ∗ (cred (tallyAt (barCell c) 19 32) ∗ atPos ER (barCell c) 0 ∅ 0 ∗ xHeld c x ∗ wHeld c w ∗ (∃ f, yHeld c f) ∗ later e c))
    ⊢ iprop((inv e Y κ ∗ Owes e c 32 0 ∗ cred (tallyAt (barCell c) 19 32) ∗ atPos ER (barCell c) 0 ∅ 0 ∗ xHeld c x ∗ wHeld c w ∗ (∃ f, yHeld c f))
      ∗ (inv e Y κ ∗ idxHeld c v ∗ later e c)) := by
  unfold Signalled
  iintro ⟨⟨#HI, HO, -⟩, HV, HC, HA, HX, HW, HY, HL⟩
  isplitl [HO HC HA HX HW HY]
  · isplitr; · iexact HI
    isplitl [HO]; · iexact HO
    isplitl [HC]; · iexact HC
    isplitl [HA]; · iexact HA
    isplitl [HX]; · iexact HX
    isplitl [HW]; · iexact HW
    iexact HY
  isplitr; · iexact HI
  isplitl [HV]; · iexact HV
  iexact HL

theorem stage3 (hY : Y c = prods c v x w) :
    iprop((Owes e c 32 0 ∗ atPos ER (barCell c) 1 ∅ 0 ∗ bigSep Finset.univ (fun d : Dev nD => barPay e d c) ∗ xHeld c x ∗ wHeld c w ∗ yHeld c (prods c v x w))
      ∗ (inv e Y κ ∗ idxHeld c v ∗ later e c))
    ⊢ iprop(Slots e Y κ c 0 ∗ (held3 c v x w ∗ spareRows Y c ∗ recvReady e c ∗ sendsReady c ∗ bigSep Finset.univ fun r => lostBefore e c r)) := by
  rw [← hY, y_split]
  unfold Slots later held3 spareRows
  rw [along_start, along_start]
  iintro ⟨⟨HO, HZ, HB, HX, HW, HY, HS⟩, #HI, HV, HT, HR, HD, HP, HL⟩
  isplitl [HO HB HY HT HP]
  · isplitr; · iexact HI
    isplitl [HO]; · iexact HO
    isplitr [HP]
    · iapply (slots_ready e Y c)
      isplitl [HB]; · iexact HB
      isplitl [HT]; · iexact HT
      iexact HY
    · iexact HP
  isplitl [HV HX HW HZ]
  · isplitl [HV]; · iexact HV
    isplitl [HX]; · iexact HX
    isplitl [HW]; · iexact HW
    iexact HZ
  isplitl [HS]; · iexact HS
  isplitl [HR]; · iexact HR
  isplitl [HD]; · iexact HD
  iexact HL

theorem stage4 : iprop(Slots e Y κ c 12 ∗ (held3 c v x w ∗ spareRows Y c ∗ recvReady e c ∗ sendsReady c ∗ bigSep Finset.univ fun r => lostBefore e c r))
    ⊢ iprop(Lost Y c e 0 ∗ (Slots e Y κ c 12 ∗ held3 c v x w ∗ spareRows Y c ∗ recvReady e c ∗ sendsReady c)) := by
  unfold Lost
  rw [along_start]
  iintro ⟨HS, HH, HY, HR, HD, HL⟩
  isplitl [HL]; · iexact HL
  isplitl [HS]; · iexact HS
  isplitl [HH]; · iexact HH
  isplitl [HY]; · iexact HY
  isplitl [HR]; · iexact HR
  iexact HD

theorem recv_start : recvReady e c ⊢ arriving e Y c 0 := by
  unfold recvReady
  by_cases h : 0 < (arrivals e c).card
  · rw [arriving_lt e Y c h, Nat.sub_zero, Nat.zero_mul]
    iintro ⟨HC, HA⟩
    isplitl [HC]; · iexact HC
    iexists (∅ : Finset Du)
    isplitr; · ipureintro; exact Finset.empty_subset _
    isplitl [HA]; · iexact HA
    rw [BI.bigSep_empty]
    iempintro
  · have he : arrivals e c = ∅ := Finset.card_eq_zero.mp (by omega)
    rw [arriving_ge e Y c h]
    iintro ⟨-, HA⟩
    isplitl [HA]
    · iexists 0
      isplitr
      · ipureintro
        intro r _
        rcases Nat.eq_zero_or_pos r with rfl | hr
        · rw [duties_recv, he]
        · exact duties_later e Y _ r hr
      iexact HA
    rw [he, BI.bigSep_empty]
    iempintro

theorem stage5 : iprop(Lost Y c e 16 ∗ (Slots e Y κ c 12 ∗ held3 c v x w ∗ spareRows Y c ∗ recvReady e c ∗ sendsReady c))
    ⊢ iprop(Landing e Y κ c 0 ∗ (along (sendBefore e Y c) (sendAfter e Y c) 0
      ∗ (bigSep Finset.univ fun k => placeAfter e Y c k) ∗ (bigSep Finset.univ fun r => lostAfter e Y c r) ∗ held3 c v x w ∗ spareRows Y c)) := by
  unfold Lost Slots Landing sendsReady
  rw [along_end _ _ (le_refl 16), along_end _ _ (le_refl 12), along_end _ _ (le_refl 12), along_start]
  iintro ⟨HL, ⟨#HI, HO, HS, HP⟩, HH, HY, HR, HD⟩
  isplitl [HO HR]
  · isplitr; · iexact HI
    isplitl [HO]; · iapply (idle_intro e c) $$ HO
    iapply (recv_start e Y c) $$ HR
  isplitl [HS HD]
  · unfold sendBefore
    iapply (Entails.of_eq (bigSep_sep' _ _ _).symm)
    isplitl [HS]; · iexact HS
    iexact HD
  isplitl [HP]; · iexact HP
  isplitl [HL]; · iexact HL
  isplitl [HH]; · iexact HH
  iexact HY

theorem stage6 : iprop(Landing e Y κ c (arrivals e c).card ∗ (along (sendBefore e Y c) (sendAfter e Y c) 0
      ∗ (bigSep Finset.univ fun k => placeAfter e Y c k) ∗ (bigSep Finset.univ fun r => lostAfter e Y c r) ∗ held3 c v x w ∗ spareRows Y c))
    ⊢ iprop(Departing e Y κ c 0 ∗ (arriving e Y c (arrivals e c).card
      ∗ (bigSep Finset.univ fun k => placeAfter e Y c k) ∗ (bigSep Finset.univ fun r => lostAfter e Y c r) ∗ held3 c v x w ∗ spareRows Y c)) := by
  unfold Landing Departing
  iintro ⟨⟨HI, HO, HA⟩, HS, HR⟩
  isplitl [HI HO HS]
  · isplitl [HI]; · iexact HI
    isplitl [HO]; · iexact HO
    iexact HS
  isplitl [HA]; · iexact HA
  iexact HR

theorem stage7 (he : ∀ n, e n < 64) : iprop(Departing e Y κ c 12 ∗ (arriving e Y c (arrivals e c).card
      ∗ (bigSep Finset.univ fun k => placeAfter e Y c k) ∗ (bigSep Finset.univ fun r => lostAfter e Y c r) ∗ held3 c v x w ∗ spareRows Y c))
    ⊢ bodyPost e Y c v x w := by
  unfold Departing bodyPost held3 recvDone sendsDone spareRows
  rw [along_end _ _ (le_refl 12), arriving_ge e Y c (lt_irrefl _), y_split]
  unfold sendAfter
  rw [bigSep_sep']
  iintro ⟨⟨-, HO, HY, HD⟩, ⟨HR, HA⟩, HP, HL, ⟨HV, HX, HW, HZ⟩, HS⟩
  isplitl [HO]; · iexact HO
  isplitl [HV]; · iexact HV
  isplitl [HX]; · iexact HX
  isplitl [HW]; · iexact HW
  isplitl [HA HP HL]
  · iapply (out_whole e Y c he)
    isplitl [HA]; · iexact HA
    isplitl [HP]; · iexact HP
    iexact HL
  isplitl [HY HS]
  · isplitl [HY]; · iexact HY
    iexact HS
  isplitl [HR]; · iexact HR
  isplitl [HD]; · iexact HD
  iexact HZ

end Stages

section Whole

variable (Y : Dev nD → Rows) (κ : GSem nD τ sig → ℕ) (c : Dev nD)
variable (v : S512x1.Idx → BitVec 32) (he : ∀ n, expert v n < 64) (x : S512x256.Idx → EReal) (w : S2x256x512.Idx → EReal)
variable {a0 : (Memref.whole cc0_stg0_0 : Memref sig .tc .vmem S512x256 .f32).IsWhole} {a1 : (Memref.whole cc0_stg1_0 : Memref sig .tc .vmem S512x1 .i32).IsWhole}
  {a2 : (Memref.whole cc0_stg2_0 : Memref sig .tc .vmem S2x256x512 .f32).IsWhole} {a3 : (Memref.whole cc0_stg3_0 : Memref sig .tc .vmem S16x512 .f32).IsWhole}
  {a4 : (Memref.whole cc0_scratch0 : Memref sig .tc .vmem S16x512 .f32).IsWhole}

theorem sel_meW : k0_pay8 (F := Ideal) (meW c) (k0_pay6 (F := Ideal) (k0_pay2 (F := Ideal) v) (k0_pay3 (F := Ideal) v)) (iota .tc S512x16 32 [1] iota_S512x16_d1_w32) k0_pay7 8#32 = selOf v c := by
  rw [meW_eq]; rfl

theorem recv_meW : k0_pay59 (F := Ideal) (k0_pay2 (F := Ideal) v) (k0_pay55 (F := Ideal) (meW c) rows) (k0_pay56 (F := Ideal) (k0_pay5 (F := Ideal) (k0_pay3 (F := Ideal) v))) 2#32
    (k0_pay57 (k0_pay2 (F := Ideal) v)) (k0_pay58 (k0_pay2 (F := Ideal) v)) = recvOf v c := by
  rw [meW_eq]; rfl

theorem me_float : k0_pay1 (F := Ideal) c = ((c.val : ℕ) : EReal) := by
  show (FloatOps.sitofp (F := Ideal) .f32 (meW c) : EReal) = _
  rw [meW_eq]
  exact sitofp_nat (by have h : c.val < 32 := c.isLt; omega)

include he in
theorem expected_meW : extractAt ![0, 0, 0] (k0_pay60 (F := Ideal) (k0_pay1 (F := Ideal) c) (k0_pay2 (F := Ideal) v) (k0_pay55 (F := Ideal) (meW c) rows)
    (k0_pay56 (F := Ideal) (k0_pay5 (F := Ideal) (k0_pay3 (F := Ideal) v))) 2#32 (k0_pay57 (k0_pay2 (F := Ideal) v)) (k0_pay58 (k0_pay2 (F := Ideal) v)))
    inpos_S1x1x1_p0_0_0 = BitVec.ofNat 32 (arrivals (expert v) c).card := by
  rw [meW_eq]
  exact expected_apply v he c _ (me_float c)

include he in
set_option maxHeartbeats 4000000 in
/-- All of the body but the last two departures. -/
theorem part16_run (hY : Y c = prods c v x w) {Q : (Σ' (v395 : BitVec 1), BitVec 32) → sProp 𝕄}
    (hk : iprop(Departing (expert v) Y κ c 10 ∗ (arriving (expert v) Y c (arrivals (expert v) c).card
      ∗ (bigSep Finset.univ fun k => placeAfter (expert v) Y c k) ∗ (bigSep Finset.univ fun r => lostAfter (expert v) Y c r) ∗ held3 c v x w ∗ spareRows Y c))
      ⊢ Q ⟨awayW (expert v) c 11, Scalar.extui (awayW (expert v) c 10)⟩) :
    bodyPre (expert v) Y κ c v x w ⊢ wpB c (k0_part16_skel (Memref.whole cc0_stg0_0) a0 (Memref.whole cc0_stg1_0) a1 (Memref.whole cc0_stg2_0) a2 (Memref.whole cc0_stg3_0) a3
        (Memref.whole cc0_scratch0) a4 cc0_scratch1 cc0_scratch2) Q := by
  unfold k0_part16_skel
  refine (stage1 (expert v) Y κ c v x w).trans ?_
  refine bind_step c ?_
  rw [k0_part1_eq_skeleton]
  refine part1_run (expert v) Y κ c ?_
  refine bind_step c ?_
  rw [k0_part2_eq_skeleton]
  refine part2_run (expert v) Y κ c ?_
  refine bind_step c ?_
  rw [k0_part3_eq_skeleton]
  refine part3_run (expert v) Y κ c fun _ => ?_
  refine bind_step c ?_
  rw [k0_part4_eq_skeleton]
  refine part4_run (expert v) Y κ c v ?_
  refine bind_step c ?_
  rw [k0_part5_eq_skeleton]
  unfold k0_part5_skel
  refine (?_ : _ ⊢ _).trans (wpB_done c)
  refine bind_step c ?_
  rw [k0_part6_eq_skeleton]
  unfold k0_part6_skel
  refine (?_ : _ ⊢ _).trans (wpB_done c)
  refine (stage2 (expert v) Y κ c v x w).trans ?_
  refine bind_step c ?_
  rw [k0_part7_eq_skeleton, sel_meW c v]
  refine part7_run (expert v) Y κ c v ?_
  refine (stage3 (expert v) Y κ c v x w hY).trans ?_
  refine bind_step c ?_
  rw [k0_part8_eq_skeleton]
  refine part8_run Y κ c v he (hs := slices_S16x3_o0_0_S1x1) (h0 := ?_) (h1 := ?_) (hk := fun v234 v237 h6 v240 h5 v244 v245 t2 d2 r2 => ?_)
  · exact taken_read he c 0
  · rfl
  refine bind_step c ?_
  rw [k0_part9_eq_skeleton]
  refine part9_run Y κ c v he t2 d2 r2 ?_
  refine bind_step c ?_
  rw [k0_part10_eq_skeleton]
  refine part10_run Y κ c v he (hs := slices_S16x3_o5_0_S1x1) (h0 := ?_) (h1 := ?_) (hk := fun v319 v322 h16 v325 h15 v329 v330 t7 d7 r7 => ?_)
  · rfl
  · rfl
  refine bind_step c ?_
  rw [k0_part11_eq_skeleton]
  refine part11_run Y κ c v he t7 d7 r7 ?_
  refine bind_step c ?_
  rw [k0_part12_eq_skeleton]
  refine part12_run Y κ c v he (hs := slices_S16x3_o12_0_S1x1) (h0 := ?_) (h1 := ?_) (hk := ?_)
  · rfl
  · rfl
  refine (stage4 (expert v) Y κ c v x w).trans ?_
  refine bind_step c ?_
  rw [k0_part13_eq_skeleton]
  refine part13_run Y c v he ?_ ?_ fun rc v450 h25 hrc hn => ?_
  · exact recv_meW c v
  · exact expected_meW c v he
  refine bind_step c ?_
  rw [k0_part14_eq_skeleton]
  refine part14_run Y c v he hrc fun w' hw => ?_
  refine bind_step c ?_
  rw [k0_part15_eq_skeleton]
  refine part15_run Y c v he hrc hw fun a => ?_
  refine (stage5 (expert v) Y κ c v x w).trans ?_
  subst hn
  refine arrivals_step (expert v) Y κ c (trips_t1 (arrivals_few _ _)) (sem := cc0_scratch2.sem) rfl rfl (fun _ _ => rfl) ?_
  refine (stage6 (expert v) Y κ c v x w).trans ?_
  refine idle_step c (trips_t2 _) ?_
  have away := fun k => (wide_bit (awayW (expert v) c k)).trans awayW_iff
  extract_lets _ v537 _ v539 _ v541 _ v543 _ v545 _ v547 _ v549 _ v551 _ v553 _ v555
  refine depart_step (expert v) Y κ c 0 rfl (away 0) (hs := ?_) (hdst := ?_) (hk := ?_)
  · rfl
  · rfl
  refine depart_step (expert v) Y κ c 1 rfl (away 1) (hs := ?_) (hdst := ?_) (hk := ?_)
  · rfl
  · rfl
  refine depart_step (expert v) Y κ c 2 rfl (away 2) (hs := ?_) (hdst := ?_) (hk := ?_)
  · rfl
  · rfl
  refine depart_step (expert v) Y κ c 3 rfl (away 3) (hs := ?_) (hdst := ?_) (hk := ?_)
  · rfl
  · rfl
  refine depart_step (expert v) Y κ c 4 rfl (away 4) (hs := ?_) (hdst := ?_) (hk := ?_)
  · rfl
  · rfl
  refine depart_step (expert v) Y κ c 5 rfl (away 5) (hs := ?_) (hdst := ?_) (hk := ?_)
  · rfl
  · rfl
  refine depart_step (expert v) Y κ c 6 rfl (away 6) (hs := ?_) (hdst := ?_) (hk := ?_)
  · rfl
  · rfl
  refine depart_step (expert v) Y κ c 7 rfl (away 7) (hs := ?_) (hdst := ?_) (hk := ?_)
  · rfl
  · rfl
  refine depart_step (expert v) Y κ c 8 rfl (away 8) (hs := ?_) (hdst := ?_) (hk := ?_)
  · rfl
  · rfl
  refine depart_step (expert v) Y κ c 9 rfl (away 9) (hs := ?_) (hdst := ?_) (hk := ?_)
  · rfl
  · rfl
  exact hk.trans (wpB_done c)

include he in
/-- The body of the kernel. -/
theorem body_run (hY : Y c = prods c v x w) {Q : PUnit → sProp 𝕄} (hk : bodyPost (expert v) Y c v x w ⊢ Q ⟨⟩) :
    bodyPre (expert v) Y κ c v x w ⊢ wpB c (cc0_body (F := Ideal) (Memref.whole cc0_stg0_0) a0 (Memref.whole cc0_stg1_0) a1 (Memref.whole cc0_stg2_0) a2 (Memref.whole cc0_stg3_0) a3
        (Memref.whole cc0_scratch0) a4 cc0_scratch1 cc0_scratch2) Q := by
  rw [cc0_body_eq_skeleton]
  unfold cc0_body_skel
  refine bind_step c ?_
  rw [k0_part16_eq_skeleton]
  refine part16_run Y κ c v he x w hY ?_
  have away := fun k => (wide_bit (awayW (expert v) c k)).trans awayW_iff
  extract_lets v557 _ v559
  refine depart_step (expert v) Y κ c 10 rfl (away 10) (hs := ?_) (hdst := ?_) (hk := ?_)
  · rfl
  · rfl
  refine depart_step (expert v) Y κ c 11 rfl (away 11) (hs := ?_) (hdst := ?_) (hk := ?_)
  · rfl
  · rfl
  exact (stage7 (expert v) Y κ c v x w he).trans (hk.trans (wpB_done c))

end Whole

end Cert.Moe
-- ==== Proof.Region.lean ====
module

public import proofs.«01_k».proof.Proof.Body
public import Idealize.ShloMosaic.Lib.Layout
public import Idealize.ShloMosaic.Lib.Pipeline
public import Idealize.ShloMosaic.Lib.Pipeline.ValueKit.Geometry

/-! The kernel as the launch runs it: what its four windows hold, and the body's run between the entry of its point and
the exit. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
local notation "𝕄" => MT nD τ sig ℕ (Elt Ideal) ℕ UU ℕ

variable (m : (ℓ : Loc nD τ sig) → Buf (Elt Ideal) ℓ)

/-! ## What the devices hold -/

/-- Device `c`'s buffers at launch. -/
abbrev V₀ (c : Dev nD) : Valuation τ sig (Elt Ideal) := fun b => m ((c : Dev nD), b)
/-- Its buffers after the gather of the routing column. -/
abbrev V₁ (c : Dev nD) : Valuation τ sig (Elt Ideal) := ag0.after₀ ag0_cores (V₀ m) c

/-- The tokens a device holds, -/
def tokens (c : Dev nD) : S512x256.Idx → EReal := m ((c : Thread nD τ).loc main_arg0)
/-- its two experts' weights, -/
def weights (c : Dev nD) : S2x256x512.Idx → EReal := m ((c : Thread nD τ).loc main_arg3)
/-- the sixteen routing words it holds, -/
def words (c : Dev nD) : S16x1.Idx → BitVec 32 := m ((c : Thread nD τ).loc main_arg2)
/-- and the whole routing column: row `n` comes from device `n / 16`. -/
def column : S512x1.Idx → BitVec 32 := fun i => words m ⟨(i 0).val / 16, by have : (i 0).val < 512 := (i 0).isLt; show _ < 32; omega⟩ (ix2 ⟨(i 0).val % 16, Nat.mod_lt _ (by decide)⟩ 0)

/-- The products every device computes. -/
def products (c : Dev nD) : Rows := prods c (column m) (tokens m c) (weights m c)
/-- The expert each row is routed to. -/
abbrev route : Fin 512 → ℕ := expert (column m)

/-- The ring position that holds a part of the gathered column is the device of that number. -/
theorem peer_part : ∀ (d : Dev nD) (o : Fin ag0.m), ((ag0.peer d o : Dev nD) : Fin nD).val = (ag0.partOf d o).val := by
  decide

theorem peer_of_part (d : Dev nD) (j : Fin ag0.n) : ((ag0.peer d ((ag0.partEquiv ag0_cores d).symm j) : Dev nD) : Fin nD).val = j.val := by
  rw [peer_part]
  exact congrArg Fin.val ((ag0.partEquiv ag0_cores d).apply_symm_apply j)

/-- Every device gathers the same column. -/
theorem gathered (c : Dev nD) : V₁ m c main_v1 = column m := by
  show ag0.after₀ ag0_cores (V₀ m) c ag0.result = _
  rw [ag0.after₀_result]
  funext j
  rw [ag0.gatheredOf_entry]
  have h0 : (j 0).val < 512 := (j 0).isLt
  have hd : ag0.peer c ((ag0.partEquiv ag0_cores c).symm (ag0.partAt j)) = (⟨(j 0).val / 16, by show _ < 32; omega⟩ : Dev nD) :=
    Fin.ext ((peer_of_part c _).trans rfl)
  have hs : ag0.srcIdx j = (ix2 ⟨(j 0).val % 16, Nat.mod_lt _ (by decide)⟩ 0 : S16x1.Idx) := by
    funext b
    apply Fin.ext
    rw [ag0.srcIdx_val]
    match b with
    | ⟨0, _⟩ => rfl
    | ⟨1, _⟩ => exact Nat.lt_one_iff.mp (j 1).isLt
  rw [hd, hs]
  rfl

theorem V₁_of_ne (c : Dev nD) (b : Ref sig .tc) (h : (Proc.devRef .tc b : DevRef τ sig) ≠ Proc.devRef .tc main_v1) : V₁ m c b = m ((c : Thread nD τ).loc b) :=
  ag0.after₀_of_ne ag0_cores (V₀ m) c h

/-! ## The region -/

/-- The kernel's own semaphores: the twelve send cells and the receive cell. -/
def osem : Option (Fin 12) → SemLoc sig
  | none => .dma recvSem
  | some k => .dma (sendSem k)

theorem osem_facts : Pipeline.OwnSemFacts spec0 osem := by decide

theorem ownSems_eq (c : Dev nD) : (Pipeline.ownSems0 osem c : sProp 𝕄)
    = iprop(semVal (recvCell c) 0 ∗ bigSep Finset.univ fun k : Fin 12 => semVal (sendCell c k) 0) := by
  unfold Pipeline.ownSems0
  rw [show (Finset.univ : Finset (Option (Fin 12))) = insert none (Finset.univ.map Function.Embedding.some) from by decide,
    BI.bigSep_insert (by decide), BI.bigSep_map]
  rfl

/-- A device's rights in the protocol before the region. -/
def rights (c : Dev nD) : sProp 𝕄 :=
  iprop((bigSep Finset.univ fun N : Dev nD => dutyTok ER (barCell N) 0 (c, 0)) ∗ cred (tallyAt (barCell c) 19 32) ∗ atPos ER (barCell c) 0 ∅ 0
    ∗ cred (tallyAt (recvCell c) 20 ((arrivals (route m) c).card * A))
    ∗ bigSep Finset.univ fun k : Fin 12 => iprop(dutyTok ER (sendCell c k) 0 (0, 0) ∗ dutyTok ER (recvCell (slotDest (route m) c k)) 0 (c, k)))
/-- Its rights to open its own cells. -/
def opens (c : Dev nD) : sProp 𝕄 := iprop(openTok ER (recvCell c) ∗ bigSep Finset.univ fun k : Fin 12 => openTok ER (sendCell c k))
/-- Its cells opened. -/
def opened (c : Dev nD) : sProp 𝕄 :=
  iprop((atPos ER (recvCell c) 0 ∅ 0 ∗ reached ER (recvCell c) 0)
    ∗ bigSep Finset.univ fun k : Fin 12 => iprop(atPos ER (sendCell c k) 0 ∅ 0 ∗ reached ER (sendCell c k) 0))

/-- What the region is entered with, -/
def enter (c : Dev nD) : sProp 𝕄 := iprop(∃ κ, inv (route m) (products m) κ ∗ rights m c ∗ opened c)
/-- and what it leaves. -/
def leave (c : Dev nD) : sProp 𝕄 := semVal (barCell c) 0

/-- The product buffer at anything. -/
def yAny (c : Dev nD) : sProp 𝕄 := iprop(∃ f, yHeld c f)

/-- The region's proof data. -/
def dat0 (c : Dev nD) : Pipeline.Dat τ (Elt Ideal) ℕ ℕ UU ℕ cfg0 c where
  A w := match w with
    | ⟨0, _⟩ => tokens m c
    | ⟨1, _⟩ => column m
    | ⟨2, _⟩ => weights m c
    | ⟨3, _⟩ => m ((c : Thread nD τ).loc main_v2)
  after w _ := match w with
    | ⟨0, _⟩ => tokens m c
    | ⟨1, _⟩ => column m
    | ⟨2, _⟩ => weights m c
    | ⟨3, _⟩ => G (route m) (products m) c
  Φ t := if t.val = 0 then iprop(enter m c ∗ yAny c) else iprop(leave c ∗ Pipeline.ownSems0 osem c ∗ yAny c)
  q _ := fullShare
  owed t := if t.val = 0 then owed (route m) c 0 0 else 0

abbrev adm : (p : Fin 1) → (pcfgs (F := Ideal) p).Adm := fun p => (cfgs p).toPCfg_adm
def pdats : (p : Fin 1) → (c : Dev nD) → Pipeline.Dat τ (Elt Ideal) ℕ ℕ UU ℕ (Pipeline.pin (pcfgs (F := Ideal)) adm p) c
  | 0 => dat0 m

abbrev 𝒱₀ : Variants := Variants.none

theorem fetched_whole {w : Fin cfg0.W} (c : Dev nD) (d : (cfg0.win w).block.Idx → Elt Ideal (cfg0.win w).elt) (hf : (cfg0.win w).fetch t0_0 = true)
    {X : (cfg0.win w).block.Idx → Elt Ideal (cfg0.win w).elt} (hm : ∀ j, (cfg0.win w).moved (cfg0.grid.coords t0_0) j = true)
    (hX : ∀ j, (dat0 m c).blockOf w t0_0 (fun a => ⟨(j a).val, ((cfg0.win w).moved_iff _ j).mp (hm j) a⟩) = X j) : (dat0 m c).before w t0_0 d = X := by
  unfold Pipeline.Dat.before
  rw [if_pos hf]
  funext j
  unfold Pipeline.Dat.fetched Pipeline.Window.fill
  rw [dif_pos (hm j), hX]

theorem before_tokens (c : Dev nD) (d : (cfg0.win 0).block.Idx → Elt Ideal (cfg0.win 0).elt) : (dat0 m c).before 0 t0_0 d = tokens m c := by
  refine fetched_whole m c d (by decide) (fun j => ((cfg0.win 0).moved_iff _ j).mpr fun a => (j a).isLt) fun j => ?_
  show tokens m c _ = tokens m c j
  refine congrArg _ (funext fun a => Fin.ext ?_)
  exact Pipeline.Window.rect_emb_val_of_index_zero (cfg0.win 0) t0_0 a (by rfl) j
theorem before_column (c : Dev nD) (d : (cfg0.win 1).block.Idx → Elt Ideal (cfg0.win 1).elt) : (dat0 m c).before 1 t0_0 d = column m := by
  refine fetched_whole m c d (by decide) (fun j => ((cfg0.win 1).moved_iff _ j).mpr fun a => (j a).isLt) fun j => ?_
  show column m _ = column m j
  refine congrArg _ (funext fun a => Fin.ext ?_)
  exact Pipeline.Window.rect_emb_val_of_index_zero (cfg0.win 1) t0_0 a (by rfl) j
theorem before_weights (c : Dev nD) (d : (cfg0.win 2).block.Idx → Elt Ideal (cfg0.win 2).elt) : (dat0 m c).before 2 t0_0 d = weights m c := by
  refine fetched_whole m c d (by decide) (fun j => ((cfg0.win 2).moved_iff _ j).mpr fun a => (j a).isLt) fun j => ?_
  show weights m c _ = weights m c j
  refine congrArg _ (funext fun a => Fin.ext ?_)
  exact Pipeline.Window.rect_emb_val_of_index_zero (cfg0.win 2) t0_0 a (by rfl) j

/-- What the result window's array ends with. -/
theorem final_out (c : Dev nD) : (dat0 m c).arrAt 3 cfg0.N = G (route m) (products m) c :=
  (dat0 m c).arrAt_eq_of_after_last 3 t0_0 (by decide +kernel) _ fun j => rfl

theorem owns_whole_eq (c : Dev nD) (b : Ref sig .tc) (X : b.ty.Contents (Elt Ideal)) :
    (owns (Ix := ℕ) (Name := ℕ) (U := UU) (Lvl := ℕ) (c : Thread nD τ) (Memref.whole b) fullShare X : sProp 𝕄)
      = iprop(∃ f : Buf (Elt Ideal) (((c : Dev nD) : Thread nD τ).loc b), ⌜f = X⌝ ∗ (((c : Thread nD τ).loc b) ↦{fullShare} f)) := by
  unfold owns; simp only [Memref.view_whole, View.read_whole, View.set_whole]

theorem owed_first (c : Dev nD) : (dat0 m c).owed t0_0.castSucc = owed (route m) c 0 0 := by
  show (if t0_0.castSucc.val = 0 then owed (route m) c 0 0 else 0) = _
  rw [if_pos (by rfl)]
theorem owed_last (c : Dev nD) : (dat0 m c).owed (Fin.last _) = 0 := by
  show (if (Fin.last cfg0.N).val = 0 then owed (route m) c 0 0 else 0) = 0
  rw [Fin.val_last, if_neg (by rw [show cfg0.N = 1 from N_0]; decide)]

theorem owes_out (c : Dev nD) (t : Fin (cfg0.N + 1)) {O : CellTallies nD τ sig ℕ} (h : (dat0 m c).owed t = O) :
    ((dat0 m c).owesAt 0 t : sProp 𝕄) ⊢ iprop(∃ W, owes (c : Thread nD τ) O W) := by
  unfold Pipeline.Dat.owesAt Pipeline.owesWithin; rw [h]
  iintro ⟨%W, -, HO⟩; iexists W; iexact HO
theorem owes_into (c : Dev nD) (t : Fin (cfg0.N + 1)) {O : CellTallies nD τ sig ℕ} (h : (dat0 m c).owed t = O) :
    iprop(∃ W, owes (c : Thread nD τ) O W) ⊢ ((dat0 m c).owesAt 0 t : sProp 𝕄) := by
  unfold Pipeline.Dat.owesAt Pipeline.owesWithin; rw [h]
  iintro ⟨%W, HO⟩; iexists W; isplitr; · ipureintro; exact fun _ _ => Or.inl trivial
  iexact HO

/-! ## The body's run -/

/-- What the body is run from. -/
def bodyStart (κ : GSem nD τ sig → ℕ) (c : Dev nD) : sProp 𝕄 :=
  iprop(inv (route m) (products m) κ ∗ rights m c ∗ opened c ∗ yAny c ∗ Owes (route m) c 0 0 ∗ xHeld c (tokens m c) ∗ idxHeld c (column m) ∗ wHeld c (weights m c)
    ∗ ∃ f, outHeld c f)
/-- What it leaves. -/
def bodyEnd (c : Dev nD) : sProp 𝕄 :=
  iprop((leave c ∗ Pipeline.ownSems0 osem c ∗ yAny c) ∗ Idle c ∗ xHeld c (tokens m c) ∗ idxHeld c (column m) ∗ wHeld c (weights m c) ∗ outHeld c (G (route m) (products m) c))

theorem sig_ready (e : Fin 512 → ℕ) (c : Dev nD) : (iprop((bigSep Finset.univ fun N : Dev nD => dutyTok ER (barCell N) 0 (c, 0)) ∗ bigSep Finset.univ fun N : Dev nD => barPay e c N) : sProp 𝕄)
    ⊢ bigSep Finset.univ fun N : Dev nD => sigTok e c N :=
  Entails.of_eq (bigSep_sep' _ _ _).symm

theorem tok_ready (e : Fin 512 → ℕ) (c : Dev nD) :
    (iprop((bigSep Finset.univ fun k : Fin 12 => iprop(dutyTok ER (sendCell c k) 0 (0, 0) ∗ dutyTok ER (recvCell (slotDest e c k)) 0 (c, k)))
      ∗ bigSep Finset.univ fun k : Fin 12 => iprop(atPos ER (sendCell c k) 0 ∅ 0 ∗ reached ER (sendCell c k) 0)) : sProp 𝕄)
    ⊢ iprop((bigSep Finset.univ fun k => slotTok e c k) ∗ sendsReady c) := by
  unfold sendsReady
  rw [← bigSep_sep', ← bigSep_sep']
  refine bigSep_mono fun k _ => ?_
  have h : (iprop((dutyTok ER (sendCell c k) 0 (0, 0) ∗ dutyTok ER (recvCell (slotDest e c k)) 0 (c, k)) ∗ (atPos ER (sendCell c k) 0 ∅ 0 ∗ reached ER (sendCell c k) 0)) : sProp 𝕄)
      ⊢ iprop(slotTok e c k ∗ atPos ER (sendCell c k) 0 ∅ 0) := by
    unfold slotTok
    iintro ⟨⟨H1, H2⟩, H3, H4⟩
    isplitr [H3]
    · isplitl [H1]; · iexact H1
      isplitl [H4]; · iexact H4
      iexact H2
    iexact H3
  exact h

theorem start_pre (he : ∀ n, route m n < 64) (κ : GSem nD τ sig → ℕ) (c : Dev nD) :
    bodyStart m κ c ⊢ bodyPre (route m) (products m) κ c (column m) (tokens m c) (weights m c) := by
  unfold bodyStart bodyPre later recvReady rights opened
  iintro ⟨#HI, ⟨HB, HC, HA, HRC, HT⟩, ⟨⟨HRA, #HRR⟩, HS⟩, HY, HO, HX, HV, HW, HF⟩
  ihave HF := (out_lend (route m) c he) $$ [HF]
  · isplitr; · iexact HRR
    iexact HF
  icases HF with ⟨HP, HPl, HL⟩
  ihave HT := (tok_ready (route m) c) $$ [HT HS]
  · isplitl [HT]; · iexact HT
    iexact HS
  icases HT with ⟨HT, HS⟩
  isplitr; · iexact HI
  isplitl [HO]; · iexact HO
  isplitl [HB HP]
  · iapply (sig_ready (route m) c)
    isplitl [HB]; · iexact HB
    iexact HP
  isplitl [HV]; · iexact HV
  isplitl [HC]; · iexact HC
  isplitl [HA]; · iexact HA
  isplitl [HX]; · iexact HX
  isplitl [HW]; · iexact HW
  isplitl [HY]; · unfold yAny; iexact HY
  isplitl [HT]; · iexact HT
  isplitl [HRC HRA]
  · isplitl [HRC]; · iexact HRC
    iexact HRA
  isplitl [HS]; · iexact HS
  isplitl [HPl]; · iexact HPl
  iexact HL

/-- A cell past its rounds is closed. -/
theorem close_one (e : Fin 512 → ℕ) (Y : Dev nD → Rows) (κ : GSem nD τ sig → ℕ) (g : GSem nD τ sig) :
    (iprop(cellInv ER (moe e Y) (κ g) g ∗ ∃ R, ⌜∀ r, R ≤ r → (moe e Y).duties g r = ∅⌝ ∗ atPos ER g R ∅ 0) : sProp 𝕄) ⊢ iprop(|={Set.univ}=> semVal g 0) := by
  iintro ⟨HI, ⟨%R, %hR, HA⟩⟩
  iapply (Rounds.cell_close ER (moe e Y) (Set.mem_univ (κ g)) id hR)
  isplitl [HI]; · iexact HI
  iexact HA

theorem post_end (κ : GSem nD τ sig → ℕ) (c : Dev nD) :
    (iprop(inv (route m) (products m) κ ∗ bodyPost (route m) (products m) c (column m) (tokens m c) (weights m c)) : sProp 𝕄)
      ⊢ iprop(|={Set.univ}=> bodyEnd m c) := by
  unfold bodyPost bodyEnd recvDone sendsDone leave
  rw [ownSems_eq]
  iintro ⟨#HI, HO, HV, HX, HW, HF, HY, HR, HS, HB⟩
  imod (close_one (route m) (products m) κ (barCell c)) $$ [HB] with HB
  · isplitr; · iapply (inv_bar (route m) (products m) κ c); iexact HI
    iexists 1
    isplitr; · ipureintro; exact duties_later (route m) (products m) _
    iexact HB
  imod (close_one (route m) (products m) κ (recvCell c)) $$ [HR] with HR
  · isplitr; · iapply (inv_recv (route m) (products m) κ c); iexact HI
    iexact HR
  ihave HS := (bigSep_with_persistent (R := inv (route m) (products m) κ) (Ψ := fun k : Fin 12 => iprop(|={Set.univ}=> semVal (sendCell c k) 0)) (S := Finset.univ) ?_) $$ [HS]
  rotate_left
  · isplitr; · iexact HI
    iexact HS
  · imod (BI.bigSep_fupd (Fr := frame) (E := Set.univ) Finset.univ (fun k : Fin 12 => semVal (sendCell c k) 0)) $$ HS with HS
    imodintro
    isplitl [HB HR HS HY]
    · isplitl [HB]; · iexact HB
      isplitl [HR HS]
      · isplitl [HR]; · iexact HR
        iexact HS
      unfold yAny; iexists _; iexact HY
    isplitl [HO]; · iexact HO
    isplitl [HX]; · iexact HX
    isplitl [HV]; · iexact HV
    isplitl [HW]; · iexact HW
    iexact HF
  · intro k _
    exact (sep_mono (inv_send (route m) (products m) κ c k) .rfl).trans (close_one (route m) (products m) κ (sendCell c k))

/-- The body runs from the one to the other. -/
theorem body_whole (he : ∀ n, route m n < 64) (κ : GSem nD τ sig → ℕ) (c : Dev nD) {a0 a1 a2 a3 a4} (Q : PUnit → sProp 𝕄) :
    iprop(bodyStart m κ c ∗ (bodyEnd m c -∗ Q ⟨⟩)) ⊢ wpB c (cc0_body (F := Ideal) (Memref.whole cc0_stg0_0) a0 (Memref.whole cc0_stg1_0) a1 (Memref.whole cc0_stg2_0) a2
      (Memref.whole cc0_stg3_0) a3 (Memref.whole cc0_scratch0) a4 cc0_scratch1 cc0_scratch2) Q := by
  have hrun : (bodyStart m κ c : sProp 𝕄) ⊢ wpB c (cc0_body (F := Ideal) (Memref.whole cc0_stg0_0) a0 (Memref.whole cc0_stg1_0) a1 (Memref.whole cc0_stg2_0) a2
      (Memref.whole cc0_stg3_0) a3 (Memref.whole cc0_scratch0) a4 cc0_scratch1 cc0_scratch2) fun _ => bodyPost (route m) (products m) c (column m) (tokens m c) (weights m c) :=
    (start_pre m he κ c).trans (body_run (products m) κ c (column m) he (tokens m c) (weights m c) rfl .rfl)
  have hinv : (bodyStart m κ c : sProp 𝕄) ⊢ iprop(inv (route m) (products m) κ ∗ bodyStart m κ c) := by
    unfold bodyStart
    iintro ⟨#HI, H⟩
    isplitr; · iexact HI
    isplitr; · iexact HI
    iexact H
  iintro ⟨HS, HQ⟩
  ihave H := hinv $$ HS
  icases H with ⟨#HI, HS⟩
  ihave H := hrun $$ HS
  iapply (wp_fupd _ _ _ _)
  iapply (wp_wand_r _ _)
  isplitl [H]; · iexact H
  iintro %u HP
  imod (post_end m κ c) $$ [HP] with HE
  · isplitr; · iexact HI
    iexact HP
  imodintro
  iapply HQ; iexact HE

theorem phi_first (c : Dev nD) : (dat0 m c).Φ t0_0.castSucc = iprop(enter m c ∗ yAny c) := by
  show (if t0_0.castSucc.val = 0 then iprop(enter m c ∗ yAny c) else iprop(leave c ∗ Pipeline.ownSems0 osem c ∗ yAny c) : sProp 𝕄) = _
  rw [if_pos (by rfl)]
theorem phi_last (c : Dev nD) : (dat0 m c).Φ t0_0.succ = iprop(leave c ∗ Pipeline.ownSems0 osem c ∗ yAny c) := by
  show (if t0_0.succ.val = 0 then iprop(enter m c ∗ yAny c) else iprop(leave c ∗ Pipeline.ownSems0 osem c ∗ yAny c) : sProp 𝕄) = _
  rw [if_neg (by decide)]
theorem owed_succ (c : Dev nD) : (dat0 m c).owed t0_0.succ = 0 := by
  show (if t0_0.succ.val = 0 then owed (route m) c 0 0 else 0) = 0
  rw [if_neg (by decide)]

theorem body_obligation (he : ∀ n, route m n < 64) (c : Dev nD) : BodyObligation (dat0 m c) (defs₀ (F := Ideal)) 𝒱₀ 0 Set.univ := fun t => by
  obtain rfl := fin_N0 t
  rw [bigSep_W0, bigSep_W0]
  simp only [owns_whole_eq]
  rw [phi_first, phi_last]
  show _ ⊢ wpB c (cc0_body (F := Ideal) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) cc0_scratch1 cc0_scratch2) _
  unfold enter
  iintro ⟨⟨⟨%κ, #HI, HR, HC⟩, HY⟩, HO, ⟨%d0, %f0, %h0, H0⟩, ⟨%d1, %f1, %h1, H1⟩, ⟨%d2, %f2, %h2, H2⟩, ⟨%d3, %f3, %h3, H3⟩⟩
  rw [before_tokens] at h0; subst h0
  rw [before_column] at h1; subst h1
  rw [before_weights] at h2; subst h2
  ihave HO := (owes_out m c _ (owed_first m c)) $$ HO
  iapply (body_whole m he κ c _)
  isplitl [HR HC HY HO H0 H1 H2 H3]
  · unfold bodyStart
    isplitr; · iexact HI
    isplitl [HR]; · iexact HR
    isplitl [HC]; · iexact HC
    isplitl [HY]; · iexact HY
    isplitl [HO]; · unfold Owes; iexact HO
    isplitl [H0]; · unfold xHeld; iexact H0
    isplitl [H1]; · unfold idxHeld; iexact H1
    isplitl [H2]; · unfold wHeld; iexact H2
    iexists f3; unfold outHeld; iexact H3
  unfold bodyEnd Idle xHeld idxHeld wHeld outHeld
  iintro ⟨HP, HO, H0, H1, H2, H3⟩
  isplitl [HP]; · iexact HP
  isplitl [HO]; · iapply (owes_into m c _ (owed_succ m c)); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.Moe
-- ==== Proof.Segs.lean ====
module

public import proofs.«01_k».proof.Proof.Region

/-! The two statements of `@main` on a device: the gather of the routing column, during which the device already owes its
signals and rows, and the region. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

/-! ## The waits of the gather and of the staging copies -/

section Waits

variable (e : Fin 512 → ℕ) (c : Dev nD)

/-- What a device owes at the start of the region. -/
abbrev dues (c : Dev nD) : CellTallies nD τ sig ℕ := owed e c 0 0

/-- It owes at the levels from 19 on only. -/
theorem dues_pos {g : GSem nD τ sig} {i : ℕ} (h : 0 < dues e c g i) : i ∈ L g ∧ 19 ≤ i := by
  rcases owed_pos e h with ⟨N, rfl, rfl, -⟩ | ⟨N, rfl, rfl⟩
  · exact ⟨mem_L N _ (by decide), le_rfl⟩
  · exact ⟨mem_L N _ (by decide), by decide⟩

/-- A wait at a level below 19 may be made while the device owes these and, of the gather, only transfers above that level. -/
theorem below (S : Finset (SemLoc sig × ℕ)) (b : ℕ) (hb : b < 19) (D : CellTallies nD τ sig ℕ) (hS : ∀ p ∈ S, p.2 = b)
    (hD : ∀ (g : GSem nD τ sig) (i : ℕ), 0 < D g i → i ∈ L g ∧ b < i) : (levAts L lv : sProp 𝕄) ⊢ MayOwe (c : Thread nD τ) S D :=
  MayOwe.of_cut (L := L) (lev := lv) b (fun p hp => by rw [hS p hp]; exact mem_L c _ (by omega)) (fun g i hg => (hD g i hg).1)
    (fun p hp => le_of_eq (hS p hp)) (fun g i hg => (hD g i hg).2)

theorem transfers_pos {c' : Dev nD} {i : ℕ} {g : GSem nD τ sig} {u : ℕ} (h : 0 < ag0.iterDue Sites.ι0 c' i g u) : u ∈ L g ∧ 2 + i ≤ u := by
  obtain ⟨_, _, _, _, j, rfl, hij, hj, hu⟩ := ag0.iterDue_pos Sites.ι0 h
  have hn := ag0_iters
  rcases hu with rfl | rfl
  all_goals exact ⟨mem_L _ _ (by show 2 + j < 22; omega), by show 2 + i ≤ 2 + j; omega⟩

theorem both_pos {c' : Dev nD} {i b : ℕ} (hb : b < 19) (hi : b < 2 + i) (g : GSem nD τ sig) (u : ℕ)
    (h : 0 < (dues e c + ag0.iterDue Sites.ι0 c' i) g u) : u ∈ L g ∧ b < u := by
  rw [Pi.add_apply, Finsupp.add_apply] at h
  rcases Nat.add_pos_iff_pos_or_pos.mp h with h | h
  · exact ⟨(dues_pos e c h).1, lt_of_lt_of_le hb (dues_pos e c h).2⟩
  · exact ⟨(transfers_pos h).1, lt_of_lt_of_le hi (transfers_pos h).2⟩

theorem wait_bar : (levAts L lv : sProp 𝕄) ⊢ MayOwe (c : Thread nD τ) (ag0.barrierWaits Sites.ι0) (dues e c + ag0.iterDue Sites.ι0 c 0) :=
  below c _ 1 (by decide) _ (fun p hp => by
    rw [ag0.barrierWaits_one Sites.ι0 ag0_cores, Finset.mem_insert, Finset.mem_singleton] at hp
    rcases hp with rfl | rfl <;> rfl) (both_pos e c (by decide) (by decide))

theorem wait_loop : (levAts L lv : sProp 𝕄) ⊢ ag0.mayWaitsFrom Sites.ι0 c (dues e c) 0 :=
  ag0.mayWaitsFrom_intro Sites.ι0 ag0_cores L lv c _ fun i hi c' _ =>
    below c _ (2 + i) (by have := ag0_iters; omega) _ (fun p hp => by rw [Finset.mem_singleton.mp hp]; rfl)
      (both_pos e c (by have := ag0_iters; omega) (by omega))

theorem wait_last (sm : SemLoc sig) (b : ℕ) (hb : b < 19) : (levAts L lv : sProp 𝕄) ⊢ MayWait (c : Thread nD τ) sm b (dues e c) :=
  below c _ b hb _ (fun p hp => by rw [Finset.mem_singleton.mp hp]) fun g i h =>
    ⟨(dues_pos e c h).1, lt_of_lt_of_le hb (dues_pos e c h).2⟩

end Waits

/-! ## The segments -/

variable (m : (ℓ : Loc nD τ sig) → Buf (Elt Ideal) ℓ)

/-- A buffer of core `c` at the full share, spelt at the location. -/
abbrev pl (c : Dev nD) (b : Ref sig .tc) (f : b.ty.Contents (Elt Ideal)) : sProp 𝕄 := ((c : Thread nD τ).loc b) ↦{fullShare} f
/-- A buffer as launched. -/
abbrev pl₀ (c : Dev nD) (b : Ref sig .tc) : sProp 𝕄 := pl c b (m ((c : Thread nD τ).loc b))

/-- The gather's cells are under their invariants. -/
abbrev gatherInvs : sProp 𝕄 := iprop(∃ κ, (AllGather.Dat.once (U := UU) ag0 (V₀ m) ag0_cores).cellInvs (Sites.E0 EC) κ)
/-- Its cells on device `c` after it ran. -/
abbrev gatherPast (c : Dev nD) : sProp 𝕄 := iprop(ag0.ghostAfter (Sites.E0 EC) c ∗ ag0.pcells (Sites.E0 EC) c)
/-- What device `c` has of the protocol before the region. -/
def mine (c : Dev nD) : sProp 𝕄 := iprop(∃ κ, inv (route m) (products m) κ ∗ rights m c ∗ opens c)

/-- What rides beside the gather's two buffers through it. -/
def rest (c : Dev nD) : sProp 𝕄 :=
  iprop(pl₀ m c main_arg0 ∗ pl₀ m c main_arg1 ∗ pl₀ m c main_arg3 ∗ pl₀ m c main_v2 ∗ gatherInvs m ∗ mine m c)

local notation "ℍ" => Pipeline.HostSeg (Name := ℕ) (U := UU) (pcfgs (F := Ideal)) defs₀ 𝒱₀ L lv
local notation "ℝ𝕊" => Pipeline.RegionSeg (pcfgs (F := Ideal)) adm (pdats m) 0 defs₀ 𝒱₀ L lv

/-- The gather of the routing column. -/
def segG : ℍ := collSeg0 (Sites.E0 EC) 𝒱₀ L lv (V₀ m) (dues (route m)) Sites.ι0 (wait_bar (route m)) (wait_loop (route m))
  (fun c => wait_last (route m) c _ 18 (by decide)) (fun c => wait_last (route m) c _ 18 (by decide)) (rest m)

/-- The last thread state: the arguments as launched, the result, the gather's cells past and the barrier cell at zero. -/
def Tₙ (c : Dev nD) : sProp 𝕄 :=
  iprop((pl₀ m c main_arg0 ∗ pl₀ m c main_arg1 ∗ pl₀ m c main_arg2 ∗ pl₀ m c main_arg3)
    ∗ pl c main_v2 (G (route m) (products m) c) ∗ leave c ∗ gatherInvs m ∗ gatherPast c)

/-- A device opens its own cells. -/
theorem open_all (κ : GSem nD τ sig → ℕ) (c : Dev nD) :
    (iprop(inv (route m) (products m) κ ∗ opens c ∗ Pipeline.ownSems0 osem c) : sProp 𝕄) ⊢ iprop(|={Set.univ}=> opened c) := by
  rw [ownSems_eq]
  unfold opens opened
  iintro ⟨#HI, ⟨HO, HOs⟩, HS, HSs⟩
  imod (Rounds.cell_open ER (moe (route m) (products m)) (g := recvCell c) (Set.mem_univ (κ (recvCell c)))) $$ [HO HS] with HR
  · isplitr; · iapply (inv_recv (route m) (products m) κ c); iexact HI
    isplitl [HO]; · iexact HO
    iexact HS
  ihave HB := (Entails.of_eq (bigSep_sep' _ _ _).symm) $$ [HOs HSs]
  · isplitl [HOs]; · iexact HOs
    iexact HSs
  ihave HB := (bigSep_with_persistent (R := inv (route m) (products m) κ)
    (Ψ := fun k : Fin 12 => iprop(|={Set.univ}=> (atPos ER (sendCell c k) 0 ∅ 0 ∗ reached ER (sendCell c k) 0))) (S := Finset.univ) ?_) $$ [HB]
  rotate_left
  · isplitr; · iexact HI
    iexact HB
  · imod (BI.bigSep_fupd (Fr := frame) (E := Set.univ) Finset.univ (fun k : Fin 12 => iprop(atPos ER (sendCell c k) 0 ∅ 0 ∗ reached ER (sendCell c k) 0))) $$ HB with HB
    imodintro
    isplitl [HR]; · iexact HR
    iexact HB
  · intro k _
    exact (sep_mono (inv_send (route m) (products m) κ c k) .rfl).trans
      (Rounds.cell_open ER (moe (route m) (products m)) (g := sendCell c k) (Set.mem_univ (κ (sendCell c k))))

theorem mine_open (c : Dev nD) : (iprop(mine m c ∗ Pipeline.ownSems0 osem c) : sProp 𝕄) ⊢ iprop(|={Set.univ}=> enter m c) := by
  unfold mine enter
  iintro ⟨⟨%κ, #HI, HR, HO⟩, HS⟩
  imod (open_all m κ c) $$ [HO HS] with HO
  · isplitr; · iexact HI
    isplitl [HO]; · iexact HO
    iexact HS
  imodintro
  iexists κ
  isplitr; · iexact HI
  isplitl [HR]; · iexact HR
  iexact HO

/-- The region's arrays are the four windows'. -/
theorem arrays_eq (c : Dev nD) (Fa) : ((pdats m 0 c).arrays Fa : sProp 𝕄)
    = iprop(pl c main_arg0 (Fa 0) ∗ pl c main_v1 (Fa 1) ∗ pl c main_arg3 (Fa 2) ∗ pl c main_v2 (Fa 3)) := by
  rw [Pipeline.arrays_eq (Pipeline.pin (pcfgs (F := Ideal)) adm) (pdats m) 0 c launch0.arr_whole ((pdats m 0 c).share_full fun _ => rfl) Fa, bigSep_W0]

theorem waits0 (c : Dev nD) : (levAts L lv : sProp 𝕄) ⊢ Pipeline.cellsWaits (Pipeline.pin (pcfgs (F := Ideal)) adm) (pdats m) 0 0 c :=
  Pipeline.cellsWaits_intro _ (pdats m) 0 0 c fun w s t => by
    show _ ⊢ MayWait _ _ _ (if t.val = 0 then owed (route m) c 0 0 else 0)
    by_cases h : t.val = 0
    · rw [if_pos h]; exact wait_last (route m) c _ 0 (by decide)
    · rw [if_neg h, MayWait_zero]; iintro -; iempintro

/-- The region. -/
def reg0 (he : ∀ n, route m n < 64) : ℝ𝕊 0 where
  win := launch0.win.to₀
  block_pos := launch0.block_pos
  stage_whole := launch0.stage_whole
  K := Option (Fin 12)
  osem := osem
  ho := osem_facts
  hbody c := (body_obligation m he c).loose
  hwaits c := waits0 m c
  pre := (segG m).post
  post c := iprop(Tₙ m c ∗ ∃ W, owes (c : Thread nD τ) (0 : CellTallies nD τ sig ℕ) W)
  X c := enter m c
  Y c := leave c
  Z c := iprop(pl₀ m c main_arg1 ∗ pl₀ m c main_arg2 ∗ gatherInvs m ∗ gatherPast c)
  hentry c := by
    dsimp only [segG, collSeg0, AllGather.hostSegHeld₀]
    unfold rest
    rw [AllGather.Cfg.held_siteRefs, arrays_eq]
    iintro ⟨⟨⟨H1, H2⟩, HG, HO, Ha0, Ha1, Ha3, Hv, Hi, HM⟩, HS, -⟩
    imod (mine_open m c) $$ [HM HS] with HM
    · isplitl [HM]; · iexact HM
      iexact HS
    imodintro
    isplitl [Ha0 H1 Ha3 Hv]
    · isplitl [Ha0]; · iexact Ha0
      isplitl [H1]; · iapply (Entails.of_eq (congrArg (fun X => (pl c main_v1 X : sProp 𝕄)) (gathered m c))); iexact H1
      isplitl [Ha3]; · iexact Ha3
      iexact Hv
    isplitr; · unfold Pipeline.prefHeld; rw [show (Finset.univ : Finset (Fin 0)) = ∅ from rfl, BI.bigSep_empty]; iempintro
    isplitl [HO]
    · iapply (owes_into m c 0 (owed_first m c)); iexact HO
    isplitl [HM]; · iexact HM
    isplitl [Ha1]; · iexact Ha1
    isplitl [H2]; · iapply (Entails.of_eq (congrArg (fun X => (pl c main_arg2 X : sProp 𝕄)) (V₁_of_ne m c main_arg2 (by decide)))); iexact H2
    isplitl [Hi]; · iexact Hi
    iexact HG
  hin c := by
    rw [scopedRest0_eq]
    show _ ⊢ (dat0 m c).Φ t0_0.castSucc
    rw [phi_first]
    iintro ⟨HX, -, HY⟩
    isplitl [HX]; · iexact HX
    unfold yAny yHeld; iexact HY
  hout c := by
    rw [scopedRest0_eq]
    show (dat0 m c).Φ t0_0.succ ⊢ _
    rw [phi_last]
    unfold yAny yHeld
    exact .rfl
  hexit c := by
    rw [arrays_eq]
    iintro ⟨⟨Ha0, -, Ha3, Hv⟩, HO, HY, Ha1, Ha2, Hi, HG⟩
    imodintro
    unfold Tₙ
    isplitr [HO]
    · isplitl [Ha0 Ha1 Ha2 Ha3]
      · isplitl [Ha0]; · iapply (Entails.of_eq (congrArg (fun X => (pl c main_arg0 X : sProp 𝕄)) ((dat0 m c).arrAt_in 0 rfl _))); iexact Ha0
        isplitl [Ha1]; · iexact Ha1
        isplitl [Ha2]; · iexact Ha2
        iapply (Entails.of_eq (congrArg (fun X => (pl c main_arg3 X : sProp 𝕄)) ((dat0 m c).arrAt_in 2 rfl _))); iexact Ha3
      isplitl [Hv]; · iapply (Entails.of_eq (congrArg (fun X => (pl c main_v2 X : sProp 𝕄)) (final_out m c))); iexact Hv
      isplitl [HY]; · iexact HY
      isplitl [Hi]; · iexact Hi
      iexact HG
    · iapply (owes_out m c _ (owed_last m c)); iexact HO

/-- `@main` as the list of the two. -/
def segs (he : ∀ n, route m n < 64) : List (Pipeline.Seg (pcfgs (F := Ideal)) adm (pdats m) 0 defs₀ 𝒱₀ L lv) := [.host (segG m), .region (reg0 m he)]

theorem main_eq (he : ∀ n, route m n < 64) (c : Dev nD) : main (F := Ideal) c = Pipeline.Seg.run (segs m he) :=
  main_segs adm (pdats m) 0 𝒱₀ L lv (segG m) (reg0 m he) rfl c

end Cert.Moe
-- ==== Proof.Funding.lean ====
module

public import proofs.«01_k».proof.Proof.Segs

/-! The launch: every cell under its invariant — the barrier cells from their counters, the scoped ones still to be opened —,
every token dealt, and each device's credit for what the others owe it. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

/-! ## Cells and tokens -/

section Cells

variable (e : Fin 512 → ℕ)

theorem osem_inj : Function.Injective osem := by decide
theorem osem_ne_bar : ∀ k, osem k ≠ .reg barrier0 := by decide

/-- The barrier cells, by device; -/
def barEmb : Dev nD ↪ GSem nD τ sig := ⟨fun c => barCell c, fun _ _ h => congrArg (fun g : GSem nD τ sig => g.1.1) h⟩
/-- the kernel's scoped cells, by device and semaphore. -/
def scEmb : Dev nD × Option (Fin 12) ↪ GSem nD τ sig :=
  ⟨fun p => ((p.1 : Thread nD τ), osem p.2), fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

theorem bar_mem (c : Dev nD) : barCell c ∈ (barCells ∪ scCells : Finset (GSem nD τ sig)) :=
  Finset.mem_union_left _ (Finset.mem_map_of_mem barEmb (Finset.mem_univ c))
theorem recv_mem (c : Dev nD) : recvCell c ∈ (barCells ∪ scCells : Finset (GSem nD τ sig)) :=
  Finset.mem_union_right _ (Finset.mem_map_of_mem scEmb (Finset.mem_univ (c, none)))
theorem send_mem (c : Dev nD) (k : Fin 12) : sendCell c k ∈ (barCells ∪ scCells : Finset (GSem nD τ sig)) :=
  Finset.mem_union_right _ (Finset.mem_map_of_mem scEmb (Finset.mem_univ (c, some k)))

/-- A cell, a round and a duty. -/
abbrev Tok : Type := GSem nD τ sig × ℕ × Du
/-- Device `p.1`'s signal to device `p.2`; -/
def barTok : Dev nD × Dev nD ↪ Tok := ⟨fun p => (barCell p.2, 0, (p.1, 0)), fun _ _ h =>
  Prod.ext (congrArg (fun t : Tok => t.2.2.1) h) (congrArg (fun t : Tok => t.1.1.1) h)⟩
/-- the end of the copy from a slot, at its source; -/
def sendTok : Dev nD × Fin 12 ↪ Tok := ⟨fun p => (sendCell p.1 p.2, 0, (0, 0)), fun _ _ h =>
  Prod.ext (congrArg (fun t : Tok => t.1.1.1) h) (Option.some.inj (osem_inj (congrArg (fun t : Tok => t.1.2) h)))⟩
/-- and at its destination. -/
def recvTok : Dev nD × Fin 12 ↪ Tok := ⟨fun p => (recvCell (slotDest e p.1 p.2), 0, (p.1, p.2)), fun _ _ h =>
  Prod.ext (congrArg (fun t : Tok => t.2.2.1) h) (congrArg (fun t : Tok => t.2.2.2) h)⟩
/-- Every token. -/
def toks : Finset Tok := Finset.univ.map barTok ∪ (Finset.univ.map sendTok ∪ Finset.univ.map (recvTok e))

theorem disjoint_late : Disjoint (Finset.univ.map sendTok) (Finset.univ.map (recvTok e)) := by
  rw [Finset.disjoint_left]
  intro g h₁ h₂
  obtain ⟨p, -, rfl⟩ := Finset.mem_map.mp h₁
  obtain ⟨q, -, h⟩ := Finset.mem_map.mp h₂
  have : osem none = osem (some p.2) := congrArg (fun t : Tok => t.1.2) h
  exact Option.some_ne_none _ (osem_inj this).symm

theorem disjoint_early : Disjoint (Finset.univ.map barTok) (Finset.univ.map sendTok ∪ Finset.univ.map (recvTok e)) := by
  rw [Finset.disjoint_left]
  intro g h₁ h₂
  obtain ⟨p, -, rfl⟩ := Finset.mem_map.mp h₁
  rcases Finset.mem_union.mp h₂ with h₂ | h₂
  · obtain ⟨q, -, h⟩ := Finset.mem_map.mp h₂
    exact osem_ne_bar (some q.2) (congrArg (fun t : Tok => t.1.2) h)
  · obtain ⟨q, -, h⟩ := Finset.mem_map.mp h₂
    exact osem_ne_bar none (congrArg (fun t : Tok => t.1.2) h)

theorem sep_option (Φ : Option (Fin 12) → sProp 𝕄) : bigSep Finset.univ Φ = iprop(Φ none ∗ bigSep Finset.univ fun k : Fin 12 => Φ (some k)) := by
  rw [show (Finset.univ : Finset (Option (Fin 12))) = insert none (Finset.univ.map Function.Embedding.some) from by decide,
    BI.bigSep_insert (by decide), BI.bigSep_map]
  rfl

/-- The tokens each device is dealt. -/
theorem toks_eq : bigSep (toks e) (fun x => (dutyTok ER x.1 x.2.1 x.2.2 : sProp 𝕄))
    = bigSep Finset.univ fun c : Dev nD => iprop((bigSep Finset.univ fun N : Dev nD => dutyTok ER (barCell N) 0 (c, 0))
      ∗ bigSep Finset.univ fun k : Fin 12 => iprop(dutyTok ER (sendCell c k) 0 (0, 0) ∗ dutyTok ER (recvCell (slotDest e c k)) 0 (c, k))) := by
  have h1 : bigSep (Finset.univ.map barTok) (fun x => (dutyTok ER x.1 x.2.1 x.2.2 : sProp 𝕄))
      = bigSep Finset.univ fun c : Dev nD => bigSep Finset.univ fun N : Dev nD => dutyTok ER (barCell N) 0 (c, 0) := by
    rw [bigSep_map, bigSep_univ_prod]; rfl
  have h2 : bigSep (Finset.univ.map sendTok) (fun x => (dutyTok ER x.1 x.2.1 x.2.2 : sProp 𝕄))
      = bigSep Finset.univ fun c : Dev nD => bigSep Finset.univ fun k : Fin 12 => dutyTok ER (sendCell c k) 0 (0, 0) := by
    rw [bigSep_map, bigSep_univ_prod]; rfl
  have h3 : bigSep (Finset.univ.map (recvTok e)) (fun x => (dutyTok ER x.1 x.2.1 x.2.2 : sProp 𝕄))
      = bigSep Finset.univ fun c : Dev nD => bigSep Finset.univ fun k : Fin 12 => dutyTok ER (recvCell (slotDest e c k)) 0 (c, k) := by
    rw [bigSep_map, bigSep_univ_prod]; rfl
  unfold toks
  rw [bigSep_union (disjoint_early e), bigSep_union (disjoint_late e), h1, h2, h3]
  simp only [bigSep_sep']
  rfl

/-- The rights to open, by device. -/
theorem opens_eq : bigSep scCells (fun g => (openTok ER g : sProp 𝕄)) = bigSep Finset.univ fun c : Dev nD => opens c := by
  rw [bigSep_map, bigSep_univ_prod]
  exact bigSep_congr fun c _ => by
    unfold opens
    rw [sep_option]
    rfl

/-- The invariants and records every device may consult. -/
theorem inv_intro (Y : Dev nD → Rows) (κ : GSem nD τ sig → ℕ) :
    (iprop((bigSep (barCells ∪ scCells) fun g => cellInv ER (moe e Y) (κ g) g) ∗ (bigSep barCells fun g => reached ER g 0) ∗ levAts L lv) : sProp 𝕄) ⊢ inv e Y κ := by
  unfold inv
  iintro ⟨#HI, #HR, #HL⟩
  isplitr
  · iapply (BI.bigSep_intro_persistent (R := bigSep (barCells ∪ scCells) fun g => (cellInv ER (moe e Y) (κ g) g : sProp 𝕄)) fun d _ => bigSep_elim (bar_mem d)); iexact HI
  isplitr
  · iapply (BI.bigSep_intro_persistent (R := bigSep (barCells ∪ scCells) fun g => (cellInv ER (moe e Y) (κ g) g : sProp 𝕄)) fun d _ => bigSep_elim (recv_mem d)); iexact HI
  isplitr
  · iapply (BI.bigSep_intro_persistent (R := bigSep (barCells ∪ scCells) fun g => (cellInv ER (moe e Y) (κ g) g : sProp 𝕄)) fun p _ => bigSep_elim (send_mem p.1 p.2)); iexact HI
  isplitr
  · iapply (BI.bigSep_intro_persistent (R := bigSep barCells fun g => (reached ER g 0 : sProp 𝕄))
      fun d _ => bigSep_elim (Finset.mem_map_of_mem barEmb (Finset.mem_univ d))); iexact HR
  iexact HL

/-! ## The launch credit -/

/-- What the others owe to device `c`'s cells. -/
def due (c : Dev nD) : CellTallies nD τ sig ℕ := tallyAt (barCell c) 19 32 + tallyAt (recvCell c) 20 ((arrivals e c).card * A)

theorem tally_sum {ι : Type} [DecidableEq ι] (s : Finset ι) (g : GSem nD τ sig) (i a : ℕ) :
    (∑ _x ∈ s, (tallyAt g i a : CellTallies nD τ sig ℕ)) = tallyAt g i (s.card * a) := by
  induction s using Finset.induction_on with
  | empty => rw [Finset.sum_empty, Finset.card_empty, Nat.zero_mul, tallyAt_zero]
  | insert x s hx ih => rw [Finset.sum_insert hx, ih, tallyAt_add, Finset.card_insert_of_notMem hx, Nat.succ_mul, Nat.add_comm]

theorem dues_sum : (∑ d, dues e d) = ∑ d, due e d := by
  have hsend : (∑ d : Dev nD, ∑ k : Fin 12, dueSend e d k) = ∑ D : Dev nD, (tallyAt (recvCell D) 20 ((arrivals e D).card * A) : CellTallies nD τ sig ℕ) := by
    have h1 (D : Dev nD) : (tallyAt (recvCell D) 20 ((arrivals e D).card * A) : CellTallies nD τ sig ℕ)
        = ∑ p : Fin 32 × Fin 12, if p ∈ arrivals e D then tallyAt (recvCell D) 20 A else 0 := by
      rw [← Finset.sum_filter, Finset.filter_mem_eq_inter, Finset.univ_inter, tally_sum]
    rw [← Fintype.sum_prod_type' fun (d : Fin 32) (k : Fin 12) => dueSend e d k, Finset.sum_congr rfl fun D _ => h1 D,
      Finset.sum_comm (s := (Finset.univ : Finset (Dev nD))) (t := (Finset.univ : Finset (Fin 32 × Fin 12)))]
    refine Finset.sum_congr rfl fun p _ => ?_
    unfold dueSend
    by_cases h : Remote e p.1 p.2
    · rw [if_pos h, Finset.sum_eq_single (slotDest e p.1 p.2)]
      · rw [if_pos ((arrivals_iff e _ p.1 p.2).mpr ⟨h, rfl⟩)]
      · intro D _ hD; rw [if_neg fun hp => hD ((arrivals_iff e D p.1 p.2).mp hp).2.symm]
      · intro hn; exact absurd (Finset.mem_univ _) hn
    · rw [if_neg h]
      exact (Finset.sum_eq_zero fun D _ => if_neg fun hp => h ((arrivals_iff e D p.1 p.2).mp hp).1).symm
  have hbar : (∑ _d : Dev nD, ∑ N : Dev nD, dueBar N) = ∑ N : Dev nD, (tallyAt (barCell N) 19 32 : CellTallies nD τ sig ℕ) := by
    rw [Finset.sum_comm]
    refine Finset.sum_congr rfl fun N _ => ?_
    unfold dueBar
    rw [tally_sum, Finset.card_univ, Fintype.card_fin]
    rfl
  unfold dues owed due
  rw [Finset.sum_add_distrib, Finset.sum_add_distrib, ← hsend, ← hbar]
  simp only [from_zero]

theorem due_own (d : Dev nD) (g : GSem nD τ sig) (h : due e d g ≠ 0) : g.1 = (d : Thread nD τ) := by
  by_contra hg
  refine h ?_
  unfold due
  rw [Pi.add_apply, tallyAt_ne_cell (fun h => hg (congrArg Prod.fst h)), tallyAt_ne_cell (fun h => hg (congrArg Prod.fst h)), add_zero]

theorem creds (c : Dev nD) : (Pipeline.launchCred (dues e) c : sProp 𝕄)
    ⊢ iprop(cred (tallyAt (barCell c) 19 32) ∗ cred (tallyAt (recvCell c) 20 ((arrivals e c).card * A))) := by
  rw [Pipeline.launchCred_of_sum (dues e) (due e) (dues_sum e) (due_own e) c]
  exact (cred_add _ _).1

end Cells

end Cert.Moe
-- ==== Proof.Launch.lean ====
module

public import proofs.«01_k».proof.Proof.Funding

/-! The run of `@main`: every device ends with its arguments as they were, the result the routing says, and every counter at
zero. -/

@[expose] public section
set_option maxRecDepth 8192
noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig ℕ (Elt Ideal) ℕ UU ℕ

variable (m : (ℓ : Loc nD τ sig) → Buf (Elt Ideal) ℓ) (ρ : Dev nD → PrngReg)

/-- The gather's launch element, -/
abbrev uG : Sites.UC := initOf ag0.cells (AllGather.Dat.once (U := UU) ag0 (V₀ m) ag0_cores).launchToks
/-- the kernel's, -/
abbrev uK : RM := launchOf barCells scCells (toks (route m))
/-- and the whole. -/
def u₀ : UU :=
  (initOf (Pipeline.cells (Pipeline.pin (pcfgs (F := Ideal)) adm) cellOf_inj) (Pipeline.launchToks (Pipeline.pin (pcfgs (F := Ideal)) adm) cellOf_inj), (uG m, uK m))

/-- The two protocols' elements. -/
def elements : sProp 𝕄 := iprop(BI.own (EC (uG m)) ∗ BI.own (ER (uK m)))
/-- They wait on device 0 until the cells are funded. -/
def parked (c : Dev nD) : sProp 𝕄 := if c = 0 then elements m else iprop(emp)
theorem parked_eq : bigSep Finset.univ (parked m) = elements m := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What the devices owe at launch. -/
abbrev O₀ (c : Dev nD) : CellTallies nD τ sig ℕ := dues (route m) c + ag0.execDue Sites.ι0 c

theorem bufs_eq (c : Dev nD) : (unscopedBufs c (fun b => m ((c : Thread nD τ).loc b)) : sProp 𝕄)
    = iprop(pl₀ m c main_arg0 ∗ pl₀ m c main_arg1 ∗ pl₀ m c main_arg2 ∗ pl₀ m c main_arg3 ∗ pl₀ m c main_v1 ∗ pl₀ m c main_v2) := by
  unfold unscopedBufs
  rw [bigSep_eq_bigSepL_of_eq [main_arg0, main_arg1, main_arg2, main_arg3, main_v1, main_v2] (by decide) (by decide)]
  rfl

/-- The gather's counters at zero on a device, and its credit there. -/
def gatherCells (c : Dev nD) : sProp 𝕄 :=
  iprop((semVal (ag0.barrierCell c) 0 ∗ semVal (ag0.sendCell c) 0 ∗ semVal (ag0.copyCell c) 0
      ∗ bigSep Finset.univ fun cp : AllGather.Dir × AllGather.Parity × Bool => semVal (ag0.recvCell c cp.1 cp.2.1 cp.2.2) 0)
    ∗ Pipeline.launchCred (fun d => ag0.execDue Sites.ι0 d) c)
/-- What is neither protocol's. -/
def bundle (c : Dev nD) : sProp 𝕄 :=
  iprop((pl₀ m c main_arg0 ∗ pl₀ m c main_arg1 ∗ pl₀ m c main_arg2 ∗ pl₀ m c main_arg3 ∗ pl₀ m c main_v1 ∗ pl₀ m c main_v2)
    ∗ (cred (tallyAt (barCell c) 19 32) ∗ cred (tallyAt (recvCell c) 20 ((arrivals (route m) c).card * A))) ∗ owes (c : Thread nD τ) (O₀ m c) ∅)

theorem core_split (c : Dev nD) : iprop(unscopedBufs c (fun b => m ((c : Thread nD τ).loc b)) ∗ unscopedSems0 c
      ∗ owes (c : Thread nD τ) (O₀ m c) ∅ ∗ Pipeline.launchCred (O₀ m) c ∗ prngReg c (ρ c) ∗ parked m c)
    ⊢ (iprop(gatherCells c ∗ semVal (barCell c) 0 ∗ parked m c ∗ bundle m c) : sProp 𝕄) := by
  rw [bufs_eq, Sites.sems_eq, Pipeline.launchCred_add (dues (route m)) (fun d => ag0.execDue Sites.ι0 d) c]
  unfold gatherCells bundle
  rw [Sites.recvs_eq0]
  iintro ⟨HB, ⟨H0, H1, H2, H3, H4, H5, H6, H7, H8, H9, H10, Hb⟩, HO, ⟨HC, HG⟩, -, HP⟩
  isplitl [H0 H1 H2 H3 H4 H5 H6 H7 H8 H9 H10 HG]
  · isplitr [HG]
    · iframe
    iexact HG
  isplitl [Hb]; · iexact Hb
  isplitl [HP]; · iexact HP
  isplitl [HB]; · iexact HB
  isplitl [HC]; · iapply (creds (route m) c); iexact HC
  iexact HO

/-- What stays with a device of the kernel's protocol. -/
def linear (c : Dev nD) : sProp 𝕄 :=
  iprop(atPos ER (barCell c) 0 ∅ 0 ∗ opens c ∗ ((bigSep Finset.univ fun N : Dev nD => dutyTok ER (barCell N) 0 (c, 0))
      ∗ bigSep Finset.univ fun k : Fin 12 => iprop(dutyTok ER (sendCell c k) 0 (0, 0) ∗ dutyTok ER (recvCell (slotDest (route m) c k)) 0 (c, k))))

theorem start_intro (κ : GSem nD τ sig → ℕ) (c : Dev nD) :
    (iprop(inv (route m) (products m) κ ∗ (linear m c ∗ (AllGather.Dat.once (U := UU) ag0 (V₀ m) ag0_cores).rides (Sites.E0 EC) Sites.ι0 c ∗ bundle m c)) : sProp 𝕄)
      ⊢ (segG m).pre c := by
  dsimp only [segG, collSeg0, AllGather.hostSegHeld₀]
  unfold rest mine rights linear bundle
  rw [AllGather.Cfg.held_siteRefs]
  iintro ⟨#HI, ⟨HA, HO, HT, HS⟩, HR, ⟨H0, H1, H2, H3, Hv1, Hv2⟩, ⟨HC, HD⟩, HW⟩
  ihave #Hi := (show (AllGather.Dat.once ag0 (V₀ m) ag0_cores).rides (Sites.E0 EC) Sites.ι0 c ⊢ gatherInvs m from by
    unfold AllGather.Dat.rides; iintro ⟨Hi, -⟩; iexact Hi) $$ HR
  isplitl [Hv1 H2]
  · isplitl [Hv1]; · iexact Hv1
    iexact H2
  isplitl [HR]; · iexact HR
  isplitl [HW]; · iexists ∅; iexact HW
  isplitl [H0]; · iexact H0
  isplitl [H1]; · iexact H1
  isplitl [H3]; · iexact H3
  isplitl [Hv2]; · iexact Hv2
  isplitr; · iexact Hi
  iexists κ
  isplitr; · iexact HI
  isplitr [HO]
  · isplitl [HT]; · iexact HT
    isplitl [HC]; · iexact HC
    isplitl [HA]; · iexact HA
    isplitl [HD]; · iexact HD
    iexact HS
  iexact HO

theorem init :
    iprop((bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked m c)) ∗ levAts L lv)
      ⊢ (|={Set.univ}=> bigSep Finset.univ (segG m).pre : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, #HL⟩
  ihave H' := (show (bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked m c))
      ⊢ (bigSep Finset.univ fun c : Dev nD => iprop(gatherCells c ∗ semVal (barCell c) 0 ∗ parked m c ∗ bundle m c) : sProp 𝕄) from
    bigSep_mono fun c _ => core_split m ρ c) $$ H
  ihave H2 := (Entails.of_eq (bigSep_sep' _ _ _)) $$ H'; icases H2 with ⟨Hg, H3⟩
  ihave H4 := (Entails.of_eq (bigSep_sep' _ _ _)) $$ H3; icases H4 with ⟨Hv, H5⟩
  ihave H6 := (Entails.of_eq (bigSep_sep' _ _ _)) $$ H5; icases H6 with ⟨HP, HB⟩
  ihave HP := (Entails.of_eq (parked_eq m)) $$ HP
  unfold elements
  icases HP with ⟨HuG, HuK⟩
  imod (AllGather.Dat.fund_rides (AllGather.Dat.once (U := UU) ag0 (V₀ m) ag0_cores) (Sites.E0 EC) Sites.ι0 (Es := Set.univ)) $$ [Hg HuG] with Hrides
  · isplitl [Hg]; · unfold gatherCells; iexact Hg
    iexact HuG
  imod (Rounds.fund_launch ER (moe (route m) (products m)) disjoint_cells (fun g _ h => h) (toks (route m))) $$ [Hv HuK] with ⟨%κ, -, #Hinv, #Hr, Hat, Hopen, Htok⟩
  · isplitl [Hv]
    · iapply hv $$ Hv
    · iexact HuK
  imodintro
  iapply (bigSep_with_persistent (R := inv (route m) (products m) κ)
    (Φ := fun c => iprop(linear m c ∗ (AllGather.Dat.once (U := UU) ag0 (V₀ m) ag0_cores).rides (Sites.E0 EC) Sites.ι0 c ∗ bundle m c)) fun c _ => start_intro m κ c)
  isplitr
  · iapply (inv_intro (route m) (products m) κ)
    isplitr; · iexact Hinv
    isplitr; · iexact Hr
    iexact HL
  iapply (Entails.of_eq (bigSep_sep' _ _ _).symm)
  isplitr [Hrides HB]
  · unfold linear
    iapply (Entails.of_eq (bigSep_sep' _ _ _).symm); isplitl [Hat]; · iapply hat $$ Hat
    iapply (Entails.of_eq (bigSep_sep' _ _ _).symm); isplitl [Hopen]; · iapply (Entails.of_eq opens_eq) $$ Hopen
    iapply (Entails.of_eq (toks_eq (route m))) $$ Htok
  iapply (Entails.of_eq (bigSep_sep' _ _ _).symm); isplitl [Hrides]; · iexact Hrides
  iexact HB

/-- The unscoped semaphores: the gather's and the barrier. -/
theorem unscoped : ∀ sm : SemLoc sig, sm.isScoped .tc = false → sm = .reg ag0_barrier ∨ sm = .dma ag0_send ∨ sm = .dma ag0_copy
    ∨ sm = .dma ag0_recv_cw_0_ring ∨ sm = .dma ag0_recv_cw_0_partner ∨ sm = .dma ag0_recv_cw_1_ring ∨ sm = .dma ag0_recv_cw_1_partner
    ∨ sm = .dma ag0_recv_ccw_0_ring ∨ sm = .dma ag0_recv_ccw_0_partner ∨ sm = .dma ag0_recv_ccw_1_ring ∨ sm = .dma ag0_recv_ccw_1_partner
    ∨ sm = .reg barrier0 := by decide

theorem no_levels (g : GSem nD τ sig) (h : g.1.2 ≠ .tc) : L g = ∅ := if_neg h

/-- What a final memory holds on a device. -/
def Ends (c : Dev nD) (s : MemSt nD τ sig (Elt Ideal)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ s.mem ((c : Thread nD τ).loc main_v2) = G (route m) (products m) c

set_option backward.isDefEq.respectTransparency.types false in
/-- From any memory whose routing is in range, with zero counters, `@main` ends on every device as the plan says, every counter
    at zero. -/
theorem run_main (he : ∀ n, route m n < 64) : θ_run defs (onTc (τ := τ) (main (F := Ideal))) (s₀ m ρ)
    (fun r => (∀ c : Dev nD, Ends m c r.2) ∧ r.2.sem = fun _ => 0) :=
  Pipeline.θ_run_regions_kit_sems (pcfgs (F := Ideal)) adm (pdats m) 0 cellOf_inj EP defs₀ 𝒱₀ L lv m ρ main (segs m he)
    (fun c Q => by rw [main_eq m he c])
    (by simp only [segs, Pipeline.Seg.pipes_host, Pipeline.Seg.pipes_region, Pipeline.Seg.pipes_nil]; decide)
    (O₀ := O₀ m) (hL := no_levels) (G := parked m) (u₀ := u₀ m)
    (hu₀ := by
      unfold u₀
      iintro Hu
      ihave H := (ownU_pair _ _) $$ Hu
      icases H with ⟨HP, HX⟩
      ihave HX := (own_pair_emb (embR : Emb (Sites.UC × RM) 𝕄) (uG m) (uK m)) $$ HX
      imodintro
      isplitl [HP]; · iexact HP
      rw [parked_eq]
      unfold elements
      iexact HX)
    (T₀ := (segG m).pre) (Tₙ := Tₙ m)
    (hch := ⟨fun c => .rfl, fun c => .rfl, fun c => .rfl⟩)
    (hinit := init m ρ)
    (QY := fun c s => Ends m c s ∧ (s.sem (ag0.barrierCell c) = 0 ∧ s.sem (ag0.sendCell c) = 0 ∧ s.sem (ag0.copyCell c) = 0
        ∧ ∀ (d : AllGather.Dir) (p : AllGather.Parity) (b : Bool), s.sem (ag0.recvCell c d p b) = 0) ∧ s.sem (barCell c) = 0)
    (hfin := fun c s' => by
      unfold Tₙ leave
      iintro ⟨⟨⟨H0, H1, H2, H3⟩, Hv, Hb, He⟩, HSI⟩
      icombine HSI H0 gives %h0
      icombine HSI H1 gives %h1
      icombine HSI H2 gives %h2
      icombine HSI H3 gives %h3
      icombine HSI Hv gives %hv
      icombine HSI Hb gives %hb
      imod (AllGather.Dat.ghostAfter_read (Sites.E0 EC) ag0_cores (V₀ m) c s') $$ [He HSI] with ⟨%hz, HSI⟩
      · isplitl [He] <;> iassumption
      imodintro
      isplitr
      · ipureintro
        exact ⟨⟨⟨Buf.eq_of_forall_mem_univ h0, Buf.eq_of_forall_mem_univ h1, Buf.eq_of_forall_mem_univ h2, Buf.eq_of_forall_mem_univ h3⟩,
          Buf.eq_of_forall_mem_univ hv⟩, hz, by simpa using hb⟩
      iexact HSI)
    (hQ := fun s h hs => ⟨fun c => (h c).1, sem_eq_zero hs fun c sm hsm => by
      obtain ⟨-, hz, hb⟩ := h c
      rcases unscoped sm hsm with rfl | rfl | rfl | rfl | rfl | rfl | rfl | rfl | rfl | rfl | rfl | rfl
      exacts [hz.1, hz.2.1, hz.2.2.1, hz.2.2.2 .cw 0 false, hz.2.2.2 .cw 0 true, hz.2.2.2 .cw 1 false, hz.2.2.2 .cw 1 true,
        hz.2.2.2 .ccw 0 false, hz.2.2.2 .ccw 0 true, hz.2.2.2 .ccw 1 false, hz.2.2.2 .ccw 1 true, hb]⟩)

end Cert.Moe
-- ==== Proof.Equation.lean ====
module

public import proofs.«01_k».proof.Proof.Launch
public import proofs.«01_k».proof.Proof.Reference
public import proofs.«01_k».proof.Proof.Gen.Pre_routed_KernelIdeal
public import Idealize.ShloMosaic.Lib.ReduceAll
public import Idealize.ShloMosaic.Lib.Layout

/-! What the kernel leaves on a device is that device's block of the reference's result. -/

@[expose] public section
set_option maxRecDepth 8192
noncomputable section

namespace Cert.Moe

open Cert.KernelIdeal Cert.KernelIdeal.Gen
open Idealize.ShloMosaic Idealize.ShloMosaic.TcCoe

/-- A word between 0 and 63, both compares signed. -/
theorem word_range (b : BitVec 32) (h : IntOp.andi (IntOp.cmpi .sge b 0#32) (IntOp.cmpi .slt b 64#32) = 1#1) : b.toNat < 64 := by
  have h1 : BitVec.ofBool ((0#32 : BitVec 32).sle b) &&& BitVec.ofBool (b.slt 64#32) = 1#1 := h
  have h2 : (0#32 : BitVec 32).sle b = true ∧ b.slt 64#32 = true := by
    cases h3 : (0#32 : BitVec 32).sle b <;> cases h4 : b.slt 64#32 <;> simp [h3, h4] at h1 ⊢
  have h3 := BitVec.sle_iff_toInt_le.mp h2.1
  have h4 := BitVec.slt_iff_toInt_lt.mp h2.2
  have h5 : (64#32 : BitVec 32).toInt = 64 := by decide
  have h6 : (0#32 : BitVec 32).toInt = 0 := by decide
  rw [h6, BitVec.toInt_eq_toNat_cond] at h3
  rw [h5, BitVec.toInt_eq_toNat_cond] at h4
  split at h3 <;> split at h4 <;> omega

section Kernel
variable (m : (ℓ : Loc nD τ sig) → Buf (Elt Ideal) ℓ)

/-- The precondition puts every row's expert in range. -/
theorem routed_range (h : Cert.Pre_KernelIdeal (hPre_routed_KernelIdeal := Cert.Pre_routed_KernelIdeal.Gen.facts) m) (n : Fin 512) :
    route m n < 64 := by
  have hd := h ⟨n.val / 16, by show _ < 32; omega⟩
  have h0 := congrFun hd ix0
  unfold Cert.Pre_routed_KernelIdeal.fn at h0
  haveI : Subsingleton Cert.Pre_routed_KernelIdeal.S_.Idx := ⟨fun a b => funext fun i => i.elim0⟩
  have h1 := Host.reduce_andi_all _ _ _ _ _ h0 (ix2 ⟨n.val % 16, Nat.mod_lt _ (by decide)⟩ 0)
  exact word_range _ h1

variable (x : S512x256.Idx → EReal) (v : S512x1.Idx → BitVec 32) (w : (⟨3, ![64, 256, 512]⟩ : Shape).Idx → EReal)

/-- The gathered column is the whole routing array. -/
theorem column_eq (h : ∀ c : Dev nD, words m c = Layout.block ⟨2, ![16, 1]⟩ ⟨2, ![512, 1]⟩ 0 32 c v) : column m = v := by
  funext i
  unfold column
  rw [h, Layout.block_apply]
  congr 1
  have h0 : (i 0).val < 512 := (i 0).isLt
  funext a
  apply Fin.ext
  match a with
  | 0 => show (i 0).val / 16 * 16 + (i 0).val % 16 = (i 0).val; omega
  | 1 => have h1 : (i 1).val < 1 := (i 1).isLt
         show 0 = (i 1).val; omega

/-- An expert's matrix on its device. -/
theorem weights_eq (h : ∀ c : Dev nD, weights m c = Layout.block ⟨3, ![2, 256, 512]⟩ ⟨3, ![64, 256, 512]⟩ 0 32 c w)
    (c : Dev nD) (a : Fin 2) (d : Fin 256) (j : Fin 512) (e : Fin 64) (he : e.val = 2 * c.val + a.val) :
    half (weights m c) a (ix3 0 d j) = w (ix3 e d j) := by
  unfold half
  rw [h, Layout.block_apply]
  congr 1
  funext b
  apply Fin.ext
  match b with
  | 0 => show c.val * 2 + a.val = e.val; omega
  | 1 => rfl
  | 2 => rfl

/-- The row a slot's product goes to. -/
theorem products_row (he : ∀ n, route m n < 64) (c : Dev nD) (k : Fin 12) (n : Fin 512) (hn : slotRow (route m) c k = some n) (j : Fin 512) :
    products m c (ix2 (slotY k) j) = ∑ d : Fin 256, tokens m c (ix2 n d) * half (weights m c) ⟨k.val / 6, by omega⟩ (ix3 0 d j) := by
  unfold products prods
  have hk := k.isLt
  by_cases h : k.val < 6
  · have h8 : ((ix2 (slotY k) j : S16x512.Idx) 0).val < 8 := by show 8 * (k.val / 6) + k.val % 6 < 8; omega
    rw [dif_pos h8]
    have hi : (⟨((ix2 (slotY k) j : S16x512.Idx) 0).val, h8⟩ : Fin 8) = ⟨k.val % 6, by omega⟩ :=
      Fin.ext (by show 8 * (k.val / 6) + k.val % 6 = k.val % 6; omega)
    have ha : (⟨k.val / 6, by omega⟩ : Fin 2) = 0 := Fin.ext (by show k.val / 6 = 0; omega)
    rw [hi, ha]
    exact lower_apply (column m) he c k h (tokens m c) (half (weights m c) 0) n hn j
  · have h8 : ¬((ix2 (slotY k) j : S16x512.Idx) 0).val < 8 := by show ¬8 * (k.val / 6) + k.val % 6 < 8; omega
    rw [dif_neg h8]
    have hi : ∀ hp, (⟨((ix2 (slotY k) j : S16x512.Idx) 0).val - 8, hp⟩ : Fin 8) = ⟨k.val % 6, by omega⟩ := fun _ =>
      Fin.ext (by show 8 * (k.val / 6) + k.val % 6 - 8 = k.val % 6; omega)
    have ha : (⟨k.val / 6, by omega⟩ : Fin 2) = 1 := Fin.ext (by show k.val / 6 = 1; omega)
    rw [hi, ha]
    exact upper_apply (column m) he c k (by omega) (tokens m c) (half (weights m c) 1) n hn j

/-- The kernel's result at a row and a column of a device is the reference's at that row of the whole. -/
theorem result_row (he : ∀ n, route m n < 64) (hx : ∀ c : Dev nD, tokens m c = x)
    (hv : ∀ c : Dev nD, words m c = Layout.block ⟨2, ![16, 1]⟩ ⟨2, ![512, 1]⟩ 0 32 c v)
    (hw : ∀ c : Dev nD, weights m c = Layout.block ⟨3, ![2, 256, 512]⟩ ⟨3, ![64, 256, 512]⟩ 0 32 c w) (c : Dev nD) (r : Fin 16) (j : Fin 512) :
    G (route m) (products m) c (ix2 r j) = result x v w (rowOf c r) j := by
  have hev : expert v = route m := by rw [← column_eq m v hv]
  unfold result
  by_cases hk : kept (route m) (rowOf c r)
  · obtain ⟨s, k, hat⟩ := exists_At he hk
    have hs := slotRow_some.mpr hat
    have hG := G_slot (route m) (products m) hs j
    rw [dest_rowOf, drow_rowOf] at hG
    rw [hG, products_row m he s k _ hs, hx s, dif_pos ⟨by rw [hev]; exact hk, by rw [hev]; exact he _⟩]
    refine Finset.sum_congr rfl fun d _ => ?_
    rw [weights_eq m w hw s _ d j ⟨expert v (rowOf c r), by rw [hev]; exact he _⟩ (by show expert v _ = _; rw [hev]; exact hat.1)]
  · rw [G_lost (route m) (products m) he hk, dif_neg]
    rintro ⟨h, -⟩
    rw [hev] at h
    exact hk h

/-- The kernel's result on a device is its block of the reference's. -/
theorem result_block (he : ∀ n, route m n < 64) (hx : ∀ c : Dev nD, tokens m c = x)
    (hv : ∀ c : Dev nD, words m c = Layout.block ⟨2, ![16, 1]⟩ ⟨2, ![512, 1]⟩ 0 32 c v)
    (hw : ∀ c : Dev nD, weights m c = Layout.block ⟨3, ![2, 256, 512]⟩ ⟨3, ![64, 256, 512]⟩ 0 32 c w) (c : Dev nD) :
    G (route m) (products m) c = Layout.block ⟨2, ![16, 512]⟩ ⟨2, ![512, 512]⟩ 0 32 c (resultBuf x v w) := by
  have hb (t : Layout.Tiles ⟨2, ![16, 512]⟩ ⟨2, ![512, 512]⟩ 0 32) (r : Fin 16) (j : Fin 512) :
      G (route m) (products m) c (ix2 r j) = resultBuf x v w (t.idx c (ix2 r j : S16x512.Idx)) := by
    rw [result_row m x v w he hx hv hw c r j]
    unfold resultBuf
    have h1 : t.idx c (ix2 r j : S16x512.Idx) 0 = rowOf c r := Fin.ext (by show c.val * 16 + r.val = 16 * c.val + r.val; omega)
    have h2 : t.idx c (ix2 r j : S16x512.Idx) 1 = j := Fin.ext rfl
    rw [h1, h2]
  funext i
  have hi : i = (ix2 (i 0) (i 1) : S16x512.Idx) := by
    funext a
    match a with
    | 0 => rfl
    | 1 => rfl
  rw [Layout.block_apply, hi]
  exact hb _ (i 0) (i 1)

end Kernel

/-- The kernel's frame, and its quiescence. -/
theorem frame_kernel : Cert.quiescent_KernelIdeal (hKernelIdeal := Cert.KernelIdeal.Gen.facts) (hPre_routed_KernelIdeal := Cert.Pre_routed_KernelIdeal.Gen.facts) := by
  intro m g hp
  exact (θ_run (Cert.KernelIdeal.defs (F := Ideal)) _ _).mono (fun r h => ⟨fun c => (h.1 c).1, h.2⟩) (run_main m g (routed_range m hp))

/-- The kernel computes the reference's result. -/
theorem kernel_eq_reference : Cert.algebraic_KernelIdeal_ReferenceIdeal (hKernelIdeal := Cert.KernelIdeal.Gen.facts)
    (hReferenceIdeal := Cert.ReferenceIdeal.Gen.facts) (hPre_routed_KernelIdeal := Cert.Pre_routed_KernelIdeal.Gen.facts) := by
  intro m g m' g' hp hm
  have he := routed_range m hp
  refine ⟨_, (θ_run (Cert.KernelIdeal.defs (F := Ideal)) _ _).mono (fun r h c => ⟨(h.1 c).2.trans ?_, (h.1 c).1⟩) (run_main m g he),
    (θ_run (Cert.ReferenceIdeal.defs (F := Ideal)) _ _).mono (fun r h => h 0) (run_reference m' g')⟩
  exact result_block m _ _ _ he (fun c => (hm c).1) (fun c => (hm c).2.2.1) (fun c => (hm c).2.2.2) c

end Cert.Moe
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Reference
public import proofs.«01_k».proof.Proof.Equation

@[expose] public section

/-- The certificate: both programs' frames, and that the kernel's result is the reference's. -/
theorem Cert.Proof.claim : Cert.Claim :=
  ⟨Cert.KernelIdeal.Gen.facts, Cert.ReferenceIdeal.Gen.facts, Cert.Pre_routed_KernelIdeal.Gen.facts, Cert.Pre_routed_ReferenceIdeal.Gen.facts,
    Cert.Moe.frame_kernel, Cert.Moe.frame_reference, fun m g _ => Cert.Moe.frame_reference m g trivial, Cert.Moe.kernel_eq_reference⟩

end
